-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v12_0)) (v1 : (c : Dev Cert.Kernel.nD) → Buf (Elt Bits) ((c.tc : Thread Cert.Kernel.nD Cert.Kernel.τ).loc Cert.Kernel.main_v12_1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v12_0) = v0 c
          ∧ r.2.mem ((c.tc : Thread Cert.Kernel.nD Cert.Kernel.τ).loc Cert.Kernel.main_v12_1) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v17) = v0 c
          ∧ r.2.mem ((c.tc : Thread Cert.Reference.nD Cert.Reference.τ).loc Cert.Reference.main_v27) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v71)) (v1 : (c : Dev Cert.Kernel2Ideal.nD) → Buf (Elt Ideal) ((c.tc : Thread Cert.Kernel2Ideal.nD Cert.Kernel2Ideal.τ).loc Cert.Kernel2Ideal.main_v78)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v71) = v0 c
          ∧ r.2.mem ((c.tc : Thread Cert.Kernel2Ideal.nD Cert.Kernel2Ideal.τ).loc Cert.Kernel2Ideal.main_v78) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_v59) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hPre_in_range : Cert.Pre_in_range.Facts) (hPre_routed : Cert.Pre_routed.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
    ∧ preserves_Kernel2_Kernel2Ideal
    ∧ algebraic_Kernel2Ideal_Reference2Ideal (hKernel2Ideal := hKernel2Ideal) (hReference2Ideal := hReference2Ideal) (hPre_routed := hPre_routed)
-- ==== Pre_in_range.lean ====
abbrev S16384 : Shape := ⟨1, ![16384]⟩
abbrev S32x128 : Shape := ⟨2, ![32, 128]⟩
abbrev S32x1 : Shape := ⟨2, ![32, 1]⟩
abbrev S32 : Shape := ⟨1, ![32]⟩
abbrev S_ : Shape := ⟨0, ![]⟩
abbrev S16384x1 : Shape := ⟨2, ![16384, 1]⟩

class Facts : Prop where
  slices_S32x128_S32x1_0_0 : S32x128.Slices ![0, 0] S32x1
  shapeCasts_S32x1_S32 : S32x1.ShapeCasts S32
  bcast_S_S32 : S_.BroadcastsInDim S32 (![] : Fin 0 → Fin S32.rank)
  bcast_S_S_ : S_.BroadcastsInDim S_ (![] : Fin 0 → Fin S_.rank)
  reduceWindows_S32_S32_w32s1p31_0 : S32.ReduceWindows (![32] : Fin 1 → Nat) ![1] ![31] ![0] S32
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  reducesTo_S16384_S_d0 : S16384.ReducesTo [0] S_
  gather_S32_S16384x1_S16384_n_0_n_n_0_1_1_wf : GatherDims.WF S32 S16384x1 S16384 [] [0] [] [0] [] 1 ![1]

variable [Facts]

def gather_S32_S16384x1_S16384_n_0_n_n_0_1_1 : GatherDims S32 S16384x1 S16384 where
  offsetDims := []
  collapsedSliceDims := [0]
  operandBatchingDims := []
  startIndicesBatchingDims := []
  startIndexMap := [0]
  indexVectorDim := 1
  sliceSizes := ![1]
  wf := gather_S32_S16384x1_S16384_n_0_n_n_0_1_1_wf
def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_cumsum_0 {F : FTy → Type} [FloatOps F] (arg0 : IVec S32 32) : IVec S32 32 :=
  let c : IVec S_ 32 := constantI S_ 32 0#32
  let v0 : IVec S_ 32 := broadcastInDim S_ ![] bcast_S_S_ c
  let v1 : IVec S32 32 := (fun x v => Host.reduceWindow IntOp.addi ![32] ![1] ![31] ![0] x v reduceWindows_S32_S32_w32s1p31_0 h_S_) arg0 v0
  v1

def fn_cumsum {F : FTy → Type} [FloatOps F] (arg0 : IVec S32 32) : IVec S32 32 :=
  let v0 : IVec S32 32 := fn_cumsum_0 (F := F) arg0
  v0

def fn_clip {F : FTy → Type} [FloatOps F] (arg0 : IVec S16384 32) (arg1 : IVec S_ 32) (arg2 : IVec S_ 32) : IVec S16384 32 :=
  let v0 : IVec S_ 32 := id arg1
  let v1 : IVec S16384 32 := broadcastInDim S16384 ![] bcast_S_S16384 v0
  let v2 : IVec S16384 32 := maxsi v1 arg0
  let v3 : IVec S_ 32 := id arg2
  let v4 : IVec S16384 32 := broadcastInDim S16384 ![] bcast_S_S16384 v3
  let v5 : IVec S16384 32 := minsi v4 v2
  v5

def fn_part1 {F : FTy → Type} [FloatOps F] (main_arg0 : IVec S16384 32) (main_arg1 : IVec S16384 32) (main_v9 : IVec S32 32) (main_v16 : IVec S16384x1 32) : IVec S_ 1 :=
  let main_v17 : IVec S16384 32 := (fun x i => Host.gather gather_S32_S16384x1_S16384_n_0_n_n_0_1_1 x i) main_v9 main_v16
  let main_v18 : IVec S16384 32 := addi main_v17 main_arg1
  let main_c_6 : IVec S_ 32 := constantI S_ 32 0#32
  let main_v19 : IVec S16384 32 := broadcastInDim S16384 ![] bcast_S_S16384 main_c_6
  let main_v20 : IVec S16384 1 := cmpi .sge main_arg0 main_v19
  let main_c_7 : IVec S_ 32 := constantI S_ 32 32#32
  let main_v21 : IVec S16384 32 := broadcastInDim S16384 ![] bcast_S_S16384 main_c_7
  let main_v22 : IVec S16384 1 := cmpi .slt main_arg0 main_v21
  let main_v23 : IVec S16384 1 := andi main_v20 main_v22
  let main_c_8 : IVec S_ 1 := constantI S_ 1 1#1
  let main_v24 : IVec S_ 1 := (fun x v => Host.reduce IntOp.andi x v reducesTo_S16384_S_d0 h_S_) main_v23 main_c_8
  let main_c_9 : IVec S_ 32 := constantI S_ 32 0#32
  let main_v25 : IVec S16384 32 := broadcastInDim S16384 ![] bcast_S_S16384 main_c_9
  let main_v26 : IVec S16384 1 := cmpi .sge main_v18 main_v25
  let main_c_10 : IVec S_ 32 := constantI S_ 32 22528#32
  let main_v27 : IVec S16384 32 := broadcastInDim S16384 ![] bcast_S_S16384 main_c_10
  let main_v28 : IVec S16384 1 := cmpi .slt main_v18 main_v27
  let main_v29 : IVec S16384 1 := andi main_v26 main_v28
  let main_c_11 : IVec S_ 1 := constantI S_ 1 1#1
  let main_v30 : IVec S_ 1 := (fun x v => Host.reduce IntOp.andi x v reducesTo_S16384_S_d0 h_S_) main_v29 main_c_11
  let main_v31 : IVec S_ 1 := andi main_v24 main_v30
  main_v31

def fn {F : FTy → Type} [FloatOps F] (main_arg0 : IVec S16384 32) (main_arg1 : IVec S16384 32) (main_arg2 : FVec F S32x128 .f32) : IVec S_ 1 :=
  let main_v0 : FVec F S32x1 .f32 := (extractStridedSlice S32x1 ![0, 0] · slices_S32x128_S32x1_0_0) main_arg2
  let main_v1 : FVec F S32 .f32 := shapeCast S32 main_v0 shapeCasts_S32x1_S32
  let main_v2 : IVec S32 32 := fptosi 32 main_v1
  let main_c : IVec S_ 32 := constantI S_ 32 255#32
  let main_v3 : IVec S32 32 := broadcastInDim S32 ![] bcast_S_S32 main_c
  let main_v4 : IVec S32 32 := addi main_v2 main_v3
  let main_c_0 : IVec S_ 32 := constantI S_ 32 256#32
  let main_v5 : IVec S32 32 := fn_floor_divide (F := F) main_v4 main_c_0
  let main_c_1 : IVec S_ 32 := constantI S_ 32 256#32
  let main_v6 : IVec S32 32 := broadcastInDim S32 ![] bcast_S_S32 main_c_1
  let main_v7 : IVec S32 32 := muli main_v5 main_v6
  let main_v8 : IVec S32 32 := fn_cumsum (F := F) main_v7
  let main_v9 : IVec S32 32 := subi main_v8 main_v7
  let main_c_2 : IVec S_ 32 := constantI S_ 32 0#32
  let main_c_3 : IVec S_ 32 := constantI S_ 32 31#32
  let main_v10 : IVec S16384 32 := fn_clip (F := F) main_arg0 main_c_2 main_c_3
  let main_c_4 : IVec S_ 32 := constantI S_ 32 0#32
  let main_v11 : IVec S16384 32 := broadcastInDim S16384 ![] bcast_S_S16384 main_c_4
  let main_v12 : IVec S16384 1 := cmpi .slt main_v10 main_v11
  let main_c_5 : IVec S_ 32 := constantI S_ 32 32#32
  let main_v13 : IVec S16384 32 := broadcastInDim S16384 ![] bcast_S_S16384 main_c_5
  let main_v14 : IVec S16384 32 := addi main_v10 main_v13
  let main_v15 : IVec S16384 32 := select main_v12 main_v14 main_v10
  let main_v16 : IVec S16384x1 32 := broadcastInDim S16384x1 ![0] bcast_S16384_S16384x1_0 main_v15
  fn_part1 (F := F) main_arg0 main_arg1 main_v9 main_v16
-- ==== Pre_routed.lean ====
abbrev S32x128 : Shape := ⟨2, ![32, 128]⟩
abbrev S16384 : Shape := ⟨1, ![16384]⟩
abbrev S22528 : Shape := ⟨1, ![22528]⟩
abbrev S16384x256 : Shape := ⟨2, ![16384, 256]⟩
abbrev S16384x384 : Shape := ⟨2, ![16384, 384]⟩
abbrev S16x1024x256 : Shape := ⟨3, ![16, 1024, 256]⟩
abbrev S16x256x1024 : Shape := ⟨3, ![16, 256, 1024]⟩
abbrev S128x8x1024 : Shape := ⟨3, ![128, 8, 1024]⟩
abbrev S32x1 : Shape := ⟨2, ![32, 1]⟩
abbrev S32 : Shape := ⟨1, ![32]⟩
abbrev S_ : Shape := ⟨0, ![]⟩
abbrev S1 : Shape := ⟨1, ![1]⟩
abbrev S16384x1 : Shape := ⟨2, ![16384, 1]⟩

class Facts : Prop where
  slices_S32x128_S32x1_0_0 : S32x128.Slices ![0, 0] S32x1
  shapeCasts_S32x1_S32 : S32x1.ShapeCasts S32
  bcast_S_S32 : S_.BroadcastsInDim S32 (![] : Fin 0 → Fin S32.rank)
  bcast_S_S_ : S_.BroadcastsInDim S_ (![] : Fin 0 → Fin S_.rank)
  reduceWindows_S32_S32_w32s1p31_0 : S32.ReduceWindows (![32] : Fin 1 → Nat) ![1] ![31] ![0] S32
  h_S_ : 0 < S_.numel
  reducesTo_S32_S_d0 : S32.ReducesTo [0] S_
  slices_S32_S1_23 : S32.Slices ![23] S1
  shapeCasts_S1_S_ : S1.ShapeCasts S_
  bcast_S_S16384 : S_.BroadcastsInDim S16384 (![] : Fin 0 → Fin S16384.rank)
  reducesTo_S16384_S_d0 : S16384.ReducesTo [0] S_
  bcast_S16384_S16384x1_0 : S16384.BroadcastsInDim S16384x1 (![0] : Fin 1 → Fin S16384x1.rank)
  gather_S32_S16384x1_S16384_n_0_n_n_0_1_1_wf : GatherDims.WF S32 S16384x1 S16384 [] [0] [] [0] [] 1 ![1]
  gather_S22528_S16384x1_S16384_n_0_n_n_0_1_1_wf : GatherDims.WF S22528 S16384x1 S16384 [] [0] [] [0] [] 1 ![1]

variable [Facts]

def gather_S32_S16384x1_S16384_n_0_n_n_0_1_1 : GatherDims S32 S16384x1 S16384 where
  offsetDims := []
  collapsedSliceDims := [0]
  operandBatchingDims := []
  startIndicesBatchingDims := []
  startIndexMap := [0]
  indexVectorDim := 1
  sliceSizes := ![1]
  wf := gather_S32_S16384x1_S16384_n_0_n_n_0_1_1_wf
def gather_S22528_S16384x1_S16384_n_0_n_n_0_1_1 : GatherDims S22528 S16384x1 S16384 where
  offsetDims := []
  collapsedSliceDims := [0]
  operandBatchingDims := []
  startIndicesBatchingDims := []
  startIndexMap := [0]
  indexVectorDim := 1
  sliceSizes := ![1]
  wf := gather_S22528_S16384x1_S16384_n_0_n_n_0_1_1_wf
def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_cumsum_0 {F : FTy → Type} [FloatOps F] (arg0 : IVec S32 32) : IVec S32 32 :=
  let c : IVec S_ 32 := constantI S_ 32 0#32
  let v0 : IVec S_ 32 := broadcastInDim S_ ![] bcast_S_S_ c
  let v1 : IVec S32 32 := (fun x v => Host.reduceWindow IntOp.addi ![32] ![1] ![31] ![0] x v reduceWindows_S32_S32_w32s1p31_0 h_S_) arg0 v0
  v1

def fn_cumsum {F : FTy → Type} [FloatOps F] (arg0 : IVec S32 32) : IVec S32 32 :=
  let v0 : IVec S32 32 := fn_cumsum_0 (F := F) arg0
  v0

def fn_part3 {F : FTy → Type} [FloatOps F] (main_v45 : IVec S_ 1) (main_v54 : IVec S16384 1) : IVec S_ 1 :=
  let main_c_16 : IVec S_ 1 := constantI S_ 1 1#1
  let main_v55 : IVec S_ 1 := (fun x v => Host.reduce IntOp.andi x v reducesTo_S16384_S_d0 h_S_) main_v54 main_c_16
  let main_v56 : IVec S_ 1 := andi main_v45 main_v55
  main_v56

def fn_part2 {F : FTy → Type} [FloatOps F] (main_arg1 : IVec S16384 32) (main_arg2 : IVec S16384 32) (main_arg3 : IVec S22528 32) (main_v8 : IVec S32 32) (main_v25 : IVec S_ 1) (main_v34 : IVec S16384 1) (main_c_11 : IVec S_ 32) : IVec S_ 1 :=
  let main_v35 : IVec S16384 32 := broadcastInDim S16384 ![] bcast_S_S16384 main_c_11
  let main_v36 : IVec S16384 1 := cmpi .slt main_arg1 main_v35
  let main_c_12 : IVec S_ 32 := constantI S_ 32 32#32
  let main_v37 : IVec S16384 32 := broadcastInDim S16384 ![] bcast_S_S16384 main_c_12
  let main_v38 : IVec S16384 32 := addi main_arg1 main_v37
  let main_v39 : IVec S16384 32 := select main_v36 main_v38 main_arg1
  let main_v40 : IVec S16384x1 32 := broadcastInDim S16384x1 ![0] bcast_S16384_S16384x1_0 main_v39
  let main_v41 : IVec S16384 32 := (fun x i => Host.gather gather_S32_S16384x1_S16384_n_0_n_n_0_1_1 x i) main_v8 main_v40
  let main_v42 : IVec S16384 1 := cmpi .slt main_arg2 main_v41
  let main_v43 : IVec S16384 1 := andi main_v34 main_v42
  let main_c_13 : IVec S_ 1 := constantI S_ 1 1#1
  let main_v44 : IVec S_ 1 := (fun x v => Host.reduce IntOp.andi x v reducesTo_S16384_S_d0 h_S_) main_v43 main_c_13
  let main_v45 : IVec S_ 1 := andi main_v25 main_v44
  let main_c_14 : IVec S_ 32 := constantI S_ 32 0#32
  let main_v46 : IVec S16384 32 := broadcastInDim S16384 ![] bcast_S_S16384 main_c_14
  let main_v47 : IVec S16384 1 := cmpi .slt main_arg2 main_v46
  let main_c_15 : IVec S_ 32 := constantI S_ 32 22528#32
  let main_v48 : IVec S16384 32 := broadcastInDim S16384 ![] bcast_S_S16384 main_c_15
  let main_v49 : IVec S16384 32 := addi main_arg2 main_v48
  let main_v50 : IVec S16384 32 := select main_v47 main_v49 main_arg2
  let main_v51 : IVec S16384x1 32 := broadcastInDim S16384x1 ![0] bcast_S16384_S16384x1_0 main_v50
  let main_v52 : IVec S16384 32 := (fun x i => Host.gather gather_S22528_S16384x1_S16384_n_0_n_n_0_1_1 x i) main_arg3 main_v51
  let main_v53 : IVec S16384 32 := iotaInDim S16384 32 0
  let main_v54 : IVec S16384 1 := cmpi .eq main_v52 main_v53
  fn_part3 (F := F) main_v45 main_v54

def fn_part1 {F : FTy → Type} [FloatOps F] (main_arg1 : IVec S16384 32) (main_arg2 : IVec S16384 32) (main_arg3 : IVec S22528 32) (main_v7 : IVec S32 32) (main_v8 : IVec S32 32) (main_v14 : IVec S_ 1) (main_v16 : IVec S_ 32) (main_c_5 : IVec S_ 32) : IVec S_ 1 :=
  let main_v17 : IVec S_ 1 := cmpi .sle main_v16 main_c_5
  let main_v18 : IVec S_ 1 := andi main_v14 main_v17
  let main_c_6 : IVec S_ 32 := constantI S_ 32 0#32
  let main_v19 : IVec S16384 32 := broadcastInDim S16384 ![] bcast_S_S16384 main_c_6
  let main_v20 : IVec S16384 1 := cmpi .sge main_arg1 main_v19
  let main_c_7 : IVec S_ 32 := constantI S_ 32 24#32
  let main_v21 : IVec S16384 32 := broadcastInDim S16384 ![] bcast_S_S16384 main_c_7
  let main_v22 : IVec S16384 1 := cmpi .slt main_arg1 main_v21
  let main_v23 : IVec S16384 1 := andi main_v20 main_v22
  let main_c_8 : IVec S_ 1 := constantI S_ 1 1#1
  let main_v24 : IVec S_ 1 := (fun x v => Host.reduce IntOp.andi x v reducesTo_S16384_S_d0 h_S_) main_v23 main_c_8
  let main_v25 : IVec S_ 1 := andi main_v18 main_v24
  let main_v26 : IVec S32 32 := subi main_v8 main_v7
  let main_c_9 : IVec S_ 32 := constantI S_ 32 0#32
  let main_v27 : IVec S16384 32 := broadcastInDim S16384 ![] bcast_S_S16384 main_c_9
  let main_v28 : IVec S16384 1 := cmpi .slt main_arg1 main_v27
  let main_c_10 : IVec S_ 32 := constantI S_ 32 32#32
  let main_v29 : IVec S16384 32 := broadcastInDim S16384 ![] bcast_S_S16384 main_c_10
  let main_v30 : IVec S16384 32 := addi main_arg1 main_v29
  let main_v31 : IVec S16384 32 := select main_v28 main_v30 main_arg1
  let main_v32 : IVec S16384x1 32 := broadcastInDim S16384x1 ![0] bcast_S16384_S16384x1_0 main_v31
  let main_v33 : IVec S16384 32 := (fun x i => Host.gather gather_S32_S16384x1_S16384_n_0_n_n_0_1_1 x i) main_v26 main_v32
  let main_v34 : IVec S16384 1 := cmpi .sle main_v33 main_arg2
  let main_c_11 : IVec S_ 32 := constantI S_ 32 0#32
  fn_part2 (F := F) main_arg1 main_arg2 main_arg3 main_v8 main_v25 main_v34 main_c_11

def fn {F : FTy → Type} [FloatOps F] (main_arg0 : FVec F S32x128 .f32) (main_arg1 : IVec S16384 32) (main_arg2 : IVec S16384 32) (main_arg3 : IVec S22528 32) (main_arg4 : IVec S16384x256 32) (main_arg5 : IVec S16384x384 32) (main_arg6 : FVec F S16x1024x256 .f32) (main_arg7 : FVec F S16x1024x256 .f32) (main_arg8 : FVec F S16x256x1024 .f32) (main_arg9 : FVec F S128x8x1024 .f32) : IVec S_ 1 :=
  let main_v0 : FVec F S32x1 .f32 := (extractStridedSlice S32x1 ![0, 0] · slices_S32x128_S32x1_0_0) main_arg0
  let main_v1 : FVec F S32 .f32 := shapeCast S32 main_v0 shapeCasts_S32x1_S32
  let main_v2 : IVec S32 32 := fptosi 32 main_v1
  let main_c : IVec S_ 32 := constantI S_ 32 255#32
  let main_v3 : IVec S32 32 := broadcastInDim S32 ![] bcast_S_S32 main_c
  let main_v4 : IVec S32 32 := addi main_v2 main_v3
  let main_c_0 : IVec S_ 32 := constantI S_ 32 256#32
  let main_v5 : IVec S32 32 := fn_floor_divide (F := F) main_v4 main_c_0
  let main_c_1 : IVec S_ 32 := constantI S_ 32 256#32
  let main_v6 : IVec S32 32 := broadcastInDim S32 ![] bcast_S_S32 main_c_1
  let main_v7 : IVec S32 32 := muli main_v5 main_v6
  let main_v8 : IVec S32 32 := fn_cumsum (F := F) main_v7
  let main_c_2 : IVec S_ 32 := constantI S_ 32 0#32
  let main_v9 : IVec S32 32 := broadcastInDim S32 ![] bcast_S_S32 main_c_2
  let main_v10 : IVec S32 1 := cmpi .sge main_v2 main_v9
  let main_c_3 : IVec S_ 32 := constantI S_ 32 16384#32
  let main_v11 : IVec S32 32 := broadcastInDim S32 ![] bcast_S_S32 main_c_3
  let main_v12 : IVec S32 1 := cmpi .sle main_v2 main_v11
  let main_v13 : IVec S32 1 := andi main_v10 main_v12
  let main_c_4 : IVec S_ 1 := constantI S_ 1 1#1
  let main_v14 : IVec S_ 1 := (fun x v => Host.reduce IntOp.andi x v reducesTo_S32_S_d0 h_S_) main_v13 main_c_4
  let main_v15 : IVec S1 32 := (extractStridedSlice S1 ![23] · slices_S32_S1_23) main_v8
  let main_v16 : IVec S_ 32 := shapeCast S_ main_v15 shapeCasts_S1_S_
  let main_c_5 : IVec S_ 32 := constantI S_ 32 22528#32
  fn_part1 (F := F) main_arg1 main_arg2 main_arg3 main_v7 main_v8 main_v14 main_v16 main_c_5
-- ==== Kernel.lean ====
abbrev S16384 : Shape := ⟨1, ![16384]⟩
abbrev S32x128 : Shape := ⟨2, ![32, 128]⟩
abbrev S32x1 : Shape := ⟨2, ![32, 1]⟩
abbrev S32 : Shape := ⟨1, ![32]⟩
abbrev S_ : Shape := ⟨0, ![]⟩
abbrev S22528 : Shape := ⟨1, ![22528]⟩
abbrev S16 : Shape := ⟨1, ![16]⟩
abbrev S512 : Shape := ⟨1, ![512]⟩
abbrev S704 : Shape := ⟨1, ![704]⟩

abbrev nBuf : Table → Nat
  | .hbm => 39
  | .local .scVector .vmem => 5
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S32x128, .f32⟩
  | .hbm, ⟨3, _⟩ => ⟨S32x1, .f32⟩
  | .hbm, ⟨4, _⟩ => ⟨S32, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S32, .i32⟩
  | .hbm, ⟨37, _⟩ => ⟨S16384, .i32⟩
  | .hbm, ⟨38, _⟩ => ⟨S22528, .i32⟩
  | .local .scVector .vmem, ⟨0, _⟩ => ⟨S16384, .i32⟩
  | .local .scVector .vmem, ⟨1, _⟩ => ⟨S16384, .i32⟩
  | .local .scVector .vmem, ⟨2, _⟩ => ⟨S32, .i32⟩
  | .local .scVector .vmem, ⟨3, _⟩ => ⟨S16384, .i32⟩
  | .local .scVector .vmem, ⟨4, _⟩ => ⟨S22528, .i32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_c_2 : Ref sig .tc := ⟨.hbm, 30, rfl⟩
abbrev main_v8 : Ref sig .tc := ⟨.hbm, 31, rfl⟩
abbrev main_v9 : Ref sig .tc := ⟨.hbm, 32, rfl⟩
abbrev main_call1_call0_c : Ref sig .tc := ⟨.hbm, 33, rfl⟩
abbrev main_call1_call0_v0 : Ref sig .tc := ⟨.hbm, 34, rfl⟩
abbrev main_v10 : Ref sig .tc := ⟨.hbm, 35, rfl⟩
abbrev main_v11 : Ref sig .tc := ⟨.hbm, 36, rfl⟩
abbrev main_v12_0 : Ref sig .tc := ⟨.hbm, 37, rfl⟩
abbrev main_v12_1 : Ref sig .tc := ⟨.hbm, 38, rfl⟩
abbrev main_arg0_scv : Ref sig .scVector := ⟨.hbm, 0, rfl⟩
abbrev main_arg1_scv : Ref sig .scVector := ⟨.hbm, 1, rfl⟩
abbrev main_v11_scv : Ref sig .scVector := ⟨.hbm, 36, rfl⟩
abbrev main_v12_0_scv : Ref sig .scVector := ⟨.hbm, 37, rfl⟩
abbrev main_v12_1_scv : Ref sig .scVector := ⟨.hbm, 38, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c176_i32 : BitVec 32 := 176#32
  let v3 : BitVec 32 := Scalar.addi c0_i32 c176_i32
  let c1_i32 : BitVec 32 := 1#32
  ⟨c0_i32, v3, c1_i32⟩
def k0_off1 (k0_t1 : Fin k0_t1_loop.trips) (c0_i32_6 : BitVec 32) : Fin 1 → Nat :=
  let c0_i32_5 : BitVec 32 := 0#32
  let c0_i32 : BitVec 32 := 0#32
  let c1_i32 : BitVec 32 := 1#32
  let arg12 : BitVec 32 := Scf.iv c0_i32 c1_i32 k0_t1
  let c128_i32_4 : BitVec 32 := 128#32
  let v9 : BitVec 32 := Scalar.muli arg12 c128_i32_4
  let v10 : BitVec 32 := Scalar.addi c0_i32_5 v9
  let v11 : BitVec 32 := Scalar.addi v10 c0_i32_6
  let v16 : Index := Scalar.indexCast v11
  ![v16.toNat]
@[reducible] def k0_t2_loop : Scf.Loop 32 :=
  let c0_i32_1 : BitVec 32 := 0#32
  let c128_i32 : BitVec 32 := 128#32
  let v4 : BitVec 32 := Scalar.addi c0_i32_1 c128_i32
  let c1_i32_2 : BitVec 32 := 1#32
  ⟨c0_i32_1, v4, c1_i32_2⟩
def k0_off2 (k0_t2 : Fin k0_t2_loop.trips) : Fin 1 → Nat :=
  let c0_i32_5 : BitVec 32 := 0#32
  let c0_i32_1 : BitVec 32 := 0#32
  let c1_i32_2 : BitVec 32 := 1#32
  let arg12 : BitVec 32 := Scf.iv c0_i32_1 c1_i32_2 k0_t2
  let c128_i32_4 : BitVec 32 := 128#32
  let v9 : BitVec 32 := Scalar.muli arg12 c128_i32_4
  let v10 : BitVec 32 := Scalar.addi c0_i32_5 v9
  let c0_i32_6 : BitVec 32 := 0#32
  let v11 : BitVec 32 := Scalar.addi v10 c0_i32_6
  let v12 : Index := Scalar.indexCast v11
  ![v12.toNat]

def k0_chk1 (v13 : IVec S16 32) : Prop :=
  (∀ a x, ((![v13] : Fin 1 → IVec S16 32) a x).toNat < S32.size a)
theorem k0_idx1_inb : ∀ (v13 : IVec S16 32) (k0_hw1 : k0_chk1 v13), ∀ a x, ((![v13] : Fin 1 → IVec S16 32) a x).toNat < S32.size a := fun v13 k0_hw1 => k0_hw1
def k0_off3 (k0_t2 : Fin k0_t2_loop.trips) : Fin 1 → Nat :=
  let c0_i32_5 : BitVec 32 := 0#32
  let c0_i32_1 : BitVec 32 := 0#32
  let c1_i32_2 : BitVec 32 := 1#32
  let arg12 : BitVec 32 := Scf.iv c0_i32_1 c1_i32_2 k0_t2
  let c128_i32_4 : BitVec 32 := 128#32
  let v9 : BitVec 32 := Scalar.muli arg12 c128_i32_4
  let v10 : BitVec 32 := Scalar.addi c0_i32_5 v9
  let c0_i32_6 : BitVec 32 := 0#32
  let v11 : BitVec 32 := Scalar.addi v10 c0_i32_6
  let v15 : Index := Scalar.indexCast v11
  ![v15.toNat]

def k0_chk2 (v17 : IVec S16 32) : Prop :=
  (∀ a x, ((![v17] : Fin 1 → IVec S16 32) a x).toNat < S22528.size a)
theorem k0_idx2_inb : ∀ (v17 : IVec S16 32) (k0_hw2 : k0_chk2 v17), ∀ a x, ((![v17] : Fin 1 → IVec S16 32) a x).toNat < S22528.size a := fun v17 k0_hw2 => k0_hw2
def k0_off4 (k0_t2 : Fin k0_t2_loop.trips) : Fin 1 → Nat :=
  let c0_i32_5 : BitVec 32 := 0#32
  let c0_i32_1 : BitVec 32 := 0#32
  let c1_i32_2 : BitVec 32 := 1#32
  let arg12 : BitVec 32 := Scf.iv c0_i32_1 c1_i32_2 k0_t2
  let c128_i32_4 : BitVec 32 := 128#32
  let v9 : BitVec 32 := Scalar.muli arg12 c128_i32_4
  let v10 : BitVec 32 := Scalar.addi c0_i32_5 v9
  let c16_i32 : BitVec 32 := 16#32
  let v22 : BitVec 32 := Scalar.addi v10 c16_i32
  let v23 : Index := Scalar.indexCast v22
  ![v23.toNat]

def k0_chk3 (v24 : IVec S16 32) : Prop :=
  (∀ a x, ((![v24] : Fin 1 → IVec S16 32) a x).toNat < S32.size a)
theorem k0_idx3_inb : ∀ (v24 : IVec S16 32) (k0_hw3 : k0_chk3 v24), ∀ a x, ((![v24] : Fin 1 → IVec S16 32) a x).toNat < S32.size a := fun v24 k0_hw3 => k0_hw3
def k0_off5 (k0_t2 : Fin k0_t2_loop.trips) : Fin 1 → Nat :=
  let c0_i32_5 : BitVec 32 := 0#32
  let c0_i32_1 : BitVec 32 := 0#32
  let c1_i32_2 : BitVec 32 := 1#32
  let arg12 : BitVec 32 := Scf.iv c0_i32_1 c1_i32_2 k0_t2
  let c128_i32_4 : BitVec 32 := 128#32
  let v9 : BitVec 32 := Scalar.muli arg12 c128_i32_4
  let v10 : BitVec 32 := Scalar.addi c0_i32_5 v9
  let c16_i32 : BitVec 32 := 16#32
  let v22 : BitVec 32 := Scalar.addi v10 c16_i32
  let v26 : Index := Scalar.indexCast v22
  ![v26.toNat]

def k0_chk4 (v28 : IVec S16 32) : Prop :=
  (∀ a x, ((![v28] : Fin 1 → IVec S16 32) a x).toNat < S22528.size a)
theorem k0_idx4_inb : ∀ (v28 : IVec S16 32) (k0_hw4 : k0_chk4 v28), ∀ a x, ((![v28] : Fin 1 → IVec S16 32) a x).toNat < S22528.size a := fun v28 k0_hw4 => k0_hw4
def k0_off6 (k0_t2 : Fin k0_t2_loop.trips) : Fin 1 → Nat :=
  let c0_i32_5 : BitVec 32 := 0#32
  let c0_i32_1 : BitVec 32 := 0#32
  let c1_i32_2 : BitVec 32 := 1#32
  let arg12 : BitVec 32 := Scf.iv c0_i32_1 c1_i32_2 k0_t2
  let c128_i32_4 : BitVec 32 := 128#32
  let v9 : BitVec 32 := Scalar.muli arg12 c128_i32_4
  let v10 : BitVec 32 := Scalar.addi c0_i32_5 v9
  let c32_i32 : BitVec 32 := 32#32
  let v33 : BitVec 32 := Scalar.addi v10 c32_i32
  let v34 : Index := Scalar.indexCast v33
  ![v34.toNat]

def k0_chk5 (v35 : IVec S16 32) : Prop :=
  (∀ a x, ((![v35] : Fin 1 → IVec S16 32) a x).toNat < S32.size a)
theorem k0_idx5_inb : ∀ (v35 : IVec S16 32) (k0_hw5 : k0_chk5 v35), ∀ a x, ((![v35] : Fin 1 → IVec S16 32) a x).toNat < S32.size a := fun v35 k0_hw5 => k0_hw5
def k0_off7 (k0_t2 : Fin k0_t2_loop.trips) : Fin 1 → Nat :=
  let c0_i32_5 : BitVec 32 := 0#32
  let c0_i32_1 : BitVec 32 := 0#32
  let c1_i32_2 : BitVec 32 := 1#32
  let arg12 : BitVec 32 := Scf.iv c0_i32_1 c1_i32_2 k0_t2
  let c128_i32_4 : BitVec 32 := 128#32
  let v9 : BitVec 32 := Scalar.muli arg12 c128_i32_4
  let v10 : BitVec 32 := Scalar.addi c0_i32_5 v9
  let c32_i32 : BitVec 32 := 32#32
  let v33 : BitVec 32 := Scalar.addi v10 c32_i32
  let v37 : Index := Scalar.indexCast v33
  ![v37.toNat]

def k0_chk6 (v39 : IVec S16 32) : Prop :=
  (∀ a x, ((![v39] : Fin 1 → IVec S16 32) a x).toNat < S22528.size a)
theorem k0_idx6_inb : ∀ (v39 : IVec S16 32) (k0_hw6 : k0_chk6 v39), ∀ a x, ((![v39] : Fin 1 → IVec S16 32) a x).toNat < S22528.size a := fun v39 k0_hw6 => k0_hw6
def k0_off8 (k0_t2 : Fin k0_t2_loop.trips) : Fin 1 → Nat :=
  let c0_i32_5 : BitVec 32 := 0#32
  let c0_i32_1 : BitVec 32 := 0#32
  let c1_i32_2 : BitVec 32 := 1#32
  let arg12 : BitVec 32 := Scf.iv c0_i32_1 c1_i32_2 k0_t2
  let c128_i32_4 : BitVec 32 := 128#32
  let v9 : BitVec 32 := Scalar.muli arg12 c128_i32_4
  let v10 : BitVec 32 := Scalar.addi c0_i32_5 v9
  let c48_i32 : BitVec 32 := 48#32
  let v44 : BitVec 32 := Scalar.addi v10 c48_i32
  let v45 : Index := Scalar.indexCast v44
  ![v45.toNat]

def k0_chk7 (v46 : IVec S16 32) : Prop :=
  (∀ a x, ((![v46] : Fin 1 → IVec S16 32) a x).toNat < S32.size a)
theorem k0_idx7_inb : ∀ (v46 : IVec S16 32) (k0_hw7 : k0_chk7 v46), ∀ a x, ((![v46] : Fin 1 → IVec S16 32) a x).toNat < S32.size a := fun v46 k0_hw7 => k0_hw7
def k0_off9 (k0_t2 : Fin k0_t2_loop.trips) : Fin 1 → Nat :=
  let c0_i32_5 : BitVec 32 := 0#32
  let c0_i32_1 : BitVec 32 := 0#32
  let c1_i32_2 : BitVec 32 := 1#32
  let arg12 : BitVec 32 := Scf.iv c0_i32_1 c1_i32_2 k0_t2
  let c128_i32_4 : BitVec 32 := 128#32
  let v9 : BitVec 32 := Scalar.muli arg12 c128_i32_4
  let v10 : BitVec 32 := Scalar.addi c0_i32_5 v9
  let c48_i32 : BitVec 32 := 48#32
  let v44 : BitVec 32 := Scalar.addi v10 c48_i32
  let v48 : Index := Scalar.indexCast v44
  ![v48.toNat]

def k0_chk8 (v50 : IVec S16 32) : Prop :=
  (∀ a x, ((![v50] : Fin 1 → IVec S16 32) a x).toNat < S22528.size a)
theorem k0_idx8_inb : ∀ (v50 : IVec S16 32) (k0_hw8 : k0_chk8 v50), ∀ a x, ((![v50] : Fin 1 → IVec S16 32) a x).toNat < S22528.size a := fun v50 k0_hw8 => k0_hw8
def k0_off10 (k0_t2 : Fin k0_t2_loop.trips) : Fin 1 → Nat :=
  let c0_i32_5 : BitVec 32 := 0#32
  let c0_i32_1 : BitVec 32 := 0#32
  let c1_i32_2 : BitVec 32 := 1#32
  let arg12 : BitVec 32 := Scf.iv c0_i32_1 c1_i32_2 k0_t2
  let c128_i32_4 : BitVec 32 := 128#32
  let v9 : BitVec 32 := Scalar.muli arg12 c128_i32_4
  let v10 : BitVec 32 := Scalar.addi c0_i32_5 v9
  let c64_i32 : BitVec 32 := 64#32
  let v55 : BitVec 32 := Scalar.addi v10 c64_i32
  let v56 : Index := Scalar.indexCast v55
  ![v56.toNat]

def k0_chk9 (v57 : IVec S16 32) : Prop :=
  (∀ a x, ((![v57] : Fin 1 → IVec S16 32) a x).toNat < S32.size a)
theorem k0_idx9_inb : ∀ (v57 : IVec S16 32) (k0_hw9 : k0_chk9 v57), ∀ a x, ((![v57] : Fin 1 → IVec S16 32) a x).toNat < S32.size a := fun v57 k0_hw9 => k0_hw9
def k0_off11 (k0_t2 : Fin k0_t2_loop.trips) : Fin 1 → Nat :=
  let c0_i32_5 : BitVec 32 := 0#32
  let c0_i32_1 : BitVec 32 := 0#32
  let c1_i32_2 : BitVec 32 := 1#32
  let arg12 : BitVec 32 := Scf.iv c0_i32_1 c1_i32_2 k0_t2
  let c128_i32_4 : BitVec 32 := 128#32
  let v9 : BitVec 32 := Scalar.muli arg12 c128_i32_4
  let v10 : BitVec 32 := Scalar.addi c0_i32_5 v9
  let c64_i32 : BitVec 32 := 64#32
  let v55 : BitVec 32 := Scalar.addi v10 c64_i32
  let v59 : Index := Scalar.indexCast v55
  ![v59.toNat]

def k0_chk10 (v61 : IVec S16 32) : Prop :=
  (∀ a x, ((![v61] : Fin 1 → IVec S16 32) a x).toNat < S22528.size a)
theorem k0_idx10_inb : ∀ (v61 : IVec S16 32) (k0_hw10 : k0_chk10 v61), ∀ a x, ((![v61] : Fin 1 → IVec S16 32) a x).toNat < S22528.size a := fun v61 k0_hw10 => k0_hw10
def k0_off12 (k0_t2 : Fin k0_t2_loop.trips) : Fin 1 → Nat :=
  let c0_i32_5 : BitVec 32 := 0#32
  let c0_i32_1 : BitVec 32 := 0#32
  let c1_i32_2 : BitVec 32 := 1#32
  let arg12 : BitVec 32 := Scf.iv c0_i32_1 c1_i32_2 k0_t2
  let c128_i32_4 : BitVec 32 := 128#32
  let v9 : BitVec 32 := Scalar.muli arg12 c128_i32_4
  let v10 : BitVec 32 := Scalar.addi c0_i32_5 v9
  let c80_i32 : BitVec 32 := 80#32
  let v66 : BitVec 32 := Scalar.addi v10 c80_i32
  let v67 : Index := Scalar.indexCast v66
  ![v67.toNat]

def k0_chk11 (v68 : IVec S16 32) : Prop :=
  (∀ a x, ((![v68] : Fin 1 → IVec S16 32) a x).toNat < S32.size a)
theorem k0_idx11_inb : ∀ (v68 : IVec S16 32) (k0_hw11 : k0_chk11 v68), ∀ a x, ((![v68] : Fin 1 → IVec S16 32) a x).toNat < S32.size a := fun v68 k0_hw11 => k0_hw11
def k0_off13 (k0_t2 : Fin k0_t2_loop.trips) : Fin 1 → Nat :=
  let c0_i32_5 : BitVec 32 := 0#32
  let c0_i32_1 : BitVec 32 := 0#32
  let c1_i32_2 : BitVec 32 := 1#32
  let arg12 : BitVec 32 := Scf.iv c0_i32_1 c1_i32_2 k0_t2
  let c128_i32_4 : BitVec 32 := 128#32
  let v9 : BitVec 32 := Scalar.muli arg12 c128_i32_4
  let v10 : BitVec 32 := Scalar.addi c0_i32_5 v9
  let c80_i32 : BitVec 32 := 80#32
  let v66 : BitVec 32 := Scalar.addi v10 c80_i32
  let v70 : Index := Scalar.indexCast v66
  ![v70.toNat]

def k0_chk12 (v72 : IVec S16 32) : Prop :=
  (∀ a x, ((![v72] : Fin 1 → IVec S16 32) a x).toNat < S22528.size a)
theorem k0_idx12_inb : ∀ (v72 : IVec S16 32) (k0_hw12 : k0_chk12 v72), ∀ a x, ((![v72] : Fin 1 → IVec S16 32) a x).toNat < S22528.size a := fun v72 k0_hw12 => k0_hw12
def k0_off14 (k0_t2 : Fin k0_t2_loop.trips) : Fin 1 → Nat :=
  let c0_i32_5 : BitVec 32 := 0#32
  let c0_i32_1 : BitVec 32 := 0#32
  let c1_i32_2 : BitVec 32 := 1#32
  let arg12 : BitVec 32 := Scf.iv c0_i32_1 c1_i32_2 k0_t2
  let c128_i32_4 : BitVec 32 := 128#32
  let v9 : BitVec 32 := Scalar.muli arg12 c128_i32_4
  let v10 : BitVec 32 := Scalar.addi c0_i32_5 v9
  let c96_i32 : BitVec 32 := 96#32
  let v77 : BitVec 32 := Scalar.addi v10 c96_i32
  let v78 : Index := Scalar.indexCast v77
  ![v78.toNat]

def k0_chk13 (v79 : IVec S16 32) : Prop :=
  (∀ a x, ((![v79] : Fin 1 → IVec S16 32) a x).toNat < S32.size a)
theorem k0_idx13_inb : ∀ (v79 : IVec S16 32) (k0_hw13 : k0_chk13 v79), ∀ a x, ((![v79] : Fin 1 → IVec S16 32) a x).toNat < S32.size a := fun v79 k0_hw13 => k0_hw13
def k0_off15 (k0_t2 : Fin k0_t2_loop.trips) : Fin 1 → Nat :=
  let c0_i32_5 : BitVec 32 := 0#32
  let c0_i32_1 : BitVec 32 := 0#32
  let c1_i32_2 : BitVec 32 := 1#32
  let arg12 : BitVec 32 := Scf.iv c0_i32_1 c1_i32_2 k0_t2
  let c128_i32_4 : BitVec 32 := 128#32
  let v9 : BitVec 32 := Scalar.muli arg12 c128_i32_4
  let v10 : BitVec 32 := Scalar.addi c0_i32_5 v9
  let c96_i32 : BitVec 32 := 96#32
  let v77 : BitVec 32 := Scalar.addi v10 c96_i32
  let v81 : Index := Scalar.indexCast v77
  ![v81.toNat]

def k0_chk14 (v83 : IVec S16 32) : Prop :=
  (∀ a x, ((![v83] : Fin 1 → IVec S16 32) a x).toNat < S22528.size a)
theorem k0_idx14_inb : ∀ (v83 : IVec S16 32) (k0_hw14 : k0_chk14 v83), ∀ a x, ((![v83] : Fin 1 → IVec S16 32) a x).toNat < S22528.size a := fun v83 k0_hw14 => k0_hw14
def k0_off16 (k0_t2 : Fin k0_t2_loop.trips) : Fin 1 → Nat :=
  let c0_i32_5 : BitVec 32 := 0#32
  let c0_i32_1 : BitVec 32 := 0#32
  let c1_i32_2 : BitVec 32 := 1#32
  let arg12 : BitVec 32 := Scf.iv c0_i32_1 c1_i32_2 k0_t2
  let c128_i32_4 : BitVec 32 := 128#32
  let v9 : BitVec 32 := Scalar.muli arg12 c128_i32_4
  let v10 : BitVec 32 := Scalar.addi c0_i32_5 v9
  let c112_i32 : BitVec 32 := 112#32
  let v88 : BitVec 32 := Scalar.addi v10 c112_i32
  let v89 : Index := Scalar.indexCast v88
  ![v89.toNat]

def k0_chk15 (v90 : IVec S16 32) : Prop :=
  (∀ a x, ((![v90] : Fin 1 → IVec S16 32) a x).toNat < S32.size a)
theorem k0_idx15_inb : ∀ (v90 : IVec S16 32) (k0_hw15 : k0_chk15 v90), ∀ a x, ((![v90] : Fin 1 → IVec S16 32) a x).toNat < S32.size a := fun v90 k0_hw15 => k0_hw15
def k0_off17 (k0_t2 : Fin k0_t2_loop.trips) : Fin 1 → Nat :=
  let c0_i32_5 : BitVec 32 := 0#32
  let c0_i32_1 : BitVec 32 := 0#32
  let c1_i32_2 : BitVec 32 := 1#32
  let arg12 : BitVec 32 := Scf.iv c0_i32_1 c1_i32_2 k0_t2
  let c128_i32_4 : BitVec 32 := 128#32
  let v9 : BitVec 32 := Scalar.muli arg12 c128_i32_4
  let v10 : BitVec 32 := Scalar.addi c0_i32_5 v9
  let c112_i32 : BitVec 32 := 112#32
  let v88 : BitVec 32 := Scalar.addi v10 c112_i32
  let v92 : Index := Scalar.indexCast v88
  ![v92.toNat]

def k0_chk16 (v94 : IVec S16 32) : Prop :=
  (∀ a x, ((![v94] : Fin 1 → IVec S16 32) a x).toNat < S22528.size a)
theorem k0_idx16_inb : ∀ (v94 : IVec S16 32) (k0_hw16 : k0_chk16 v94), ∀ a x, ((![v94] : Fin 1 → IVec S16 32) a x).toNat < S22528.size a := fun v94 k0_hw16 => k0_hw16
def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v5 : BitVec 32 := Scalar.muli v1 c512_i32
  v5
def k0_off18 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v5 : BitVec 32 := Scalar.muli v1 c512_i32
  let v6 : BitVec 32 := v5
  ![v6.toNat]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c704_i32 : BitVec 32 := 704#32
  let v7 : BitVec 32 := Scalar.muli v1 c704_i32
  v7
def k0_off19 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c704_i32 : BitVec 32 := 704#32
  let v7 : BitVec 32 := Scalar.muli v1 c704_i32
  let v8 : BitVec 32 := v7
  ![v8.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16384 : Shape := ⟨1, ![16384]⟩
abbrev S32x128 : Shape := ⟨2, ![32, 128]⟩
abbrev S32x1 : Shape := ⟨2, ![32, 1]⟩
abbrev S32 : Shape := ⟨1, ![32]⟩
abbrev S_ : Shape := ⟨0, ![]⟩
abbrev S16384x1 : Shape := ⟨2, ![16384, 1]⟩
abbrev S22528 : Shape := ⟨1, ![22528]⟩

abbrev nBuf : Space → Nat
  | .hbm => 77
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S32x128, .f32⟩
  | .hbm, ⟨3, _⟩ => ⟨S32x1, .f32⟩
  | .hbm, ⟨4, _⟩ => ⟨S32, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i1⟩
  | .hbm, ⟨17, _⟩ => ⟨S32, .i32⟩
  | .hbm, ⟨18, _⟩ => ⟨S32, .i32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S32, .i1⟩
  | .hbm, ⟨23, _⟩ => ⟨S_, .i32⟩
  | .hbm, ⟨24, _⟩ => ⟨S32, .i32⟩
  | .hbm, ⟨25, _⟩ => ⟨S32, .i32⟩
  | .hbm, ⟨26, _⟩ => ⟨S32, .i32⟩
  | .hbm, ⟨27, _⟩ => ⟨S_, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S_, .i32⟩
  | .hbm, ⟨32, _⟩ => ⟨S32, .i32⟩
  | .hbm, ⟨33, _⟩ => ⟨S32, .i32⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S16384x1, .i32⟩
  | .hbm, ⟨42, _⟩ => ⟨S16384, .i32⟩
  | .hbm, ⟨43, _⟩ => ⟨S16384, .i32⟩
  | .hbm, ⟨44, _⟩ => ⟨S22528, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S22528, .i32⟩
  | .hbm, ⟨52, _⟩ => ⟨S22528, .i32⟩
  | .hbm, ⟨53, _⟩ => ⟨S_, .i32⟩
  | .hbm, ⟨54, _⟩ => ⟨S22528, .i32⟩
  | .hbm, ⟨55, _⟩ => ⟨S22528, .i1⟩
  | .hbm, ⟨56, _⟩ => ⟨S_, .i32⟩
  | .hbm, ⟨57, _⟩ => ⟨S22528, .i32⟩
  | .hbm, ⟨58, _⟩ => ⟨S22528, .i1⟩
  | .hbm, ⟨59, _⟩ => ⟨S_, .i32⟩
  | .hbm, ⟨60, _⟩ => ⟨S_, .i1⟩
  | .hbm, ⟨61, _⟩ => ⟨S22528, .i1⟩
  | .hbm, ⟨62, _⟩ => ⟨S22528, .i1⟩
  | .hbm, ⟨63, _⟩ => ⟨S22528, .i1⟩
  | .hbm, ⟨64, _⟩ => ⟨S22528, .i32⟩
  | .hbm, ⟨65, _⟩ => ⟨S22528, .i32⟩
  | .hbm, ⟨66, _⟩ => ⟨S22528, .i32⟩
  | .hbm, ⟨67, _⟩ => ⟨S16384, .i32⟩
  | .hbm, ⟨68, _⟩ => ⟨S_, .i32⟩
  | .hbm, ⟨69, _⟩ => ⟨S16384, .i32⟩
  | .hbm, ⟨70, _⟩ => ⟨S16384, .i1⟩
  | .hbm, ⟨71, _⟩ => ⟨S_, .i32⟩
  | .hbm, ⟨72, _⟩ => ⟨S16384, .i32⟩
  | .hbm, ⟨73, _⟩ => ⟨S16384, .i32⟩
  | .hbm, ⟨74, _⟩ => ⟨S16384, .i32⟩
  | .hbm, ⟨75, _⟩ => ⟨S16384x1, .i32⟩
  | .hbm, ⟨76, _⟩ => ⟨S22528, .i32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v5 : Ref sig .tc := ⟨.hbm, 26, rfl⟩
abbrev main_c_1 : Ref sig .tc := ⟨.hbm, 27, rfl⟩
abbrev main_v6 : Ref sig .tc := ⟨.hbm, 28, rfl⟩
abbrev main_v7 : Ref sig .tc := ⟨.hbm, 29, rfl⟩
abbrev main_call1_call0_c : Ref sig .tc := ⟨.hbm, 30, rfl⟩
abbrev main_call1_call0_v0 : Ref sig .tc := ⟨.hbm, 31, rfl⟩
abbrev main_v8 : Ref sig .tc := ⟨.hbm, 32, rfl⟩
abbrev main_v9 : Ref sig .tc := ⟨.hbm, 33, rfl⟩
abbrev main_c_2 : Ref sig .tc := ⟨.hbm, 34, rfl⟩
abbrev main_v10 : Ref sig .tc := ⟨.hbm, 35, rfl⟩
abbrev main_v11 : Ref sig .tc := ⟨.hbm, 36, rfl⟩
abbrev main_c_3 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_4 : Ref sig .tc := ⟨.hbm, 45, rfl⟩
abbrev main_call2_v0 : Ref sig .tc := ⟨.hbm, 46, rfl⟩
abbrev main_call2_c : Ref sig .tc := ⟨.hbm, 47, rfl⟩
abbrev main_call2_v1 : Ref sig .tc := ⟨.hbm, 48, rfl⟩
abbrev main_call2_c_0 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_c_1 : Ref sig .tc := ⟨.hbm, 53, rfl⟩
abbrev main_call2_v5 : Ref sig .tc := ⟨.hbm, 54, rfl⟩
abbrev main_call2_v6 : Ref sig .tc := ⟨.hbm, 55, rfl⟩
abbrev main_call2_c_2 : Ref sig .tc := ⟨.hbm, 56, rfl⟩
abbrev main_call2_v7 : Ref sig .tc := ⟨.hbm, 57, rfl⟩
abbrev main_call2_v8 : Ref sig .tc := ⟨.hbm, 58, rfl⟩
abbrev main_call2_c_3 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_v12 : Ref sig .tc := ⟨.hbm, 63, rfl⟩
abbrev main_call2_v13 : Ref sig .tc := ⟨.hbm, 64, rfl⟩
abbrev main_call2_v14 : Ref sig .tc := ⟨.hbm, 65, rfl⟩
abbrev main_v19 : Ref sig .tc := ⟨.hbm, 66, rfl⟩
abbrev main_v20 : Ref sig .tc := ⟨.hbm, 67, rfl⟩
abbrev main_c_5 : Ref sig .tc := ⟨.hbm, 68, rfl⟩
abbrev main_v21 : Ref sig .tc := ⟨.hbm, 69, rfl⟩
abbrev main_v22 : Ref sig .tc := ⟨.hbm, 70, rfl⟩
abbrev main_c_6 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩

abbrev nD : Nat := 1
abbrev τ : Topo := Topo.v7x

variable {F : FTy → Type} [FloatOps F]
-- ==== Kernel2.lean ====
abbrev S32x128 : Shape := ⟨2, ![32, 128]⟩
abbrev S16384 : Shape := ⟨1, ![16384]⟩
abbrev S22528 : Shape := ⟨1, ![22528]⟩
abbrev S16384x256 : Shape := ⟨2, ![16384, 256]⟩
abbrev S16384x384 : Shape := ⟨2, ![16384, 384]⟩
abbrev S16x1024x256 : Shape := ⟨3, ![16, 1024, 256]⟩
abbrev S16x256x1024 : Shape := ⟨3, ![16, 256, 1024]⟩
abbrev S128x8x1024 : Shape := ⟨3, ![128, 8, 1024]⟩
abbrev S6 : Shape := ⟨1, ![6]⟩
abbrev S_ : Shape := ⟨0, ![]⟩
abbrev S22528x1 : Shape := ⟨2, ![22528, 1]⟩
abbrev S22528x256 : Shape := ⟨2, ![22528, 256]⟩
abbrev S22528x384 : Shape := ⟨2, ![22528, 384]⟩
abbrev S16x1024x512 : Shape := ⟨3, ![16, 1024, 512]⟩
abbrev S32x1 : Shape := ⟨2, ![32, 1]⟩
abbrev S32 : Shape := ⟨1, ![32]⟩
abbrev S24 : Shape := ⟨1, ![24]⟩
abbrev S1x24 : Shape := ⟨2, ![1, 24]⟩
abbrev S88 : Shape := ⟨1, ![88]⟩
abbrev S88x1 : Shape := ⟨2, ![88, 1]⟩
abbrev S88x24 : Shape := ⟨2, ![88, 24]⟩
abbrev S1 : Shape := ⟨1, ![1]⟩
abbrev S22528x512 : Shape := ⟨2, ![22528, 512]⟩
abbrev S256x256 : Shape := ⟨2, ![256, 256]⟩
abbrev S256x384 : Shape := ⟨2, ![256, 384]⟩
abbrev S1x1024x512 : Shape := ⟨3, ![1, 1024, 512]⟩
abbrev S1x256x1024 : Shape := ⟨3, ![1, 256, 1024]⟩
abbrev S256x512 : Shape := ⟨2, ![256, 512]⟩
abbrev S256x1024 : Shape := ⟨2, ![256, 1024]⟩
abbrev S256x128 : Shape := ⟨2, ![256, 128]⟩
abbrev S1024x512 : Shape := ⟨2, ![1024, 512]⟩
abbrev S256x1 : Shape := ⟨2, ![256, 1]⟩
abbrev S16384x1 : Shape := ⟨2, ![16384, 1]⟩
abbrev S16384x512 : Shape := ⟨2, ![16384, 512]⟩

abbrev nBuf : Space → Nat
  | .hbm => 203
  | .vmem => 16
  | .smem => 3
  | _ => 0

abbrev hbmTy0_0 (i : Nat) : BufTy := match i % 128 with
  | 0 => ⟨S32x128, .f32⟩
  | 1 => ⟨S16384, .i32⟩
  | 2 => ⟨S16384, .i32⟩
  | 3 => ⟨S22528, .i32⟩
  | 4 => ⟨S16384x256, .i32⟩
  | 5 => ⟨S16384x384, .i32⟩
  | 6 => ⟨S16x1024x256, .f32⟩
  | 7 => ⟨S16x1024x256, .f32⟩
  | 8 => ⟨S16x256x1024, .f32⟩
  | 9 => ⟨S128x8x1024, .f32⟩
  | 10 => ⟨S6, .i32⟩
  | 11 => ⟨S6, .i32⟩
  | 12 => ⟨S_, .i32⟩
  | 13 => ⟨S22528, .i32⟩
  | 14 => ⟨S22528, .i1⟩
  | 15 => ⟨S_, .i32⟩
  | 16 => ⟨S22528, .i32⟩
  | 17 => ⟨S22528, .i32⟩
  | 18 => ⟨S22528, .i32⟩
  | 19 => ⟨S22528x1, .i32⟩
  | 20 => ⟨S22528x256, .i32⟩
  | 21 => ⟨S_, .i32⟩
  | 22 => ⟨S22528, .i32⟩
  | 23 => ⟨S22528, .i1⟩
  | 24 => ⟨S_, .i32⟩
  | 25 => ⟨S22528, .i32⟩
  | 26 => ⟨S22528, .i32⟩
  | 27 => ⟨S22528, .i32⟩
  | 28 => ⟨S22528x1, .i32⟩
  | 29 => ⟨S22528x384, .i32⟩
  | 30 => ⟨S16x1024x512, .f32⟩
  | 31 => ⟨S16x1024x512, .bf16⟩
  | 32 => ⟨S32x1, .f32⟩
  | 33 => ⟨S32, .f32⟩
  | 34 => ⟨S32, .i32⟩
  | 35 => ⟨S_, .i32⟩
  | 36 => ⟨S32, .i32⟩
  | 37 => ⟨S32, .i32⟩
  | 38 => ⟨S_, .i32⟩
  | 39 => ⟨S32, .i32⟩
  | 40 => ⟨S32, .i32⟩
  | 41 => ⟨S_, .i32⟩
  | 42 => ⟨S_, .i32⟩
  | 43 => ⟨S32, .i32⟩
  | 44 => ⟨S32, .i32⟩
  | 45 => ⟨S32, .i32⟩
  | 46 => ⟨S_, .i32⟩
  | 47 => ⟨S32, .i32⟩
  | 48 => ⟨S32, .i1⟩
  | 49 => ⟨S32, .i32⟩
  | 50 => ⟨S32, .i32⟩
  | 51 => ⟨S_, .i32⟩
  | 52 => ⟨S32, .i32⟩
  | 53 => ⟨S32, .i1⟩
  | 54 => ⟨S32, .i1⟩
  | 55 => ⟨S_, .i32⟩
  | 56 => ⟨S32, .i32⟩
  | 57 => ⟨S32, .i32⟩
  | 58 => ⟨S32, .i32⟩
  | 59 => ⟨S_, .i32⟩
  | 60 => ⟨S32, .i32⟩
  | 61 => ⟨S32, .i32⟩
  | 62 => ⟨S_, .i32⟩
  | 63 => ⟨S_, .i32⟩
  | 64 => ⟨S32, .i32⟩
  | 65 => ⟨S24, .i32⟩
  | 66 => ⟨S1x24, .i32⟩
  | 67 => ⟨S88, .i32⟩
  | 68 => ⟨S_, .i32⟩
  | 69 => ⟨S88, .i32⟩
  | 70 => ⟨S88, .i32⟩
  | 71 => ⟨S88x1, .i32⟩
  | 72 => ⟨S88x24, .i32⟩
  | 73 => ⟨S88x24, .i32⟩
  | 74 => ⟨S88x24, .i1⟩
  | 75 => ⟨S88x24, .i32⟩
  | 76 => ⟨S_, .i32⟩
  | 77 => ⟨S88, .i32⟩
  | 78 => ⟨S_, .i32⟩
  | 79 => ⟨S88, .i32⟩
  | 80 => ⟨S88, .i32⟩
  | 81 => ⟨S_, .i32⟩
  | 82 => ⟨S_, .i32⟩
  | 83 => ⟨S88, .i32⟩
  | 84 => ⟨S88, .i32⟩
  | 85 => ⟨S88, .i32⟩
  | 86 => ⟨S_, .i32⟩
  | 87 => ⟨S88, .i32⟩
  | 88 => ⟨S88, .i1⟩
  | 89 => ⟨S88, .i32⟩
  | 90 => ⟨S88, .i32⟩
  | 91 => ⟨S_, .i32⟩
  | 92 => ⟨S88, .i32⟩
  | 93 => ⟨S88, .i1⟩
  | 94 => ⟨S88, .i1⟩
  | 95 => ⟨S_, .i32⟩
  | 96 => ⟨S88, .i32⟩
  | 97 => ⟨S88, .i32⟩
  | 98 => ⟨S88, .i32⟩
  | 99 => ⟨S_, .i32⟩
  | 100 => ⟨S88, .i32⟩
  | 101 => ⟨S88, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S88, .i32⟩
  | 109 => ⟨S88, .i32⟩
  | 110 => ⟨S_, .i32⟩
  | 111 => ⟨S88, .i32⟩
  | 112 => ⟨S88, .i1⟩
  | 113 => ⟨S_, .i32⟩
  | 114 => ⟨S88, .i32⟩
  | 115 => ⟨S88, .i1⟩
  | 116 => ⟨S_, .i32⟩
  | 117 => ⟨S_, .i1⟩
  | 118 => ⟨S88, .i1⟩
  | 119 => ⟨S88, .i1⟩
  | 120 => ⟨S88, .i1⟩
  | 121 => ⟨S88, .i32⟩
  | 122 => ⟨S88, .i32⟩
  | 123 => ⟨S88, .i32⟩
  | 124 => ⟨S_, .i32⟩
  | 125 => ⟨S88, .i32⟩
  | 126 => ⟨S88, .i1⟩
  | 127 => ⟨S_, .i32⟩
  | _ => ⟨S32x128, .f32⟩

abbrev hbmTy0_1 (i : Nat) : BufTy := match i % 128 with
  | 0 => ⟨S88, .i32⟩
  | 1 => ⟨S88, .i32⟩
  | 2 => ⟨S88, .i32⟩
  | 3 => ⟨S88x1, .i32⟩
  | 4 => ⟨S88, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S88, .i32⟩
  | 12 => ⟨S88, .i32⟩
  | 13 => ⟨S_, .i32⟩
  | 14 => ⟨S88, .i32⟩
  | 15 => ⟨S88, .i1⟩
  | 16 => ⟨S_, .i32⟩
  | 17 => ⟨S88, .i32⟩
  | 18 => ⟨S88, .i1⟩
  | 19 => ⟨S_, .i32⟩
  | 20 => ⟨S_, .i1⟩
  | 21 => ⟨S88, .i1⟩
  | 22 => ⟨S88, .i1⟩
  | 23 => ⟨S88, .i1⟩
  | 24 => ⟨S88, .i32⟩
  | 25 => ⟨S88, .i32⟩
  | 26 => ⟨S88, .i32⟩
  | 27 => ⟨S_, .i32⟩
  | 28 => ⟨S88, .i32⟩
  | 29 => ⟨S88, .i1⟩
  | 30 => ⟨S_, .i32⟩
  | 31 => ⟨S88, .i32⟩
  | 32 => ⟨S88, .i32⟩
  | 33 => ⟨S88, .i32⟩
  | 34 => ⟨S88x1, .i32⟩
  | 35 => ⟨S88, .i32⟩
  | 36 => ⟨S1, .i32⟩
  | 37 => ⟨S_, .i32⟩
  | 38 => ⟨S_, .i32⟩
  | 39 => ⟨S1, .i32⟩
  | 40 => ⟨S1, .i32⟩
  | 41 => ⟨S1, .i32⟩
  | 42 => ⟨S_, .i32⟩
  | 43 => ⟨S1, .i32⟩
  | 44 => ⟨S1, .i1⟩
  | 45 => ⟨S1, .i32⟩
  | 46 => ⟨S1, .i32⟩
  | 47 => ⟨S_, .i32⟩
  | 48 => ⟨S1, .i32⟩
  | 49 => ⟨S1, .i1⟩
  | 50 => ⟨S1, .i1⟩
  | 51 => ⟨S_, .i32⟩
  | 52 => ⟨S1, .i32⟩
  | 53 => ⟨S1, .i32⟩
  | 54 => ⟨S16x256x1024, .bf16⟩
  | 55 => ⟨S22528x512, .bf16⟩
  | 56 => ⟨S22528x512, .bf16⟩
  | 57 => ⟨S_, .i32⟩
  | 58 => ⟨S16384, .i32⟩
  | 59 => ⟨S16384, .i1⟩
  | 60 => ⟨S_, .i32⟩
  | 61 => ⟨S16384, .i32⟩
  | 62 => ⟨S16384, .i32⟩
  | 63 => ⟨S16384, .i32⟩
  | 64 => ⟨S16384x1, .i32⟩
  | 65 => ⟨S16384x512, .bf16⟩
  | 66 => ⟨S_, .i32⟩
  | 67 => ⟨S16384, .i32⟩
  | 68 => ⟨S16384, .i1⟩
  | 69 => ⟨S_, .i32⟩
  | 70 => ⟨S16384, .i32⟩
  | 71 => ⟨S16384, .i32⟩
  | 72 => ⟨S16384, .i32⟩
  | 73 => ⟨S16384x1, .i32⟩
  | 74 => ⟨S16384x512, .bf16⟩
  | _ => ⟨S32x128, .f32⟩

abbrev hbmTy (i : Nat) : BufTy := match i / 128 with
  | 0 => hbmTy0_0 i
  | 1 => hbmTy0_1 i
  | _ => ⟨S32x128, .f32⟩

abbrev bufTy : (tb : Table) → Fin (tcTables nBuf tb) → BufTy
  | .hbm, ⟨i, _⟩ => hbmTy i
  | .local _ .vmem, ⟨0, _⟩ => ⟨S256x256, .i32⟩
  | .local _ .vmem, ⟨1, _⟩ => ⟨S256x256, .i32⟩
  | .local _ .vmem, ⟨2, _⟩ => ⟨S256x384, .i32⟩
  | .local _ .vmem, ⟨3, _⟩ => ⟨S256x384, .i32⟩
  | .local _ .vmem, ⟨4, _⟩ => ⟨S1x1024x512, .bf16⟩
  | .local _ .vmem, ⟨5, _⟩ => ⟨S1x1024x512, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x256x1024, .bf16⟩
  | .local _ .vmem, ⟨11, _⟩ => ⟨S1x256x1024, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .smem, ⟨0, _⟩ => ⟨S88, .i32⟩
  | .local _ .smem, ⟨1, _⟩ => ⟨S88, .i32⟩
  | .local _ .smem, ⟨2, _⟩ => ⟨S1, .i32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_v0 : Ref sig .tc := ⟨.hbm, 13, rfl⟩
abbrev main_v1 : Ref sig .tc := ⟨.hbm, 14, rfl⟩
abbrev main_c_2 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_3 : Ref sig .tc := ⟨.hbm, 21, rfl⟩
abbrev main_v7 : Ref sig .tc := ⟨.hbm, 22, rfl⟩
abbrev main_v8 : Ref sig .tc := ⟨.hbm, 23, rfl⟩
abbrev main_c_4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_5 : Ref sig .tc := ⟨.hbm, 35, rfl⟩
abbrev main_v19 : Ref sig .tc := ⟨.hbm, 36, rfl⟩
abbrev main_v20 : Ref sig .tc := ⟨.hbm, 37, rfl⟩
abbrev main_c_6 : Ref sig .tc := ⟨.hbm, 38, rfl⟩
abbrev main_v21 : Ref sig .tc := ⟨.hbm, 39, rfl⟩
abbrev main_v22 : Ref sig .tc := ⟨.hbm, 40, rfl⟩
abbrev main_c_7 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_c : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_0 : Ref sig .tc := ⟨.hbm, 55, rfl⟩
abbrev main_call0_v12 : Ref sig .tc := ⟨.hbm, 56, rfl⟩
abbrev main_call0_v13 : Ref sig .tc := ⟨.hbm, 57, rfl⟩
abbrev main_v23 : Ref sig .tc := ⟨.hbm, 58, rfl⟩
abbrev main_c_8 : Ref sig .tc := ⟨.hbm, 59, rfl⟩
abbrev main_v24 : Ref sig .tc := ⟨.hbm, 60, rfl⟩
abbrev main_v25 : Ref sig .tc := ⟨.hbm, 61, rfl⟩
abbrev main_call1_call0_c : Ref sig .tc := ⟨.hbm, 62, rfl⟩
abbrev main_call1_call0_v0 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_c_9 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_c_10 : Ref sig .tc := ⟨.hbm, 76, rfl⟩
abbrev main_v37 : Ref sig .tc := ⟨.hbm, 77, rfl⟩
abbrev main_c_11 : Ref sig .tc := ⟨.hbm, 78, rfl⟩
abbrev main_v38 : Ref sig .tc := ⟨.hbm, 79, rfl⟩
abbrev main_v39 : Ref sig .tc := ⟨.hbm, 80, rfl⟩
abbrev main_c_12 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_c : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_c_0 : Ref sig .tc := ⟨.hbm, 95, rfl⟩
abbrev main_call2_v12 : Ref sig .tc := ⟨.hbm, 96, rfl⟩
abbrev main_call2_v13 : Ref sig .tc := ⟨.hbm, 97, rfl⟩
abbrev main_v40 : Ref sig .tc := ⟨.hbm, 98, rfl⟩
abbrev main_c_13 : Ref sig .tc := ⟨.hbm, 99, rfl⟩
abbrev main_v41 : Ref sig .tc := ⟨.hbm, 100, rfl⟩
abbrev main_v42 : Ref sig .tc := ⟨.hbm, 101, rfl⟩
abbrev main_c_14 : Ref sig .tc := ⟨.hbm, 102, rfl⟩
abbrev main_call3_v0 : Ref sig .tc := ⟨.hbm, 103, rfl⟩
abbrev main_call3_c : Ref sig .tc := ⟨.hbm, 104, rfl⟩
abbrev main_call3_v1 : Ref sig .tc := ⟨.hbm, 105, rfl⟩
abbrev main_call3_c_0 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_call3_c_1 : Ref sig .tc := ⟨.hbm, 110, rfl⟩
abbrev main_call3_v5 : Ref sig .tc := ⟨.hbm, 111, rfl⟩
abbrev main_call3_v6 : Ref sig .tc := ⟨.hbm, 112, rfl⟩
abbrev main_call3_c_2 : Ref sig .tc := ⟨.hbm, 113, rfl⟩
abbrev main_call3_v7 : Ref sig .tc := ⟨.hbm, 114, rfl⟩
abbrev main_call3_v8 : Ref sig .tc := ⟨.hbm, 115, rfl⟩
abbrev main_call3_c_3 : Ref sig .tc := ⟨.hbm, 116, rfl⟩
abbrev main_call3_v9 : Ref sig .tc := ⟨.hbm, 117, rfl⟩
abbrev main_call3_v10 : Ref sig .tc := ⟨.hbm, 118, rfl⟩
abbrev main_call3_v11 : Ref sig .tc := ⟨.hbm, 119, rfl⟩
abbrev main_call3_v12 : Ref sig .tc := ⟨.hbm, 120, rfl⟩
abbrev main_call3_v13 : Ref sig .tc := ⟨.hbm, 121, rfl⟩
abbrev main_call3_v14 : Ref sig .tc := ⟨.hbm, 122, rfl⟩
abbrev main_v43 : Ref sig .tc := ⟨.hbm, 123, rfl⟩
abbrev main_c_15 : Ref sig .tc := ⟨.hbm, 124, rfl⟩
abbrev main_v44 : Ref sig .tc := ⟨.hbm, 125, rfl⟩
abbrev main_v45 : Ref sig .tc := ⟨.hbm, 126, rfl⟩
abbrev main_c_16 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_v49 : Ref sig .tc := ⟨.hbm, 131, rfl⟩
abbrev main_v50 : Ref sig .tc := ⟨.hbm, 132, rfl⟩
abbrev main_c_17 : Ref sig .tc := ⟨.hbm, 133, rfl⟩
abbrev main_call4_v0 : Ref sig .tc := ⟨.hbm, 134, rfl⟩
abbrev main_call4_c : Ref sig .tc := ⟨.hbm, 135, rfl⟩
abbrev main_call4_v1 : Ref sig .tc := ⟨.hbm, 136, rfl⟩
abbrev main_call4_c_0 : Ref sig .tc := ⟨.hbm, 137, rfl⟩
abbrev main_call4_v2 : Ref sig .tc := ⟨.hbm, 138, rfl⟩
abbrev main_call4_v3 : Ref sig .tc := ⟨.hbm, 139, rfl⟩
abbrev main_call4_v4 : Ref sig .tc := ⟨.hbm, 140, rfl⟩
abbrev main_call4_c_1 : Ref sig .tc := ⟨.hbm, 141, rfl⟩
abbrev main_call4_v5 : Ref sig .tc := ⟨.hbm, 142, rfl⟩
abbrev main_call4_v6 : Ref sig .tc := ⟨.hbm, 143, rfl⟩
abbrev main_call4_c_2 : Ref sig .tc := ⟨.hbm, 144, rfl⟩
abbrev main_call4_v7 : Ref sig .tc := ⟨.hbm, 145, rfl⟩
abbrev main_call4_v8 : Ref sig .tc := ⟨.hbm, 146, rfl⟩
abbrev main_call4_c_3 : Ref sig .tc := ⟨.hbm, 147, rfl⟩
abbrev main_call4_v9 : Ref sig .tc := ⟨.hbm, 148, rfl⟩
abbrev main_call4_v10 : Ref sig .tc := ⟨.hbm, 149, rfl⟩
abbrev main_call4_v11 : Ref sig .tc := ⟨.hbm, 150, rfl⟩
abbrev main_call4_v12 : Ref sig .tc := ⟨.hbm, 151, rfl⟩
abbrev main_call4_v13 : Ref sig .tc := ⟨.hbm, 152, rfl⟩
abbrev main_call4_v14 : Ref sig .tc := ⟨.hbm, 153, rfl⟩
abbrev main_v52 : Ref sig .tc := ⟨.hbm, 154, rfl⟩
abbrev main_c_18 : Ref sig .tc := ⟨.hbm, 155, rfl⟩
abbrev main_v53 : Ref sig .tc := ⟨.hbm, 156, rfl⟩
abbrev main_v54 : Ref sig .tc := ⟨.hbm, 157, rfl⟩
abbrev main_c_19 : Ref sig .tc := ⟨.hbm, 158, rfl⟩
abbrev main_v55 : Ref sig .tc := ⟨.hbm, 159, rfl⟩
abbrev main_v56 : Ref sig .tc := ⟨.hbm, 160, rfl⟩
abbrev main_v57 : Ref sig .tc := ⟨.hbm, 161, rfl⟩
abbrev main_v58 : Ref sig .tc := ⟨.hbm, 162, rfl⟩
abbrev main_v59 : Ref sig .tc := ⟨.hbm, 163, rfl⟩
abbrev main_v61 : Ref sig .tc := ⟨.hbm, 164, rfl⟩
abbrev main_c_20 : Ref sig .tc := ⟨.hbm, 165, rfl⟩
abbrev main_call5_v0 : Ref sig .tc := ⟨.hbm, 166, rfl⟩
abbrev main_call5_v1 : Ref sig .tc := ⟨.hbm, 167, rfl⟩
abbrev main_call5_v2 : Ref sig .tc := ⟨.hbm, 168, rfl⟩
abbrev main_call5_v3 : Ref sig .tc := ⟨.hbm, 169, rfl⟩
abbrev main_call5_v4 : Ref sig .tc := ⟨.hbm, 170, rfl⟩
abbrev main_call5_v5 : Ref sig .tc := ⟨.hbm, 171, rfl⟩
abbrev main_call5_v6 : Ref sig .tc := ⟨.hbm, 172, rfl⟩
abbrev main_call5_v7 : Ref sig .tc := ⟨.hbm, 173, rfl⟩
abbrev main_call5_v8 : Ref sig .tc := ⟨.hbm, 174, rfl⟩
abbrev main_call5_c : Ref sig .tc := ⟨.hbm, 175, rfl⟩
abbrev main_call5_v9 : Ref sig .tc := ⟨.hbm, 176, rfl⟩
abbrev main_call5_v10 : Ref sig .tc := ⟨.hbm, 177, rfl⟩
abbrev main_call5_v11 : Ref sig .tc := ⟨.hbm, 178, rfl⟩
abbrev main_call5_c_0 : Ref sig .tc := ⟨.hbm, 179, rfl⟩
abbrev main_call5_v12 : Ref sig .tc := ⟨.hbm, 180, rfl⟩
abbrev main_call5_v13 : Ref sig .tc := ⟨.hbm, 181, rfl⟩
abbrev main_v63 : Ref sig .tc := ⟨.hbm, 182, rfl⟩
abbrev main_v64_0 : Ref sig .tc := ⟨.hbm, 183, rfl⟩
abbrev main_v64_1 : Ref sig .tc := ⟨.hbm, 184, rfl⟩
abbrev main_c_21 : Ref sig .tc := ⟨.hbm, 185, rfl⟩
abbrev main_v65 : Ref sig .tc := ⟨.hbm, 186, rfl⟩
abbrev main_v66 : Ref sig .tc := ⟨.hbm, 187, rfl⟩
abbrev main_c_22 : Ref sig .tc := ⟨.hbm, 188, rfl⟩
abbrev main_v67 : Ref sig .tc := ⟨.hbm, 189, rfl⟩
abbrev main_v68 : Ref sig .tc := ⟨.hbm, 190, rfl⟩
abbrev main_v69 : Ref sig .tc := ⟨.hbm, 191, rfl⟩
abbrev main_v70 : Ref sig .tc := ⟨.hbm, 192, rfl⟩
abbrev main_v71 : Ref sig .tc := ⟨.hbm, 193, rfl⟩
abbrev main_c_23 : Ref sig .tc := ⟨.hbm, 194, rfl⟩
abbrev main_v72 : Ref sig .tc := ⟨.hbm, 195, rfl⟩
abbrev main_v73 : Ref sig .tc := ⟨.hbm, 196, rfl⟩
abbrev main_c_24 : Ref sig .tc := ⟨.hbm, 197, rfl⟩
abbrev main_v74 : Ref sig .tc := ⟨.hbm, 198, rfl⟩
abbrev main_v75 : Ref sig .tc := ⟨.hbm, 199, rfl⟩
abbrev main_v76 : Ref sig .tc := ⟨.hbm, 200, rfl⟩
abbrev main_v77 : Ref sig .tc := ⟨.hbm, 201, rfl⟩
abbrev main_v78 : Ref sig .tc := ⟨.hbm, 202, rfl⟩
abbrev main_v51 : Ref sig .tc := ⟨.smem, 0, rfl⟩
abbrev main_v60 : Ref sig .tc := ⟨.smem, 1, rfl⟩
abbrev main_v62 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![88], ![false]⟩

abbrev pre0 : Pipeline.Prefetch sig := ⟨3, ![main_v51.idx, main_v60.idx, main_v62.idx], fun | 0 => main_v51.names | 1 => main_v60.names | 2 => main_v62.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_8 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S256x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S32x128 : Shape := ⟨2, ![32, 128]⟩
abbrev S16384 : Shape := ⟨1, ![16384]⟩
abbrev S22528 : Shape := ⟨1, ![22528]⟩
abbrev S16384x256 : Shape := ⟨2, ![16384, 256]⟩
abbrev S16384x384 : Shape := ⟨2, ![16384, 384]⟩
abbrev S16x1024x256 : Shape := ⟨3, ![16, 1024, 256]⟩
abbrev S16x256x1024 : Shape := ⟨3, ![16, 256, 1024]⟩
abbrev S128x8x1024 : Shape := ⟨3, ![128, 8, 1024]⟩
abbrev S24x2 : Shape := ⟨2, ![24, 2]⟩
abbrev S_ : Shape := ⟨0, ![]⟩
abbrev S16384x512 : Shape := ⟨2, ![16384, 512]⟩
abbrev S16384x1024 : Shape := ⟨2, ![16384, 1024]⟩
abbrev S16384x2 : Shape := ⟨2, ![16384, 2]⟩
abbrev S16384x1 : Shape := ⟨2, ![16384, 1]⟩
abbrev S16 : Shape := ⟨1, ![16]⟩
abbrev S1x16 : Shape := ⟨2, ![1, 16]⟩
abbrev S16384x16 : Shape := ⟨2, ![16384, 16]⟩
abbrev S16384x16x256 : Shape := ⟨3, ![16384, 16, 256]⟩
abbrev S16384x16x1 : Shape := ⟨3, ![16384, 16, 1]⟩

abbrev nBuf : Space → Nat
  | .hbm => 88
  | .vmem => 0
  | .smem => 0
  | _ => 0

abbrev bufTy : (tb : Table) → Fin (tcTables nBuf tb) → BufTy
  | .hbm, ⟨0, _⟩ => ⟨S32x128, .f32⟩
  | .hbm, ⟨1, _⟩ => ⟨S16384, .i32⟩
  | .hbm, ⟨2, _⟩ => ⟨S16384, .i32⟩
  | .hbm, ⟨3, _⟩ => ⟨S22528, .i32⟩
  | .hbm, ⟨4, _⟩ => ⟨S16384x256, .i32⟩
  | .hbm, ⟨5, _⟩ => ⟨S16384x384, .i32⟩
  | .hbm, ⟨6, _⟩ => ⟨S16x1024x256, .f32⟩
  | .hbm, ⟨7, _⟩ => ⟨S16x1024x256, .f32⟩
  | .hbm, ⟨8, _⟩ => ⟨S16x256x1024, .f32⟩
  | .hbm, ⟨9, _⟩ => ⟨S128x8x1024, .f32⟩
  | .hbm, ⟨10, _⟩ => ⟨S24x2, .i32⟩
  | .hbm, ⟨11, _⟩ => ⟨S_, .i32⟩
  | .hbm, ⟨12, _⟩ => ⟨S16384x256, .i32⟩
  | .hbm, ⟨13, _⟩ => ⟨S16384x256, .i32⟩
  | .hbm, ⟨14, _⟩ => ⟨S16384x256, .f32⟩
  | .hbm, ⟨15, _⟩ => ⟨S_, .i32⟩
  | .hbm, ⟨16, _⟩ => ⟨S16384x256, .i32⟩
  | .hbm, ⟨17, _⟩ => ⟨S16384x256, .i32⟩
  | .hbm, ⟨18, _⟩ => ⟨S16384x256, .f32⟩
  | .hbm, ⟨19, _⟩ => ⟨S16384x512, .f32⟩
  | .hbm, ⟨20, _⟩ => ⟨S16384x256, .i32⟩
  | .hbm, ⟨21, _⟩ => ⟨S_, .i32⟩
  | .hbm, ⟨22, _⟩ => ⟨S16384x256, .i32⟩
  | .hbm, ⟨23, _⟩ => ⟨S16384x256, .i32⟩
  | .hbm, ⟨24, _⟩ => ⟨S16384x256, .f32⟩
  | .hbm, ⟨25, _⟩ => ⟨S_, .i32⟩
  | .hbm, ⟨26, _⟩ => ⟨S16384x256, .i32⟩
  | .hbm, ⟨27, _⟩ => ⟨S16384x256, .i32⟩
  | .hbm, ⟨28, _⟩ => ⟨S16384x256, .f32⟩
  | .hbm, ⟨29, _⟩ => ⟨S16384x512, .f32⟩
  | .hbm, ⟨30, _⟩ => ⟨S16384x1024, .f32⟩
  | .hbm, ⟨31, _⟩ => ⟨S16384x2, .i32⟩
  | .hbm, ⟨32, _⟩ => ⟨S16384x2, .f32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S16384x2, .i32⟩
  | .hbm, ⟨42, _⟩ => ⟨S16, .i32⟩
  | .hbm, ⟨43, _⟩ => ⟨S1x16, .i32⟩
  | .hbm, ⟨44, _⟩ => ⟨S16384x1, .i32⟩
  | .hbm, ⟨45, _⟩ => ⟨S16384x16, .i32⟩
  | .hbm, ⟨46, _⟩ => ⟨S16384x16, .i32⟩
  | .hbm, ⟨47, _⟩ => ⟨S16384x16, .i1⟩
  | .hbm, ⟨48, _⟩ => ⟨S16384x1, .f32⟩
  | .hbm, ⟨49, _⟩ => ⟨S_, .f32⟩
  | .hbm, ⟨50, _⟩ => ⟨S_, .f32⟩
  | .hbm, ⟨51, _⟩ => ⟨S16384x16, .f32⟩
  | .hbm, ⟨52, _⟩ => ⟨S16384x16, .f32⟩
  | .hbm, ⟨53, _⟩ => ⟨S16384x16, .f32⟩
  | .hbm, ⟨54, _⟩ => ⟨S_, .f32⟩
  | .hbm, ⟨55, _⟩ => ⟨S16384x16, .f32⟩
  | .hbm, ⟨56, _⟩ => ⟨S16384x16, .f32⟩
  | .hbm, ⟨57, _⟩ => ⟨S16384x1, .i32⟩
  | .hbm, ⟨58, _⟩ => ⟨S16384x16, .i32⟩
  | .hbm, ⟨59, _⟩ => ⟨S16384x16, .i32⟩
  | .hbm, ⟨60, _⟩ => ⟨S16384x16, .i1⟩
  | .hbm, ⟨61, _⟩ => ⟨S16384x1, .f32⟩
  | .hbm, ⟨62, _⟩ => ⟨S_, .f32⟩
  | .hbm, ⟨63, _⟩ => ⟨S_, .f32⟩
  | .hbm, ⟨64, _⟩ => ⟨S16384x16, .f32⟩
  | .hbm, ⟨65, _⟩ => ⟨S16384x16, .f32⟩
  | .hbm, ⟨66, _⟩ => ⟨S16384x16, .f32⟩
  | .hbm, ⟨67, _⟩ => ⟨S16384x16, .f32⟩
  | .hbm, ⟨68, _⟩ => ⟨S16384x16x256, .f32⟩
  | .hbm, ⟨69, _⟩ => ⟨S16384x16x256, .f32⟩
  | .hbm, ⟨70, _⟩ => ⟨S16384x16x256, .f32⟩
  | .hbm, ⟨71, _⟩ => ⟨S16384x16x256, .f32⟩
  | .hbm, ⟨72, _⟩ => ⟨S_, .f32⟩
  | .hbm, ⟨73, _⟩ => ⟨S16384x16x256, .f32⟩
  | .hbm, ⟨74, _⟩ => ⟨S16384x16x256, .f32⟩
  | .hbm, ⟨75, _⟩ => ⟨S_, .f32⟩
  | .hbm, ⟨76, _⟩ => ⟨S16384x16x256, .f32⟩
  | .hbm, ⟨77, _⟩ => ⟨S16384x16x256, .f32⟩
  | .hbm, ⟨78, _⟩ => ⟨S16384x16x256, .f32⟩
  | .hbm, ⟨79, _⟩ => ⟨S16384x16x256, .f32⟩
  | .hbm, ⟨80, _⟩ => ⟨S16384x16x1, .f32⟩
  | .hbm, ⟨81, _⟩ => ⟨S16384x16x256, .f32⟩
  | .hbm, ⟨82, _⟩ => ⟨S16384x16x256, .f32⟩
  | .hbm, ⟨83, _⟩ => ⟨S16384x1024, .f32⟩
  | .hbm, ⟨84, _⟩ => ⟨S16384x512, .f32⟩
  | .hbm, ⟨85, _⟩ => ⟨S16384x512, .bf16⟩
  | .hbm, ⟨86, _⟩ => ⟨S16384x512, .f32⟩
  | .hbm, ⟨87, _⟩ => ⟨S16384x512, .bf16⟩
  | _, _ => ⟨S32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩

abbrev nD : Nat := 1
abbrev τ : Topo := Topo.v7x

variable {F : FTy → Type} [FloatOps F]
-- ==== Proof.PairSame.lean ====
/-
  The two printings of the expert kernel's program have the same statements at machine words: those up to the sixtieth.
-/
module

public import proofs.«01_k».proof.Defs
public import proofs.«01_k».proof.Proof.Gen.Kernel2
public import proofs.«01_k».proof.Proof.Gen.Kernel2Ideal

@[expose] public section

set_option maxRecDepth 16384

noncomputable section

namespace Cert.Proof

open Idealize.ShloMosaic

attribute [local instance] Cert.Kernel2.Gen.facts Cert.Kernel2Ideal.Gen.facts

set_option maxHeartbeats 8000000 in
theorem part0_eq : @Cert.Kernel2.main_part0 Bits _ _ = @Cert.Kernel2Ideal.main_part0 Bits _ _ := rfl

end Cert.Proof

end
-- ==== Proof.PairSame1.lean ====
/-
  The two printings of the expert kernel's program have the same statements at machine words: those after the sixtieth.
-/
module

public import proofs.«01_k».proof.Defs
public import proofs.«01_k».proof.Proof.Gen.Kernel2
public import proofs.«01_k».proof.Proof.Gen.Kernel2Ideal

@[expose] public section

set_option maxRecDepth 16384

noncomputable section

namespace Cert.Proof

open Idealize.ShloMosaic

attribute [local instance] Cert.Kernel2.Gen.facts Cert.Kernel2Ideal.Gen.facts

set_option maxHeartbeats 8000000 in
theorem part1_eq : @Cert.Kernel2.main_part1 Bits _ _ = @Cert.Kernel2Ideal.main_part1 Bits _ _ := rfl

end Cert.Proof

end
-- ==== Proof.Spec.lean ====
/-
  What the slot kernel computes, as functions of its three arguments, and what one sixteen-lane step of it does to those functions.

  `posAt cls rank starts t` is token `t`'s slot: the start of its class plus its rank. `slotAfter … n` is the slot table once the first `n` tokens
  have been written over the table `j ↦ j mod 16384`: at a slot several tokens name, the last of them stays, both in the kernel (lanes and
  chunks run in ascending order) and in the reference's scatter (updates folded in ascending order); so nothing is assumed of the slots' being distinct.
-/
module

public import proofs.«01_k».proof.Proof.Gen.KernelIdeal
public import Idealize.ShloMosaic.Lib.ScatterToDense.Spec

@[expose] public section

noncomputable section

namespace Cert.Proof

open Cert.KernelIdeal
open Idealize.ShloMosaic
open Idealize.ShloMosaic.ScatterToDense (GS GS_add GS_succ)

/-- Token `t`'s place in the token arrays (a number past the last token wraps round; none is used). -/
def tok (t : ℕ) : S16384.Idx := fun a => ⟨t % 16384, by rw [Fin.eq_zero a]; exact Nat.mod_lt _ (by decide)⟩
/-- Class word `w`'s place in the table of starts (a word past the last class wraps round; none is used). -/
def cell (w : BitVec 32) : S32.Idx := fun a => ⟨w.toNat % 32, by rw [Fin.eq_zero a]; exact Nat.mod_lt _ (by decide)⟩

section

variable (cls rank : IVec S16384 32) (starts : IVec S32 32)

/-- Token `t`'s slot: its class's start plus its rank. -/
def posAt (t : ℕ) : BitVec 32 := starts (cell (cls (tok t))) + rank (tok t)
/-- Every token's slot. -/
def posF : IVec S16384 32 := fun j => posAt cls rank starts (j 0).val
/-- The slot table after the first `n` tokens. -/
def slotAfter (n : ℕ) : IVec S22528 32 := fun j =>
  GS (posAt cls rank starts) (BitVec.ofNat 32) (BitVec.ofNat 32 (j 0).val &&& 16383#32) (j 0).val n
/-- The whole slot table. -/
def slotF : IVec S22528 32 := slotAfter cls rank starts 16384

/-- The arguments are in range: every class is a row of the starts, every token's slot is one of the slots. -/
def InRange : Prop := (∀ j, (cls j).toNat < 32) ∧ ∀ t, (posAt cls rank starts t).toNat < 22528

end

/-- An index of a rank-one shape is its coordinate. -/
theorem idx1_ext {n : ℕ} {i j : (⟨1, ![n]⟩ : Shape).Idx} (h : (i 0).val = (j 0).val) : i = j := by
  funext a
  match a with
  | ⟨0, _⟩ => exact Fin.ext h

theorem tok_val (t : ℕ) (h : t < 16384) : ((tok t) 0).val = t := Nat.mod_eq_of_lt h
theorem tok_coord (j : S16384.Idx) : tok (j 0).val = j := idx1_ext (tok_val _ (j 0).isLt)
theorem cell_val (w : BitVec 32) (h : w.toNat < 32) : ((cell w) 0).val = w.toNat := Nat.mod_eq_of_lt h

/-- A fold over the lanes in order, followed through a family of states. -/
theorem foldl_lanes {β : Type} (n : ℕ) (st : β → Fin n → β) (φ : ℕ → β) (h : ∀ k : Fin n, st (φ k.val) k = φ (k.val + 1)) :
    (List.finRange n).foldl st (φ 0) = φ n := by
  induction n with
  | zero => rfl
  | succ n ih =>
    rw [List.finRange_succ_last, List.foldl_append, List.foldl_map]
    rw [ih (fun b k => st b k.castSucc) (fun k => h k.castSucc)]
    exact h (Fin.last n)

/-- Sixteen tokens' indexed store takes the table after `base` tokens to the table after `base + 16`. -/
theorem storeIdx_slotAfter {F : FTy → Type} [FloatOps F] (cls rank : IVec S16384 32) (starts : IVec S32 32) (base : ℕ) (v pay : IVec S16 32)
    (hv : ∀ x, v x = posAt cls rank starts (base + (x 0).val)) (hp : ∀ x, pay x = BitVec.ofNat 32 (base + (x 0).val))
    (h : ∀ a x, ((![v] : Fin 1 → IVec S16 32) a x).toNat < S22528.size a) :
    storeIdx (F := F) (s := S22528) (e := .i32) (slotAfter cls rank starts base) ![v] pay (fun _ => 1#1) false h = slotAfter cls rank starts (base + 16) := by
  unfold storeIdx
  refine foldl_lanes 16 _ (fun k => slotAfter cls rank starts (base + k)) fun k => ?_
  funext j
  have hk : ((Shape.ofLane (d := ![16]) k) 0).val = k.val := rfl
  dsimp only
  rw [if_pos (show (1#1 : BitVec 1) = 1 from rfl), if_neg (by decide : ¬ (false = true))]
  have e : slotAfter cls rank starts (base + (k.val + 1)) j
      = if (j 0).val = (posAt cls rank starts (base + k.val)).toNat then BitVec.ofNat 32 (base + k.val) else slotAfter cls rank starts (base + k.val) j :=
    GS_succ (base + k.val)
  rw [e]
  have hc : (∀ a, (j a).val = (idxAt ![v] h (Shape.ofLane k) a).val) ↔ (j 0).val = (posAt cls rank starts (base + k.val)).toNat := by
    constructor
    · intro H
      have := H 0
      rw [this]
      show (v (Shape.ofLane k)).toNat = _
      rw [hv, hk]
    · intro H a
      match a with
      | ⟨0, _⟩ =>
        show (j 0).val = (v (Shape.ofLane k)).toNat
        rw [hv, hk]; exact H
  by_cases H : (j 0).val = (posAt cls rank starts (base + k.val)).toNat
  · exact (if_pos (hc.mpr H)).trans (by rw [if_pos H, hp, hk])
  · exact (if_neg (mt hc.mp H)).trans (by rw [if_neg H])

/-- The word a loop's trip `t` starts its unit `u` at. -/
theorem word_at (t u : ℕ) :
    Scalar.addi (Scalar.addi 0#32 (Scalar.muli (Scf.iv 0#32 1#32 t) 128#32)) (BitVec.ofNat 32 (16 * u)) = BitVec.ofNat 32 (128 * t + 16 * u) := by
  show (0#32 + (0#32 + BitVec.ofNat 32 t * 1#32) * 128#32) + BitVec.ofNat 32 (16 * u) = _
  apply BitVec.eq_of_toNat_eq
  simp only [BitVec.toNat_add, BitVec.toNat_mul, BitVec.toNat_ofNat]
  omega

/-- Sixteen consecutive words from `w` on. -/
def lanes (w : BitVec 32) : IVec S16 32 := addi (iota .scVector S16 32 [0] Gen.iota_S16_d0_w32_scVector) (broadcast S16 w)

theorem lanes_apply (b : ℕ) (x : S16.Idx) : lanes (BitVec.ofNat 32 b) x = BitVec.ofNat 32 (b + (x 0).val) := by
  show BitVec.ofNat 32 _ + BitVec.ofNat 32 b = _
  rw [← BitVec.ofNat_add]
  congr 1
  show (0 * 16 + (x 0).val) + b = _
  omega

end Cert.Proof

end
-- ==== Proof.Steps.lean ====
/-
  The slot kernel's two loops, sixteen lanes at a time.

  Loop 1's body is eight `fillStep`s and loop 2's body eight `tokStep`s, each at its own offsets (`k0_t1_body_eq`, `k0_t2_body_eq`: by unfolding);
  one lemma says what a `fillStep` does to the slot scratch (`wp_fillStep`), one what a `tokStep` does to the position and slot scratches
  (`wp_tokStep`). What is held between steps: the slot scratch filled below `n` (`filled`), respectively the positions below `n` stored and
  the slot scratch at the table after `n` tokens (`placed`).
-/
module

public import proofs.«01_k».proof.Proof.Spec
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it, and the resource algebra -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

-- the kernel's memrefs as its body is called with them: the three operands, the two results, the five scratches
local notation "aC" => (Memref.whole Cert.KernelIdeal.main_arg0_scv : Memref Cert.KernelIdeal.sig Kind.scVector Space.hbm Cert.KernelIdeal.S16384 EltTy.i32)
local notation "aR" => (Memref.whole Cert.KernelIdeal.main_arg1_scv : Memref Cert.KernelIdeal.sig Kind.scVector Space.hbm Cert.KernelIdeal.S16384 EltTy.i32)
local notation "aS" => (Memref.whole Cert.KernelIdeal.main_v11_scv : Memref Cert.KernelIdeal.sig Kind.scVector Space.hbm Cert.KernelIdeal.S32 EltTy.i32)
local notation "oP" => (Memref.whole Cert.KernelIdeal.main_v12_0_scv : Memref Cert.KernelIdeal.sig Kind.scVector Space.hbm Cert.KernelIdeal.S16384 EltTy.i32)
local notation "oT" => (Memref.whole Cert.KernelIdeal.main_v12_1_scv : Memref Cert.KernelIdeal.sig Kind.scVector Space.hbm Cert.KernelIdeal.S22528 EltTy.i32)
local notation "sC" => (Memref.whole Cert.KernelIdeal.cc0_scratch0 : Memref Cert.KernelIdeal.sig Kind.scVector Space.vmem Cert.KernelIdeal.S16384 EltTy.i32)
local notation "sR" => (Memref.whole Cert.KernelIdeal.cc0_scratch1 : Memref Cert.KernelIdeal.sig Kind.scVector Space.vmem Cert.KernelIdeal.S16384 EltTy.i32)
local notation "sS" => (Memref.whole Cert.KernelIdeal.cc0_scratch2 : Memref Cert.KernelIdeal.sig Kind.scVector Space.vmem Cert.KernelIdeal.S32 EltTy.i32)
local notation "sP" => (Memref.whole Cert.KernelIdeal.cc0_scratch3 : Memref Cert.KernelIdeal.sig Kind.scVector Space.vmem Cert.KernelIdeal.S16384 EltTy.i32)
local notation "sT" => (Memref.whole Cert.KernelIdeal.cc0_scratch4 : Memref Cert.KernelIdeal.sig Kind.scVector Space.vmem Cert.KernelIdeal.S22528 EltTy.i32)

variable [FloatOps F]

abbrev cV (L : grid0.Coords) : Fin τ.nSC := (L 0).castLE hcore0
abbrev jV (L : grid0.Coords) : Fin τ.nSub := (L 1).castLE hsub0

/-- A program of the task `L`. -/
abbrev TProg (F : FTy → Type) (L : grid0.Coords) (α : Type) : Type 1 := Prog (TpuEff nD τ sig (Elt F) Λ₀ (.scVector (cV L) (jV L))) α

/-! ## The steps -/

/-- Sixteen slots filled: loaded (the store's old value), then stored. -/
def fillStep (L : grid0.Coords) (o : Fin 1 → ℕ) (h : ∀ a, o a + S16.size a ≤ S22528.size a) (w : BitVec 32) : TProg F L PUnit := do
  let _ ← Prog.lift (.load sT (Rect.unit (s := S22528) o S16.size h).toLoadRect (View.loadsAt_vmem h_S16))
  Prog.lift (.store sT (Rect.unit (s := S22528) o S16.size h) (andi (lanes w) (broadcast S16 16383#32)) Finset.univ (View.stores_vmem_bits_univ h_S16 rfl) (.inl rfl))

/-- Sixteen tokens placed: their classes loaded, their classes' starts gathered, their ranks loaded and added, the sums stored as their positions, and
    their numbers stored at the slots the positions name. `c₁`, `c₂` are what the body assumes of the gather's and of the scatter's indices. -/
def tokStep (L : grid0.Coords) (o : Fin 1 → ℕ) (h : ∀ a, o a + S16.size a ≤ S16384.size a) (o' : Fin 1 → ℕ) (h' : ∀ a, o' a + S16.size a ≤ S16384.size a)
    (c₁ c₂ : IVec S16 32 → Prop) (d₁ : ∀ v, Decidable (c₁ v)) (d₂ : ∀ v, Decidable (c₂ v))
    (i₁ : ∀ v, c₁ v → ∀ a x, ((![v] : Fin 1 → IVec S16 32) a x).toNat < S32.size a)
    (i₂ : ∀ v, c₂ v → ∀ a x, ((![v] : Fin 1 → IVec S16 32) a x).toNat < S22528.size a) (w : BitVec 32) : TProg F L PUnit := do
  let c : Vec F S16 .i32 ← Prog.lift (.load sC (Rect.unit (s := S16384) o S16.size h).toLoadRect (View.loadsAt_vmem h_S16))
  have hc : c₁ c := (← Prog.lift (TpuEff.assume (c₁ c) (d₁ c))).down
  let b : Vec F S16 .i32 ← SparseCore.vectorLoadIdx sS ![c] (i₁ c hc) (View.loads_vmem h_S32)
  let r : Vec F S16 .i32 ← Prog.lift (.load sR (Rect.unit (s := S16384) o' S16.size h').toLoadRect (View.loadsAt_vmem h_S16))
  have p : IVec S16 32 := addi b r
  have hp : c₂ p := (← Prog.lift (TpuEff.assume (c₂ p) (d₂ p))).down
  let _ ← Prog.lift (.load sP (Rect.unit (s := S16384) o' S16.size h').toLoadRect (View.loadsAt_vmem h_S16))
  Prog.lift (.store sP (Rect.unit (s := S16384) o' S16.size h') p Finset.univ (View.stores_vmem_bits_univ h_S16 rfl) (.inl rfl))
  SparseCore.vectorStoreIdx sT ![p] (lanes w) (fun _ => 1#1) false (i₂ p hp) (View.stores_vmem_bits_univ h_S22528 rfl)

/-- The word trip `t` starts its unit at `16 u` from. -/
abbrev wordOf (t : ℕ) (b : BitVec 32) : BitVec 32 := Scalar.addi (Scalar.addi 0#32 (Scalar.muli (Scf.iv 0#32 1#32 t) 128#32)) b

set_option maxRecDepth 65536 in
theorem k0_t1_body_eq (L : grid0.Coords) (t : Fin k0_t1_loop.trips) :
    k0_t1_body (F := F) L aC (Memref.isWhole_whole _) aR (Memref.isWhole_whole _) aS (Memref.isWhole_whole _) oP (Memref.isWhole_whole _) oT (Memref.isWhole_whole _)
        sC (Memref.isWhole_whole _) sR (Memref.isWhole_whole _) sS (Memref.isWhole_whole _) sP (Memref.isWhole_whole _) sT (Memref.isWhole_whole _)
        cc0_scoped0 cc0_scoped1 cc0_scoped2 cc0_scoped3 cc0_scoped4 (iota .scVector S16 32 [0] iota_S16_d0_w32_scVector) t ()
      = (do
        fillStep (F := F) L (k0_off1 t 0#32) (k0_off1_inb t 0) (wordOf t 0#32)
        fillStep (F := F) L (k0_off1 t 16#32) (k0_off1_inb t 1) (wordOf t 16#32)
        fillStep (F := F) L (k0_off1 t 32#32) (k0_off1_inb t 2) (wordOf t 32#32)
        fillStep (F := F) L (k0_off1 t 48#32) (k0_off1_inb t 3) (wordOf t 48#32)
        fillStep (F := F) L (k0_off1 t 64#32) (k0_off1_inb t 4) (wordOf t 64#32)
        fillStep (F := F) L (k0_off1 t 80#32) (k0_off1_inb t 5) (wordOf t 80#32)
        fillStep (F := F) L (k0_off1 t 96#32) (k0_off1_inb t 6) (wordOf t 96#32)
        fillStep (F := F) L (k0_off1 t 112#32) (k0_off1_inb t 7) (wordOf t 112#32)
        pure ⟨⟩ : TProg F L Unit) := rfl

set_option maxRecDepth 65536 in
set_option maxHeartbeats 2000000 in
theorem k0_t2_body_eq (L : grid0.Coords) (t : Fin k0_t2_loop.trips) :
    k0_t2_body (F := F) L aC (Memref.isWhole_whole _) aR (Memref.isWhole_whole _) aS (Memref.isWhole_whole _) oP (Memref.isWhole_whole _) oT (Memref.isWhole_whole _)
        sC (Memref.isWhole_whole _) sR (Memref.isWhole_whole _) sS (Memref.isWhole_whole _) sP (Memref.isWhole_whole _) sT (Memref.isWhole_whole _)
        cc0_scoped0 cc0_scoped1 cc0_scoped2 cc0_scoped3 cc0_scoped4 (iota .scVector S16 32 [0] iota_S16_d0_w32_scVector) t ()
      = (do
        tokStep (F := F) L (k0_off2 t) (k0_off2_inb t) (k0_off3 t) (k0_off3_inb t) k0_chk1 k0_chk2 k0_chk1.dec k0_chk2.dec k0_idx1_inb k0_idx2_inb (wordOf t 0#32)
        tokStep (F := F) L (k0_off4 t) (k0_off4_inb t) (k0_off5 t) (k0_off5_inb t) k0_chk3 k0_chk4 k0_chk3.dec k0_chk4.dec k0_idx3_inb k0_idx4_inb (wordOf t 16#32)
        tokStep (F := F) L (k0_off6 t) (k0_off6_inb t) (k0_off7 t) (k0_off7_inb t) k0_chk5 k0_chk6 k0_chk5.dec k0_chk6.dec k0_idx5_inb k0_idx6_inb (wordOf t 32#32)
        tokStep (F := F) L (k0_off8 t) (k0_off8_inb t) (k0_off9 t) (k0_off9_inb t) k0_chk7 k0_chk8 k0_chk7.dec k0_chk8.dec k0_idx7_inb k0_idx8_inb (wordOf t 48#32)
        tokStep (F := F) L (k0_off10 t) (k0_off10_inb t) (k0_off11 t) (k0_off11_inb t) k0_chk9 k0_chk10 k0_chk9.dec k0_chk10.dec k0_idx9_inb k0_idx10_inb (wordOf t 64#32)
        tokStep (F := F) L (k0_off12 t) (k0_off12_inb t) (k0_off13 t) (k0_off13_inb t) k0_chk11 k0_chk12 k0_chk11.dec k0_chk12.dec k0_idx11_inb k0_idx12_inb (wordOf t 80#32)
        tokStep (F := F) L (k0_off14 t) (k0_off14_inb t) (k0_off15 t) (k0_off15_inb t) k0_chk13 k0_chk14 k0_chk13.dec k0_chk14.dec k0_idx13_inb k0_idx14_inb (wordOf t 96#32)
        tokStep (F := F) L (k0_off16 t) (k0_off16_inb t) (k0_off17 t) (k0_off17_inb t) k0_chk15 k0_chk16 k0_chk15.dec k0_chk16.dec k0_idx15_inb k0_idx16_inb (wordOf t 112#32)
        pure ⟨⟩ : TProg F L Unit) := rfl

/-! ## What is held between steps -/

section Held

variable (d : Dev nD) (L : grid0.Coords)

/-- The task's thread. -/
abbrev thr (d : Dev nD) (L : grid0.Coords) : Thread nD τ := V d (cV L) (jV L)

/-- The slot scratch holds its fill below slot `n`. -/
def filled (n : ℕ) : sProp 𝕄 :=
  iprop(∃ f : Buf (Elt F) ((thr d L).loc cc0_scratch4), ⌜∀ j : S22528.Idx, (j 0).val < n → f j = BitVec.ofNat 32 (j 0).val &&& 16383#32⌝
    ∗ (thr d L).loc cc0_scratch4 ↦{fullShare} f)

variable (cls rank : IVec S16384 32) (starts : IVec S32 32)

/-- The three fetched operands, the positions of the tokens below `n`, the slot table after them. -/
def placed (n : ℕ) : sProp 𝕄 :=
  iprop(((thr d L).loc cc0_scratch0 ↦{fullShare} (cls : Buf (Elt F) ((thr d L).loc cc0_scratch0)))
    ∗ ((thr d L).loc cc0_scratch1 ↦{fullShare} (rank : Buf (Elt F) ((thr d L).loc cc0_scratch1)))
    ∗ ((thr d L).loc cc0_scratch2 ↦{fullShare} (starts : Buf (Elt F) ((thr d L).loc cc0_scratch2)))
    ∗ (∃ p : Buf (Elt F) ((thr d L).loc cc0_scratch3), ⌜∀ j : S16384.Idx, (j 0).val < n → p j = posF cls rank starts j⌝ ∗ (thr d L).loc cc0_scratch3 ↦{fullShare} p)
    ∗ ((thr d L).loc cc0_scratch4 ↦{fullShare} (slotAfter cls rank starts n : Buf (Elt F) ((thr d L).loc cc0_scratch4))))

/-- Sixteen lanes written at `b` of a rank-one array: lane `j - b` inside them, -/
theorem update_in {α : Type} {n b : ℕ} {f : (⟨1, ![n]⟩ : Shape).Idx → α} {w : S16.Idx → α} {h} {j : (⟨1, ![n]⟩ : Shape).Idx}
    (h₁ : b ≤ (j 0).val) (h₂ : (j 0).val < b + 16) :
    updateSlice (s := ⟨1, ![n]⟩) (u := S16) f w ![b] h j = w (Shape.ofLane ⟨(j 0).val - b, by show _ < 16; omega⟩) := by
  unfold updateSlice
  rw [dif_pos (fun a => by match a with | ⟨0, _⟩ => exact ⟨h₁, h₂⟩)]
  exact congrArg w (idx1_ext rfl)
/-- the old value outside. -/
theorem update_out {α : Type} {n b : ℕ} {f : (⟨1, ![n]⟩ : Shape).Idx → α} {w : S16.Idx → α} {h} {j : (⟨1, ![n]⟩ : Shape).Idx}
    (hj : (j 0).val < b) :
    updateSlice (s := ⟨1, ![n]⟩) (u := S16) f w ![b] h j = f j := by
  unfold updateSlice
  rw [dif_neg (fun hin => absurd (hin 0).1 (Nat.not_le.mpr hj))]

/-- One filling step. -/
theorem wp_fillStep {α : Type} {Q : α → sProp 𝕄} (b : ℕ) (o : Fin 1 → ℕ) (ho : o = ![b]) (h : ∀ a, o a + S16.size a ≤ S22528.size a) (w : BitVec 32)
    (hw : w = BitVec.ofNat 32 b) (k : PUnit → TProg F L α) :
    filled (F := F) d L b ⊢ iprop((filled (F := F) d L (b + 16) -∗ wp frame (wpE (defs₀ (F := F)) 𝒱₀ (thr d L) none) Set.univ (k ⟨⟩) Q)
      -∗ wp frame (wpE (defs₀ (F := F)) 𝒱₀ (thr d L) none) Set.univ (fillStep L o h w >>= k) Q) := by
  unfold filled fillStep
  iintro ⟨%f, %hf, H⟩ Hk
  iapply (wp_load_rect 𝒱₀ (thr d L) none Set.univ (m := sT) (r := Rect.unit (s := S22528) o S16.size h) (S := Finset.univ) (Finset.subset_univ _)) $$ H
  iintro H
  iapply (wp_store 𝒱₀ (thr d L) none Set.univ (m := sT) (r := Rect.unit (s := S22528) o S16.size h) (Mk := Finset.univ) (S := Finset.univ) (Finset.subset_univ _)) $$ H
  iintro H
  iapply Hk
  iexists _; isplitr
  swap; · iexact H
  ipureintro
  intro j hj
  subst ho
  rw [View.write_whole_slice_unit]
  by_cases hb : (j 0).val < b
  · exact (update_out hb).trans (hf j hb)
  · refine (update_in (Nat.le_of_not_lt hb) hj).trans ?_
    show lanes w _ &&& 16383#32 = _
    rw [hw, lanes_apply]
    congr 2
    show b + ((j 0).val - b) = (j 0).val
    omega

set_option maxHeartbeats 1000000 in
/-- One placing step. -/
theorem wp_tokStep {α : Type} {Q : α → sProp 𝕄} (hR : InRange cls rank starts) (b : ℕ) (hb : b + 16 ≤ 16384) (o : Fin 1 → ℕ) (ho : o = ![b])
    (h : ∀ a, o a + S16.size a ≤ S16384.size a) (o' : Fin 1 → ℕ) (ho' : o' = ![b]) (h' : ∀ a, o' a + S16.size a ≤ S16384.size a)
    (c₁ c₂ : IVec S16 32 → Prop) (d₁ : ∀ v, Decidable (c₁ v)) (d₂ : ∀ v, Decidable (c₂ v))
    (i₁ : ∀ v, c₁ v → ∀ a x, ((![v] : Fin 1 → IVec S16 32) a x).toNat < S32.size a)
    (i₂ : ∀ v, c₂ v → ∀ a x, ((![v] : Fin 1 → IVec S16 32) a x).toNat < S22528.size a)
    (e₁ : ∀ v : IVec S16 32, (∀ a x, ((![v] : Fin 1 → IVec S16 32) a x).toNat < S32.size a) → c₁ v)
    (e₂ : ∀ v : IVec S16 32, (∀ a x, ((![v] : Fin 1 → IVec S16 32) a x).toNat < S22528.size a) → c₂ v)
    (w : BitVec 32) (hw : w = BitVec.ofNat 32 b) (k : PUnit → TProg F L α) :
    placed (F := F) d L cls rank starts b ⊢ iprop((placed (F := F) d L cls rank starts (b + 16) -∗ wp frame (wpE (defs₀ (F := F)) 𝒱₀ (thr d L) none) Set.univ (k ⟨⟩) Q)
      -∗ wp frame (wpE (defs₀ (F := F)) 𝒱₀ (thr d L) none) Set.univ (tokStep L o h o' h' c₁ c₂ d₁ d₂ i₁ i₂ w >>= k) Q) := by
  subst ho ho'
  unfold placed tokStep
  simp only [bind_assoc]
  -- the classes the step loads, and their positions
  have hc : ∀ x : S16.Idx, ((sC).access (Rect.unit (s := S16384) ![b] S16.size h)).read (Elt F) (cls : Buf (Elt F) ((thr d L).loc cc0_scratch0)) x = cls (tok (b + (x 0).val)) := fun x =>
    congrArg cls (idx1_ext ((Nat.mod_eq_of_lt (show b + (x 0).val < 16384 by have : (x 0).val < 16 := (x 0).isLt; omega)).trans (by show _ = b + 1 * (x 0).val; omega)).symm)
  have hr : ∀ x : S16.Idx, ((sR).access (Rect.unit (s := S16384) ![b] S16.size h')).read (Elt F) (rank : Buf (Elt F) ((thr d L).loc cc0_scratch1)) x = rank (tok (b + (x 0).val)) := fun x =>
    congrArg rank (idx1_ext ((Nat.mod_eq_of_lt (show b + (x 0).val < 16384 by have : (x 0).val < 16 := (x 0).isLt; omega)).trans (by show _ = b + 1 * (x 0).val; omega)).symm)
  have hcs : c₁ (((sC).access (Rect.unit (s := S16384) ![b] S16.size h)).read (Elt F) (cls : Buf (Elt F) ((thr d L).loc cc0_scratch0))) := e₁ _ fun a x => by
    match a with
    | ⟨0, _⟩ => exact (congrArg BitVec.toNat (hc x)).trans_lt (hR.1 _)
  have hv : ∀ x : S16.Idx, addi (loadIdx (((sS).access (.whole S32)).read (Elt F) (starts : Buf (Elt F) ((thr d L).loc cc0_scratch2)))
        ![((sC).access (Rect.unit (s := S16384) ![b] S16.size h)).read (Elt F) (cls : Buf (Elt F) ((thr d L).loc cc0_scratch0))] (i₁ _ hcs))
      (((sR).access (Rect.unit (s := S16384) ![b] S16.size h')).read (Elt F) (rank : Buf (Elt F) ((thr d L).loc cc0_scratch1))) x
        = posAt cls rank starts (b + (x 0).val) := fun x => by
    refine congrArg₂ (· + ·) ((congrFun (Memref.read_access_whole (Elt F) cc0_scratch2 starts) _).trans (congrArg starts (idx1_ext ?_))) (hr x)
    refine Eq.trans ?_ (cell_val _ (hR.1 _)).symm
    show BitVec.toNat (w := 32) (((sC).access (Rect.unit (s := S16384) ![b] S16.size h)).read (Elt F) (cls : Buf (Elt F) ((thr d L).loc cc0_scratch0)) x) = _
    exact congrArg (BitVec.toNat (w := 32)) (hc x)
  have hps := e₂ _ fun a x => by
    match a with
    | ⟨0, _⟩ => exact (congrArg BitVec.toNat (hv x)).trans_lt (hR.2 _)
  iintro ⟨HC, HR, HS, ⟨%p, %hp, HP⟩, HT⟩ Hk
  iapply (wp_load_rect 𝒱₀ (thr d L) none Set.univ (m := sC) (r := Rect.unit (s := S16384) ![b] S16.size h) (S := Finset.univ) (Finset.subset_univ _)) $$ HC
  iintro HC
  iapply (wp_assume 𝒱₀ (thr d L) none Set.univ hcs)
  iapply (SparseCore.wp_vectorLoadIdx 𝒱₀ (thr d L) none Set.univ (base := sS) (hl := View.loads_vmem h_S32) (S := Finset.univ) (q := fullShare) (Finset.subset_univ _)) $$ HS
  iintro HS
  iapply (wp_load_rect 𝒱₀ (thr d L) none Set.univ (m := sR) (r := Rect.unit (s := S16384) ![b] S16.size h') (S := Finset.univ) (Finset.subset_univ _)) $$ HR
  iintro HR
  iapply (wp_assume 𝒱₀ (thr d L) none Set.univ hps)
  iapply (wp_load_rect 𝒱₀ (thr d L) none Set.univ (m := sP) (r := Rect.unit (s := S16384) ![b] S16.size h') (S := Finset.univ) (Finset.subset_univ _)) $$ HP
  iintro HP
  iapply (wp_store 𝒱₀ (thr d L) none Set.univ (m := sP) (r := Rect.unit (s := S16384) ![b] S16.size h') (Mk := Finset.univ) (S := Finset.univ) (Finset.subset_univ _)) $$ HP
  iintro HP
  ihave HT := (Entails.of_eq (show ((thr d L).loc cc0_scratch4 ↦{fullShare} (slotAfter cls rank starts b : Buf (Elt F) ((thr d L).loc cc0_scratch4)) : sProp 𝕄)
      = (((sT).access (.whole S22528)).loc (thr d L) ↦[((sT).access (.whole S22528)).set]{fullShare} slotAfter cls rank starts b) from
    congrArg (fun S => ((thr d L).loc cc0_scratch4 ↦[S]{fullShare} (slotAfter cls rank starts b : Buf (Elt F) ((thr d L).loc cc0_scratch4)) : sProp 𝕄))
      (Memref.set_access_whole cc0_scratch4).symm)) $$ HT
  iapply (SparseCore.wp_vectorStoreIdx 𝒱₀ (thr d L) none Set.univ (base := sT) (hs := View.stores_vmem_bits_univ h_S22528 rfl)) $$ HT
  iintro HT
  iapply Hk
  isplitl [HC]; · iexact HC
  isplitl [HR]; · iexact HR
  isplitl [HS]; · iexact HS
  isplitl [HP]
  · iexists _; isplitr
    swap; · iexact HP
    ipureintro
    intro j hj
    rw [View.write_whole_slice_unit]
    by_cases hlt : (j 0).val < b
    · exact (update_out hlt).trans (hp j hlt)
    · refine (update_in (Nat.le_of_not_lt hlt) hj).trans ((hv _).trans ?_)
      refine congrArg (posAt cls rank starts) ?_
      show b + ((j 0).val - b) = (j 0).val
      omega
  · rw [Memref.set_access_whole, Memref.write_access_whole_univ, Memref.read_access_whole]
    iapply (Entails.of_eq (congrArg (fun f : Buf (Elt F) ((thr d L).loc cc0_scratch4) => ((thr d L).loc cc0_scratch4 ↦{fullShare} f : sProp 𝕄))
      (storeIdx_slotAfter (F := F) cls rank starts b _ (lanes w) hv (fun x => by rw [hw, lanes_apply]) (i₂ _ hps))))
    iexact HT

/-- One trip of the filling loop. -/
theorem wp_fillTrip (t : Fin k0_t1_loop.trips) :
    filled (F := F) d L (128 * t.val) ⊢ wp frame (wpE (defs₀ (F := F)) 𝒱₀ (thr d L) none) Set.univ
      (k0_t1_body (F := F) L aC (Memref.isWhole_whole _) aR (Memref.isWhole_whole _) aS (Memref.isWhole_whole _) oP (Memref.isWhole_whole _) oT (Memref.isWhole_whole _)
        sC (Memref.isWhole_whole _) sR (Memref.isWhole_whole _) sS (Memref.isWhole_whole _) sP (Memref.isWhole_whole _) sT (Memref.isWhole_whole _)
        cc0_scoped0 cc0_scoped1 cc0_scoped2 cc0_scoped3 cc0_scoped4 (iota .scVector S16 32 [0] iota_S16_d0_w32_scVector) t ())
      fun _ => filled (F := F) d L (128 * (t.val + 1)) := by
  rw [k0_t1_body_eq]
  iintro H
  iapply (wp_fillStep d L (128 * t.val + 16 * 0) _ (k0_off1_eq t 0) _ _ (word_at t.val 0) _) $$ H; iintro H
  iapply (wp_fillStep d L (128 * t.val + 16 * 1) _ (k0_off1_eq t 1) _ _ (word_at t.val 1) _) $$ H; iintro H
  iapply (wp_fillStep d L (128 * t.val + 16 * 2) _ (k0_off1_eq t 2) _ _ (word_at t.val 2) _) $$ H; iintro H
  iapply (wp_fillStep d L (128 * t.val + 16 * 3) _ (k0_off1_eq t 3) _ _ (word_at t.val 3) _) $$ H; iintro H
  iapply (wp_fillStep d L (128 * t.val + 16 * 4) _ (k0_off1_eq t 4) _ _ (word_at t.val 4) _) $$ H; iintro H
  iapply (wp_fillStep d L (128 * t.val + 16 * 5) _ (k0_off1_eq t 5) _ _ (word_at t.val 5) _) $$ H; iintro H
  iapply (wp_fillStep d L (128 * t.val + 16 * 6) _ (k0_off1_eq t 6) _ _ (word_at t.val 6) _) $$ H; iintro H
  iapply (wp_fillStep d L (128 * t.val + 16 * 7) _ (k0_off1_eq t 7) _ _ (word_at t.val 7) _) $$ H; iintro H
  sl_step
  iexact H

/-- One trip of the placing loop. -/
theorem wp_tokTrip (hR : InRange cls rank starts) (t : Fin k0_t2_loop.trips) :
    placed (F := F) d L cls rank starts (128 * t.val) ⊢ wp frame (wpE (defs₀ (F := F)) 𝒱₀ (thr d L) none) Set.univ
      (k0_t2_body (F := F) L aC (Memref.isWhole_whole _) aR (Memref.isWhole_whole _) aS (Memref.isWhole_whole _) oP (Memref.isWhole_whole _) oT (Memref.isWhole_whole _)
        sC (Memref.isWhole_whole _) sR (Memref.isWhole_whole _) sS (Memref.isWhole_whole _) sP (Memref.isWhole_whole _) sT (Memref.isWhole_whole _)
        cc0_scoped0 cc0_scoped1 cc0_scoped2 cc0_scoped3 cc0_scoped4 (iota .scVector S16 32 [0] iota_S16_d0_w32_scVector) t ())
      fun _ => placed (F := F) d L cls rank starts (128 * (t.val + 1)) := by
  have ht : t.val < 128 := Nat.lt_of_lt_of_le t.isLt k0_t2_abs.2.1
  rw [k0_t2_body_eq]
  iintro H
  iapply (wp_tokStep d L cls rank starts hR (128 * t.val + 16 * 0) (by omega) _ (k0_off2_eq t) _ _ (k0_off3_eq t) _ _ _ _ _ _ _ (fun _ h => h) (fun _ h => h) _ (word_at t.val 0) _) $$ H; iintro H
  iapply (wp_tokStep d L cls rank starts hR (128 * t.val + 16 * 1) (by omega) _ (k0_off4_eq t) _ _ (k0_off5_eq t) _ _ _ _ _ _ _ (fun _ h => h) (fun _ h => h) _ (word_at t.val 1) _) $$ H; iintro H
  iapply (wp_tokStep d L cls rank starts hR (128 * t.val + 16 * 2) (by omega) _ (k0_off6_eq t) _ _ (k0_off7_eq t) _ _ _ _ _ _ _ (fun _ h => h) (fun _ h => h) _ (word_at t.val 2) _) $$ H; iintro H
  iapply (wp_tokStep d L cls rank starts hR (128 * t.val + 16 * 3) (by omega) _ (k0_off8_eq t) _ _ (k0_off9_eq t) _ _ _ _ _ _ _ (fun _ h => h) (fun _ h => h) _ (word_at t.val 3) _) $$ H; iintro H
  iapply (wp_tokStep d L cls rank starts hR (128 * t.val + 16 * 4) (by omega) _ (k0_off10_eq t) _ _ (k0_off11_eq t) _ _ _ _ _ _ _ (fun _ h => h) (fun _ h => h) _ (word_at t.val 4) _) $$ H; iintro H
  iapply (wp_tokStep d L cls rank starts hR (128 * t.val + 16 * 5) (by omega) _ (k0_off12_eq t) _ _ (k0_off13_eq t) _ _ _ _ _ _ _ (fun _ h => h) (fun _ h => h) _ (word_at t.val 5) _) $$ H; iintro H
  iapply (wp_tokStep d L cls rank starts hR (128 * t.val + 16 * 6) (by omega) _ (k0_off14_eq t) _ _ (k0_off15_eq t) _ _ _ _ _ _ _ (fun _ h => h) (fun _ h => h) _ (word_at t.val 6) _) $$ H; iintro H
  iapply (wp_tokStep d L cls rank starts hR (128 * t.val + 16 * 7) (by omega) _ (k0_off16_eq t) _ _ (k0_off17_eq t) _ _ _ _ _ _ _ (fun _ h => h) (fun _ h => h) _ (word_at t.val 7) _) $$ H; iintro H
  sl_step
  iexact H

end Held

end Cert.Proof

end
-- ==== Proof.Tile.lean ====
/-
  One task of the slot kernel, from its share of the three operands and its blocks of the two results to the same with the blocks written.

  The task fetches the three operands whole, runs the two loops (Steps.lean) and copies its block of the positions and its block of the slot
  table out. The thirty-two tasks are numbered by `wid` (twice the subcore plus the core, the body's own number); task `w` holds the `w`-th
  of thirty-two shares of each operand and the `w`-th of thirty-two blocks of each result.
-/
module

public import proofs.«01_k».proof.Proof.Steps
public import Idealize.ShloMosaic.Lib.ShareLeaves

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type}

local notation "𝕄" => MT nD τ sig (HIx 1) (Elt F) ℕ UU ℕ

-- the kernel's memrefs as its body is called with them: the three operands, the two results, the five scratches
local notation "aC" => (Memref.whole Cert.KernelIdeal.main_arg0_scv : Memref Cert.KernelIdeal.sig Kind.scVector Space.hbm Cert.KernelIdeal.S16384 EltTy.i32)
local notation "aR" => (Memref.whole Cert.KernelIdeal.main_arg1_scv : Memref Cert.KernelIdeal.sig Kind.scVector Space.hbm Cert.KernelIdeal.S16384 EltTy.i32)
local notation "aS" => (Memref.whole Cert.KernelIdeal.main_v11_scv : Memref Cert.KernelIdeal.sig Kind.scVector Space.hbm Cert.KernelIdeal.S32 EltTy.i32)
local notation "oP" => (Memref.whole Cert.KernelIdeal.main_v12_0_scv : Memref Cert.KernelIdeal.sig Kind.scVector Space.hbm Cert.KernelIdeal.S16384 EltTy.i32)
local notation "oT" => (Memref.whole Cert.KernelIdeal.main_v12_1_scv : Memref Cert.KernelIdeal.sig Kind.scVector Space.hbm Cert.KernelIdeal.S22528 EltTy.i32)
local notation "sC" => (Memref.whole Cert.KernelIdeal.cc0_scratch0 : Memref Cert.KernelIdeal.sig Kind.scVector Space.vmem Cert.KernelIdeal.S16384 EltTy.i32)
local notation "sR" => (Memref.whole Cert.KernelIdeal.cc0_scratch1 : Memref Cert.KernelIdeal.sig Kind.scVector Space.vmem Cert.KernelIdeal.S16384 EltTy.i32)
local notation "sS" => (Memref.whole Cert.KernelIdeal.cc0_scratch2 : Memref Cert.KernelIdeal.sig Kind.scVector Space.vmem Cert.KernelIdeal.S32 EltTy.i32)
local notation "sP" => (Memref.whole Cert.KernelIdeal.cc0_scratch3 : Memref Cert.KernelIdeal.sig Kind.scVector Space.vmem Cert.KernelIdeal.S16384 EltTy.i32)
local notation "sT" => (Memref.whole Cert.KernelIdeal.cc0_scratch4 : Memref Cert.KernelIdeal.sig Kind.scVector Space.vmem Cert.KernelIdeal.S22528 EltTy.i32)

variable (m : (ℓ : Loc nD τ sig) → Buf (Elt F) ℓ)

/-! ## The arrays, the tasks' numbers and blocks -/

abbrev cLoc (d : Dev nD) : Loc nD τ sig := (SparseCore.T d).loc main_arg0
abbrev rLoc (d : Dev nD) : Loc nD τ sig := (SparseCore.T d).loc main_arg1
abbrev sLoc (d : Dev nD) : Loc nD τ sig := (SparseCore.T d).loc main_v11
abbrev pLoc (d : Dev nD) : Loc nD τ sig := (SparseCore.T d).loc main_v12_0
abbrev tLoc (d : Dev nD) : Loc nD τ sig := (SparseCore.T d).loc main_v12_1

/-- The three operands as arrays of words. -/
def clsOf (d : Dev nD) : IVec S16384 32 := m (cLoc d)
def rankOf (d : Dev nD) : IVec S16384 32 := m (rLoc d)
def startsOf (d : Dev nD) : IVec S32 32 := m (sLoc d)

/-- The positions and the slot table the kernel leaves. -/
def posOut (d : Dev nD) : Buf (Elt F) (pLoc d) := posF (clsOf m d) (rankOf m d) (startsOf m d)
def slotOut (d : Dev nD) : Buf (Elt F) (tLoc d) := slotF (clsOf m d) (rankOf m d) (startsOf m d)

theorem hdivP : 32 ∣ S16384.size 0 := ⟨512, rfl⟩
theorem hdivT : 32 ∣ S22528.size 0 := ⟨704, rfl⟩
/-- Block `w` of the positions and of the slot table. -/
abbrev blkP (w : Fin 32) : Rect S16384 := Rect.part (s := S16384) (a₀ := 0) hdivP w
abbrev blkT (w : Fin 32) : Rect S22528 := Rect.part (s := S22528) (a₀ := 0) hdivT w

/-- The task's number: twice its subcore plus its core. -/
def wid (c : Fin 2) (i : Fin 16) : Fin 32 := ⟨2 * i.val + c.val, by omega⟩
abbrev widL (L : grid0.Coords) : Fin 32 := ⟨2 * (L 1).val + (L 0).val, by have h₀ : (L 0).val < 2 := (L 0).isLt; have h₁ : (L 1).val < 16 := (L 1).isLt; omega⟩

/-- The blocks as the body spells them. -/
abbrev blkKP (L : grid0.Coords) : Rect S16384 := Rect.unit (s := S16384) (k0_off18 L) S512.size (k0_off18_inb L)
abbrev blkKT (L : grid0.Coords) : Rect S22528 := Rect.unit (s := S22528) (k0_off19 L) S704.size (k0_off19_inb L)

theorem blkKP_eq (L : grid0.Coords) : blkKP L = blkP (widL L) := by
  unfold blkKP blkP Rect.part Rect.block
  congr 1 <;> funext a
  · rw [k0_off18_eq]
    match a with
    | ⟨0, _⟩ => simp [Shape.partIx, Shape.partSize]; omega
  · match a with
    | ⟨0, _⟩ => simp [Shape.partSize]
theorem blkKT_eq (L : grid0.Coords) : blkKT L = blkT (widL L) := by
  unfold blkKT blkT Rect.part Rect.block
  congr 1 <;> funext a
  · rw [k0_off19_eq]
    match a with
    | ⟨0, _⟩ => simp [Shape.partIx, Shape.partSize]; omega
  · match a with
    | ⟨0, _⟩ => simp [Shape.partSize]

theorem set_blkKP (L : grid0.Coords) : ((oP).slice (blkKP L) (fun _ => rfl)).view.set = (blkP (widL L)).set := by
  rw [← blkKP_eq]
  show ((View.whole (main_v12_0_scv : Ref sig .scVector)).slice (blkKP L)).set = _
  rw [View.set_slice]; exact Finset.map_refl
theorem set_blkKT (L : grid0.Coords) : ((oT).slice (blkKT L) (fun _ => rfl)).view.set = (blkT (widL L)).set := by
  rw [← blkKT_eq]
  show ((View.whole (main_v12_1_scv : Ref sig .scVector)).slice (blkKT L)).set = _
  rw [View.set_slice]; exact Finset.map_refl

theorem trips1 : Scf.trips k0_t1_loop.lb k0_t1_loop.ub k0_t1_loop.st = 176 := by decide
theorem trips2 : Scf.trips k0_t2_loop.lb k0_t2_loop.ub k0_t2_loop.st = 128 := by decide

/-- A block written whole with what `g` has there holds `g` on the block. -/
theorem writes_blk {κ : Kind} {sp : Space} {s : Shape} {e : EltTy} {Val : EltTy → Type} {v : View sig κ sp s e} (f g : v.ty.Contents Val)
    (w : s.Idx → Val e) (h : ∀ x, v.read Val g x = w x) : ∀ i ∈ v.set, v.writes Val f [⟨Rect.whole s, w⟩] i = g i := by
  intro i hi
  obtain ⟨x, -, rfl⟩ := Finset.mem_map.mp hi
  have hx : (v.slice (Rect.whole s)).emb x = v.emb x := congrArg v.emb (by funext a; exact Fin.ext (by simp [Rect.whole]))
  rw [View.writes_singleton, ← hx, View.write_emb_of_mem _ _ (Finset.mem_univ _), ← h, View.read_apply, cast_cast, cast_eq, hx]

/-! ## What a task holds -/

/-- Task `w`'s share of the operands, with its two blocks at contents `p`, `t`. -/
def taskPts (d : Dev nD) (w : Fin 32) (p : Buf (Elt F) (pLoc d)) (t : Buf (Elt F) (tLoc d)) : sProp 𝕄 :=
  iprop((cLoc d ↦{leaf 5 fullShare w} m (cLoc d)) ∗ (rLoc d ↦{leaf 5 fullShare w} m (rLoc d)) ∗ (sLoc d ↦{leaf 5 fullShare w} m (sLoc d))
    ∗ (pLoc d ↦[(blkP w).set]{fullShare} p) ∗ tLoc d ↦[(blkT w).set]{fullShare} t)

variable [FloatOps F]

section Tile

variable (d : Dev nD) (L : grid0.Coords)

/-- The scoped DMA cells the body names. -/
abbrev dcell (d : Dev nD) (L : grid0.Coords) (s : DmaSems sig S_) : GSem nD τ sig := (thr d L, .dma s.sem)

theorem ownSems0_V :
    (ownSems0 (thr d L) : sProp 𝕄)
      = iprop(semVal (dcell d L cc0_scoped0) 0 ∗ semVal (dcell d L cc0_scoped1) 0 ∗ semVal (dcell d L cc0_scoped2) 0 ∗ semVal (dcell d L cc0_scoped3) 0
          ∗ semVal (dcell d L cc0_scoped4) 0
          ∗ bigSep ((((((ownCells (thr d L)).erase (dcell d L cc0_scoped0)).erase (dcell d L cc0_scoped1)).erase (dcell d L cc0_scoped2)).erase
              (dcell d L cc0_scoped3)).erase (dcell d L cc0_scoped4)) fun g => semVal g 0) := by
  unfold SparseCore.Cfg.ownSems0
  have hm : ∀ s : DmaSems sig S_, (SemLoc.dma s.sem : SemLoc sig).isScoped .scVector = true → dcell d L s ∈ ownCells (thr d L) :=
    fun s h => (mem_ownCells (g := dcell d L s)).mpr ⟨rfl, h⟩
  have hn : ∀ s s' : DmaSems sig S_, (SemLoc.dma s.sem : SemLoc sig) ≠ SemLoc.dma s'.sem → dcell d L s ≠ dcell d L s' :=
    fun s s' h e => h (congrArg Prod.snd e)
  rw [SparseCore.bigSep_erase' (hm cc0_scoped0 (by decide)),
    SparseCore.bigSep_erase' (Finset.mem_erase.mpr ⟨hn cc0_scoped1 cc0_scoped0 (by decide), hm cc0_scoped1 (by decide)⟩),
    SparseCore.bigSep_erase' (Finset.mem_erase.mpr ⟨hn cc0_scoped2 cc0_scoped1 (by decide), Finset.mem_erase.mpr ⟨hn cc0_scoped2 cc0_scoped0 (by decide),
      hm cc0_scoped2 (by decide)⟩⟩),
    SparseCore.bigSep_erase' (Finset.mem_erase.mpr ⟨hn cc0_scoped3 cc0_scoped2 (by decide), Finset.mem_erase.mpr ⟨hn cc0_scoped3 cc0_scoped1 (by decide),
      Finset.mem_erase.mpr ⟨hn cc0_scoped3 cc0_scoped0 (by decide), hm cc0_scoped3 (by decide)⟩⟩⟩),
    SparseCore.bigSep_erase' (Finset.mem_erase.mpr ⟨hn cc0_scoped4 cc0_scoped3 (by decide), Finset.mem_erase.mpr ⟨hn cc0_scoped4 cc0_scoped2 (by decide),
      Finset.mem_erase.mpr ⟨hn cc0_scoped4 cc0_scoped1 (by decide), Finset.mem_erase.mpr ⟨hn cc0_scoped4 cc0_scoped0 (by decide),
        hm cc0_scoped4 (by decide)⟩⟩⟩⟩)]

/-- One of the task's own buffers, as a device buffer. -/
abbrev dref (L : grid0.Coords) (b : Ref sig .scVector) : DevRef τ sig := (Proc.scVector (cV L) (jV L)).devRef b

theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f)
          ∗ bigSep ((((((ownRefs (τ := τ) (.scVector (cV L) (jV L))).erase (dref L cc0_scratch0)).erase (dref L cc0_scratch1)).erase (dref L cc0_scratch2)).erase
              (dref L cc0_scratch3)).erase (dref L cc0_scratch4)) fun b => iprop(∃ f, ((d, b) : Loc nD τ sig) ↦{fullShare} f)) := by
  unfold SparseCore.Cfg.ownBufs
  have hm : ∀ b : Ref sig .scVector, _ → dref L b ∈ ownRefs (τ := τ) (.scVector (cV L) (jV L)) :=
    fun b h => SparseCore.Cfg.mem_ownRefs_of_owner (p := Proc.scVector (cV L) (jV L)) (b := dref L b) h
  have hn : ∀ b b' : Ref sig .scVector, b ≠ b' → dref L b ≠ dref L b' := fun b b' h e => h (Proc.devRef_injective _ e)
  refine (SparseCore.bigSep_erase' (hm cc0_scratch0 rfl)).trans ?_
  rw [SparseCore.bigSep_erase' (Finset.mem_erase.mpr ⟨hn cc0_scratch1 cc0_scratch0 (by decide), hm cc0_scratch1 rfl⟩),
    SparseCore.bigSep_erase' (Finset.mem_erase.mpr ⟨hn cc0_scratch2 cc0_scratch1 (by decide), Finset.mem_erase.mpr ⟨hn cc0_scratch2 cc0_scratch0 (by decide),
      hm cc0_scratch2 rfl⟩⟩),
    SparseCore.bigSep_erase' (Finset.mem_erase.mpr ⟨hn cc0_scratch3 cc0_scratch2 (by decide), Finset.mem_erase.mpr ⟨hn cc0_scratch3 cc0_scratch1 (by decide),
      Finset.mem_erase.mpr ⟨hn cc0_scratch3 cc0_scratch0 (by decide), hm cc0_scratch3 rfl⟩⟩⟩),
    SparseCore.bigSep_erase' (Finset.mem_erase.mpr ⟨hn cc0_scratch4 cc0_scratch3 (by decide), Finset.mem_erase.mpr ⟨hn cc0_scratch4 cc0_scratch2 (by decide),
      Finset.mem_erase.mpr ⟨hn cc0_scratch4 cc0_scratch1 (by decide), Finset.mem_erase.mpr ⟨hn cc0_scratch4 cc0_scratch0 (by decide),
        hm cc0_scratch4 rfl⟩⟩⟩⟩)]

/-- The blocks in the body's spelling. -/
theorem pts_blkP (f : Buf (Elt F) (pLoc d)) :
    (((oP).slice (blkKP L) (fun _ => rfl)).view.loc (thr d L) ↦[((oP).slice (blkKP L) (fun _ => rfl)).view.set]{fullShare} f : sProp 𝕄)
      = pLoc d ↦[(blkP (widL L)).set]{fullShare} f := by rw [set_blkKP]
theorem pts_blkT (f : Buf (Elt F) (tLoc d)) :
    (((oT).slice (blkKT L) (fun _ => rfl)).view.loc (thr d L) ↦[((oT).slice (blkKT L) (fun _ => rfl)).view.set]{fullShare} f : sProp 𝕄)
      = tLoc d ↦[(blkT (widL L)).set]{fullShare} f := by rw [set_blkKT]

set_option maxHeartbeats 4000000 in
/-- The task's body. -/
theorem tile_body (hF : (K (F := F)).Facts) (hR : InRange (clsOf m d) (rankOf m d) (startsOf m d)) (O : CellTallies nD τ sig (HIx 1)) (W : Waits sig (HIx 1))
    (hO : ∀ g, O g none = 0) :
    iprop(levAts (K (F := F)).L (K (F := F)).lev ∗ emp ∗ taskPts m d (widL L) (m (pLoc d)) (m (tLoc d))
        ∗ scopedBufs (thr d L) ∗ scopedSems0 (thr d L) ∗ owes (thr d L) O W)
      ⊢ wp frame (wpE (defs₀ (F := F)) 𝒱₀ (thr d L) none) Set.univ
          (cc0_sc_slots L aC (Memref.isWhole_whole _) aR (Memref.isWhole_whole _) aS (Memref.isWhole_whole _) oP (Memref.isWhole_whole _) oT (Memref.isWhole_whole _)
            sC (Memref.isWhole_whole _) sR (Memref.isWhole_whole _) sS (Memref.isWhole_whole _) sP (Memref.isWhole_whole _) sT (Memref.isWhole_whole _)
            cc0_scoped0 cc0_scoped1 cc0_scoped2 cc0_scoped3 cc0_scoped4)
          fun _ => iprop(taskPts m d (widL L) (posOut m d) (slotOut m d)
            ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_V, ownBufs_V]
  unfold taskPts
  iintro ⟨#Hlv, -, ⟨Hc, Hr, Hs, Hp, Ht⟩, ⟨⟨%f0, H0⟩, ⟨%f1, H1⟩, ⟨%f2, H2⟩, ⟨%f3, H3⟩, ⟨%f4, H4⟩, Hbufs⟩, ⟨Hd0, Hd1, Hd2, Hd3, Hd4, Hsems⟩, HO⟩
  ihave Hmw := (show levAts (K (F := F)).L (K (F := F)).lev ⊢ Transfers.MayWaits (thr d L) (default : HIx 1) O from
    (K (F := F)).mayWaits_none (thr := thr d L) hO) $$ Hlv
  ihave Hc := (Entails.of_eq (show (cLoc d ↦{leaf 5 fullShare (widL L)} m (cLoc d) : sProp 𝕄) = ((aC).view.loc (thr d L) ↦{leaf 5 fullShare (widL L)} m (cLoc d)) from rfl)) $$ Hc
  ihave Hr := (Entails.of_eq (show (rLoc d ↦{leaf 5 fullShare (widL L)} m (rLoc d) : sProp 𝕄) = ((aR).view.loc (thr d L) ↦{leaf 5 fullShare (widL L)} m (rLoc d)) from rfl)) $$ Hr
  ihave Hs := (Entails.of_eq (show (sLoc d ↦{leaf 5 fullShare (widL L)} m (sLoc d) : sProp 𝕄) = ((aS).view.loc (thr d L) ↦{leaf 5 fullShare (widL L)} m (sLoc d)) from rfl)) $$ Hs
  ihave Hp := (Entails.of_eq (pts_blkP (F := F) d L _).symm) $$ Hp
  ihave Ht := (Entails.of_eq (pts_blkT (F := F) d L _).symm) $$ Ht
  ihave H0 := (Entails.of_eq (show ((thr d L).loc cc0_scratch0 ↦{fullShare} f0 : sProp 𝕄) = ((sC).view.loc (thr d L) ↦{fullShare} f0) from rfl)) $$ H0
  ihave H1 := (Entails.of_eq (show ((thr d L).loc cc0_scratch1 ↦{fullShare} f1 : sProp 𝕄) = ((sR).view.loc (thr d L) ↦{fullShare} f1) from rfl)) $$ H1
  ihave H2 := (Entails.of_eq (show ((thr d L).loc cc0_scratch2 ↦{fullShare} f2 : sProp 𝕄) = ((sS).view.loc (thr d L) ↦{fullShare} f2) from rfl)) $$ H2
  ihave H3 := (Entails.of_eq (show ((thr d L).loc cc0_scratch3 ↦{fullShare} f3 : sProp 𝕄) = ((sP).view.loc (thr d L) ↦{fullShare} f3) from rfl)) $$ H3
  ihave H4 := (Entails.of_eq (show ((thr d L).loc cc0_scratch4 ↦{fullShare} f4 : sProp 𝕄) = ((sT).view.loc (thr d L) ↦{fullShare} f4) from rfl)) $$ H4
  rw [cc0_sc_slots_eq_skeleton]
  unfold cc0_sc_slots_skel
  sl_exec
  sl_for (fun (k : ℕ) (_ : PUnit) => filled (F := F) d L (128 * k)) $$ [H4]
  case region => exact fun k _ => wp_fillTrip d L k
  · unfold filled
    iexists f4; isplitr
    · ipureintro; intro j hj; omega
    · iexact H4
  iintro %_ HI
  unfold filled
  icases HI with ⟨%g4, %hg4, H4⟩
  have e4 : g4 = (slotAfter (clsOf m d) (rankOf m d) (startsOf m d) 0 : Buf (Elt F) ((thr d L).loc cc0_scratch4)) := by
    funext j
    exact hg4 j (by rw [trips1]; exact (j 0).isLt)
  have eC : View.write (Elt F) (sC).view f0 (tile_body.sl.dma0 m d) Finset.univ = (clsOf m d : Buf (Elt F) ((thr d L).loc cc0_scratch0)) := by
    rw [View.write_whole_univ]; rfl
  have eR : View.write (Elt F) (sR).view f1 (tile_body.sl.dma0_1 m d) Finset.univ = (rankOf m d : Buf (Elt F) ((thr d L).loc cc0_scratch1)) := by
    rw [View.write_whole_univ]; rfl
  have eS : View.write (Elt F) (sS).view f2 (tile_body.sl.dma0_2 m d) Finset.univ = (startsOf m d : Buf (Elt F) ((thr d L).loc cc0_scratch2)) := by
    rw [View.write_whole_univ]; rfl
  rw [e4, eC, eR, eS]
  sl_for (fun (k : ℕ) (_ : PUnit) => placed (F := F) d L (clsOf m d) (rankOf m d) (startsOf m d) (128 * k)) $$ [H0 H1 H2 H3 H4]
  case region => exact fun k _ => wp_tokTrip d L _ _ _ hR k
  · unfold placed
    isplitl [H0]; · iexact H0
    isplitl [H1]; · iexact H1
    isplitl [H2]; · iexact H2
    isplitl [H3]
    · iexists f3; isplitr
      · ipureintro; intro j hj; omega
      · iexact H3
    · iexact H4
  iintro %_ HI
  unfold placed
  icases HI with ⟨H0, H1, H2, ⟨%g3, %hg3, H3⟩, H4⟩
  have e3 : g3 = (posF (clsOf m d) (rankOf m d) (startsOf m d) : Buf (Elt F) ((thr d L).loc cc0_scratch3)) := by
    funext j
    exact hg3 j (by rw [trips2]; exact (j 0).isLt)
  rw [e3, trips2]
  ihave H3 := (Entails.of_eq (show ((thr d L).loc cc0_scratch3 ↦{fullShare} (posF (clsOf m d) (rankOf m d) (startsOf m d) : Buf (Elt F) ((thr d L).loc cc0_scratch3)) : sProp 𝕄)
    = ((sP).view.loc (thr d L) ↦{fullShare} (posF (clsOf m d) (rankOf m d) (startsOf m d))) from rfl)) $$ H3
  ihave H4 := (Entails.of_eq (show ((thr d L).loc cc0_scratch4 ↦{fullShare} (slotAfter (clsOf m d) (rankOf m d) (startsOf m d) (128 * 128) : Buf (Elt F) ((thr d L).loc cc0_scratch4)) : sProp 𝕄)
    = ((sT).view.loc (thr d L) ↦{fullShare} (slotF (clsOf m d) (rankOf m d) (startsOf m d))) from rfl)) $$ H4
  sl_exec
  sl_step
  isplitl [Hc Hr Hs Hp Ht]
  · isplitl [Hc]; · iexact Hc
    isplitl [Hr]; · iexact Hr
    isplitl [Hs]; · iexact Hs
    isplitl [Hp]
    · iapply (Entails.of_eq ((pointsTo_congr (writes_blk (v := ((oP).slice (blkKP L) (fun _ => rfl)).view) (Val := Elt F) (m (pLoc d)) (posOut m d) _ fun _ => rfl)).trans
        (pts_blkP (F := F) d L _)))
      iexact Hp
    · iapply (Entails.of_eq ((pointsTo_congr (writes_blk (v := ((oT).slice (blkKT L) (fun _ => rfl)).view) (Val := Elt F) (m (tLoc d)) (slotOut m d) _ fun _ => rfl)).trans
        (pts_blkT (F := F) d L _)))
      iexact Ht
  isplitl [H0 H1 H2 H3 H4 Hbufs]
  · isplitl [H0]; · iexists _; iexact H0
    isplitl [H1]; · iexists _; iexact H1
    isplitl [H2]; · iexists _; iexact H2
    isplitl [H3]; · iexists _; iexact H3
    isplitl [H4]; · iexists _; iexact H4
    iexact Hbufs
  isplitl [Hd0 Hd1 Hd2 Hd3 Hd4 Hsems]
  · isplitl [Hd0]; · iexact Hd0
    isplitl [Hd1]; · iexact Hd1
    isplitl [Hd2]; · iexact Hd2
    isplitl [Hd3]; · iexact Hd3
    isplitl [Hd4]; · iexact Hd4
    iexact Hsems
  iexists _; isplitr
  swap; · iexact HO
  -- a wait recorded for the one launch is its own or the transfers'
  ipureintro; intro p _
  rcases p.2 with _ | q
  · exact .inr (.inl rfl)
  · exact .inr (.inr (congrArg some (Subsingleton.elim q 0)))

end Tile

end Cert.Proof

end
-- ==== Proof.Starts.lean ====
/-
  The host lines before the slot kernel: from the classes' counts the starts of the classes, each class's region its count rounded up to
  whole tiles of 256 slots and the regions one after the other.
-/
module

public import proofs.«01_k».proof.Proof.Spec
public import Idealize.ShloMosaic.Lib.StableHlo.Run
public import Idealize.ShloMosaic.Lib.Routing.Model

@[expose] public section

set_option maxRecDepth 16384

noncomputable section

namespace Cert.Proof

open Cert.KernelIdeal Cert.KernelIdeal.Gen
open Idealize.ShloMosaic Idealize.ShloMosaic.TcCoe Idealize.ShloMosaic.StableHlo
open Idealize.ShloMosaic.Routing (pyDiv)

variable {F : FTy → Type} [FloatOps F]

/-! ## The functions -/

/-- The classes' counts, as words. -/
def cntOf (a2 : FVec F S32x128 .f32) : IVec S32 32 :=
  fptosi 32 (shapeCast S32 (extractStridedSlice S32x1 ![0, 0] a2 slices_S32x128_S32x1_0_0) shapeCasts_S32x1_S32)

/-- The regions' sizes: the counts rounded up to whole tiles. -/
def sizeOf (n : IVec S32 32) : IVec S32 32 :=
  muli (pyDiv bcast_S_S32 (subi (addi n (broadcastInDim S32 ![] bcast_S_S32 (constantI S_ 32 256#32))) (broadcastInDim S32 ![] bcast_S_S32 (constantI S_ 32 1#32)))
    (constantI S_ 32 256#32)) (broadcastInDim S32 ![] bcast_S_S32 (constantI S_ 32 256#32))

/-- The regions' ends. -/
def endsOf (sz : IVec S32 32) : IVec S32 32 :=
  Host.reduceWindow IntOp.addi ![32] ![1] ![31] ![0] sz (broadcastInDim S_ ![] bcast_S_S_ (constantI S_ 32 0#32)) reduceWindows_S32_S32_w32s1p31_0 h_S_

/-- The classes' starts. -/
def startsFrom (a2 : FVec F S32x128 .f32) : IVec S32 32 := subi (endsOf (sizeOf (cntOf a2))) (sizeOf (cntOf a2))

/-! ## The lines -/

/-- The counts as words, a tile's slots less one added. -/
abbrev line0 : List (HloOp τ sig (Elt F)) :=
  [ StableHlo.unary main_arg2 main_v0 ((extractStridedSlice S32x1 ![0, 0] · slices_S32x128_S32x1_0_0) : (⟨S32x128, .f32⟩ : BufTy).Contents (Elt F) → (⟨S32x1, .f32⟩ : BufTy).Contents (Elt F)),
    StableHlo.reshape main_v0 main_v1 (rfl : (.f32 : EltTy) = .f32) shapeCasts_S32x1_S32,
    StableHlo.unary main_v1 main_v2 (fptosi 32 : (⟨S32, .f32⟩ : BufTy).Contents (Elt F) → (⟨S32, .i32⟩ : BufTy).Contents (Elt F)),
    StableHlo.nullary main_c (constantI S_ 32 256#32),
    StableHlo.unary main_c main_v3 (broadcastInDim S32 ![] bcast_S_S32 : (⟨S_, .i32⟩ : BufTy).Contents (Elt F) → (⟨S32, .i32⟩ : BufTy).Contents (Elt F)),
    StableHlo.binary main_v2 main_v3 main_v4 (addi : (⟨S32, .i32⟩ : BufTy).Contents (Elt F) → (⟨S32, .i32⟩ : BufTy).Contents (Elt F) → (⟨S32, .i32⟩ : BufTy).Contents (Elt F)),
    StableHlo.nullary main_c_0 (constantI S_ 32 1#32),
    StableHlo.unary main_c_0 main_v5 (broadcastInDim S32 ![] bcast_S_S32 : (⟨S_, .i32⟩ : BufTy).Contents (Elt F) → (⟨S32, .i32⟩ : BufTy).Contents (Elt F)),
    StableHlo.binary main_v4 main_v5 main_v6 (subi : (⟨S32, .i32⟩ : BufTy).Contents (Elt F) → (⟨S32, .i32⟩ : BufTy).Contents (Elt F) → (⟨S32, .i32⟩ : BufTy).Contents (Elt F)),
    StableHlo.nullary main_c_1 (constantI S_ 32 256#32) ]
/-- The quotient by a tile's slots. -/
abbrev line1 : List (HloOp τ sig (Elt F)) :=
  [ StableHlo.TRef.unary (.of main_c_1 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S32, .i32⟩) (broadcastInDim S32 ![] bcast_S_S32),
    StableHlo.TRef.binary (.of main_v6 : StableHlo.TRef sig ⟨S32, .i32⟩) (.of main_call0_v1 : StableHlo.TRef sig ⟨S32, .i32⟩) (.of main_call0_v2 : StableHlo.TRef sig ⟨S32, .i32⟩) Host.divsi,
    StableHlo.TRef.unary (.of main_v6 : StableHlo.TRef sig ⟨S32, .i32⟩) (.of main_call0_v3 : StableHlo.TRef sig ⟨S32, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S32, .i32⟩) (broadcastInDim S32 ![] bcast_S_S32),
    StableHlo.TRef.binary (.of main_call0_v3 : StableHlo.TRef sig ⟨S32, .i32⟩) (.of main_call0_v5 : StableHlo.TRef sig ⟨S32, .i32⟩) (.of main_call0_v6 : StableHlo.TRef sig ⟨S32, .i1⟩) (cmpi .ne),
    StableHlo.TRef.unary (.of main_call0_v0 : StableHlo.TRef sig ⟨S_, .i32⟩) (.of main_call0_v7 : StableHlo.TRef sig ⟨S32, .i32⟩) (broadcastInDim S32 ![] bcast_S_S32),
    StableHlo.TRef.binary (.of main_v6 : StableHlo.TRef sig ⟨S32, .i32⟩) (.of main_call0_v7 : StableHlo.TRef sig ⟨S32, .i32⟩) (.of main_call0_v8 : StableHlo.TRef sig ⟨S32, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S32, .i32⟩) (broadcastInDim S32 ![] bcast_S_S32),
    StableHlo.TRef.binary (.of main_call0_v8 : StableHlo.TRef sig ⟨S32, .i32⟩) (.of main_call0_v9 : StableHlo.TRef sig ⟨S32, .i32⟩) (.of main_call0_v10 : StableHlo.TRef sig ⟨S32, .i1⟩) (cmpi .ne),
    StableHlo.TRef.binary (.of main_call0_v6 : StableHlo.TRef sig ⟨S32, .i1⟩) (.of main_call0_v10 : StableHlo.TRef sig ⟨S32, .i1⟩) (.of main_call0_v11 : StableHlo.TRef sig ⟨S32, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S32, .i32⟩) (broadcastInDim S32 ![] bcast_S_S32),
    StableHlo.TRef.binary (.of main_call0_v2 : StableHlo.TRef sig ⟨S32, .i32⟩) (.of main_call0_v12 : StableHlo.TRef sig ⟨S32, .i32⟩) (.of main_call0_v13 : StableHlo.TRef sig ⟨S32, .i32⟩) subi,
    StableHlo.TRef.ternary (.of main_call0_v11 : StableHlo.TRef sig ⟨S32, .i1⟩) (.of main_call0_v13 : StableHlo.TRef sig ⟨S32, .i32⟩) (.of main_call0_v2 : StableHlo.TRef sig ⟨S32, .i32⟩) (.of main_v7 : StableHlo.TRef sig ⟨S32, .i32⟩) select ]
/-- The sizes. -/
abbrev line2 : List (HloOp τ sig (Elt F)) :=
  [ StableHlo.nullary main_c_2 (constantI S_ 32 256#32),
    StableHlo.unary main_c_2 main_v8 (broadcastInDim S32 ![] bcast_S_S32 : (⟨S_, .i32⟩ : BufTy).Contents (Elt F) → (⟨S32, .i32⟩ : BufTy).Contents (Elt F)),
    StableHlo.binary main_v7 main_v8 main_v9 (muli : (⟨S32, .i32⟩ : BufTy).Contents (Elt F) → (⟨S32, .i32⟩ : BufTy).Contents (Elt F) → (⟨S32, .i32⟩ : BufTy).Contents (Elt F)) ]
/-- The running sums. -/
abbrev line3 : List (HloOp τ sig (Elt F)) :=
  [ StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v9 : StableHlo.TRef sig ⟨S32, .i32⟩) (.of main_call1_call0_v0 : StableHlo.TRef sig ⟨S_, .i32⟩) (.of main_v10 : StableHlo.TRef sig ⟨S32, .i32⟩) (fun x v => Host.reduceWindow IntOp.addi ![32] ![1] ![31] ![0] x v reduceWindows_S32_S32_w32s1p31_0 h_S_) ]
/-- The starts. -/
abbrev line4 : List (HloOp τ sig (Elt F)) :=
  [ StableHlo.binary main_v10 main_v9 main_v11 (subi : (⟨S32, .i32⟩ : BufTy).Contents (Elt F) → (⟨S32, .i32⟩ : BufTy).Contents (Elt F) → (⟨S32, .i32⟩ : BufTy).Contents (Elt F)) ]
/-- All lines before the call. -/
def lines : List (HloOp τ sig (Elt F)) := line0 ++ (line1 ++ (line2 ++ (line3 ++ line4)))

theorem line0_sub : (line0 : List (HloOp τ sig (Elt F))).Forall fun op => op.bufs ⊆ tcRefs τ sig :=
  ⟨unary_bufs_sub .., reshape_bufs_sub .., unary_bufs_sub .., nullary_bufs_sub .., unary_bufs_sub .., binary_bufs_sub .., nullary_bufs_sub .., unary_bufs_sub .., binary_bufs_sub .., nullary_bufs_sub ..⟩
theorem line1_sub : (line1 : List (HloOp τ sig (Elt F))).Forall fun op => op.bufs ⊆ tcRefs τ sig :=
  ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem line2_sub : (line2 : List (HloOp τ sig (Elt F))).Forall fun op => op.bufs ⊆ tcRefs τ sig :=
  ⟨nullary_bufs_sub .., unary_bufs_sub .., binary_bufs_sub ..⟩
theorem line3_sub : (line3 : List (HloOp τ sig (Elt F))).Forall fun op => op.bufs ⊆ tcRefs τ sig :=
  ⟨nullary_bufs_sub .., unary_bufs_sub .., binary_bufs_sub ..⟩
theorem line4_sub : (line4 : List (HloOp τ sig (Elt F))).Forall fun op => op.bufs ⊆ tcRefs τ sig := binary_bufs_sub ..

section Stretch
variable (W : Valuation τ sig (Elt F))

theorem l0_v6 : after line0 W (Proc.devRef .tc main_v6) = subi (addi (cntOf (F := F) (W (Proc.devRef .tc main_arg2))) (broadcastInDim S32 ![] bcast_S_S32 (constantI S_ 32 256#32))) (broadcastInDim S32 ![] bcast_S_S32 (constantI S_ 32 1#32)) := by
  unfold cntOf
  simp only [line0]
  after_results <;> rfl
theorem l0_c1 : after line0 W (Proc.devRef .tc main_c_1) = constantI S_ 32 256#32 := by
  simp only [line0]
  after_results <;> rfl
theorem l1_v7 : after line1 W (Proc.devRef .tc main_v7) = pyDiv bcast_S_S32 (W (Proc.devRef .tc main_v6)) (W (Proc.devRef .tc main_c_1)) := by
  unfold pyDiv
  simp only [line1]
  after_results <;> simp only [TRef.ofBuf_toBuf] <;> rfl
theorem l2_v9 : after line2 W (Proc.devRef .tc main_v9) = muli (W (Proc.devRef .tc main_v7) : IVec S32 32) (broadcastInDim S32 ![] bcast_S_S32 (constantI S_ 32 256#32)) := by
  simp only [line2]
  after_results <;> rfl
theorem l3_v10 : after line3 W (Proc.devRef .tc main_v10) = endsOf (W (Proc.devRef .tc main_v9)) := by
  simp only [line3]
  after_results
  simp only [TRef.ofBuf_toBuf]
  simp -implicitDefEqProofs only [TRef.toBuf, TRef.ofBuf, cast_eq]
  rfl
theorem l3_v9 : after line3 W (Proc.devRef .tc main_v9) = W (Proc.devRef .tc main_v9) := by
  simp only [line3]
  after_results
theorem l4_v11 : after line4 W (Proc.devRef .tc main_v11) = subi (W (Proc.devRef .tc main_v10) : IVec S32 32) (W (Proc.devRef .tc main_v9)) := by
  simp only [line4]
  after_results <;> rfl

end Stretch

theorem after_append' (l₁ l₂ : List (HloOp τ sig (Elt F))) (V : Valuation τ sig (Elt F)) : after (l₁ ++ l₂) V = after l₂ (after l₁ V) := by
  induction l₁ generalizing V with
  | nil => rfl
  | cons a l ih => exact ih _

theorem lines_v11 (W : Valuation τ sig (Elt F)) : after lines W (Proc.devRef .tc main_v11) = startsFrom (F := F) (W (Proc.devRef .tc main_arg2)) := by
  unfold lines startsFrom sizeOf
  rw [after_append', after_append', after_append', after_append', l4_v11, l3_v10, l3_v9, l2_v9, l1_v7, l0_v6, l0_c1]

theorem lines_sub : ∀ op ∈ (lines : List (HloOp τ sig (Elt F))), op.bufs ⊆ tcRefs τ sig := by
  intro op h
  rw [lines, List.mem_append, List.mem_append, List.mem_append, List.mem_append] at h
  rcases h with h | h | h | h | h
  · exact List.forall_iff_forall_mem.mp line0_sub op h
  · exact List.forall_iff_forall_mem.mp line1_sub op h
  · exact List.forall_iff_forall_mem.mp line2_sub op h
  · exact List.forall_iff_forall_mem.mp line3_sub op h
  · exact List.forall_iff_forall_mem.mp line4_sub op h

theorem lines_fresh : ∀ op ∈ (lines : List (HloOp τ sig (Elt F))), op.fresh = ∅ := by
  intro op h
  simp only [lines, line0, line1, line2, line3, line4, List.cons_append, List.nil_append] at h
  fin_cases h <;> rfl

/-- The references the lines write. -/
abbrev lineOuts : List (Ref sig .tc) :=
  [main_v0, main_v1, main_v2, main_c, main_v3, main_v4, main_c_0, main_v5, main_v6, main_c_1, main_call0_v0, main_call0_v1, main_call0_v2, main_call0_v3,
    main_call0_v4, main_call0_v5, main_call0_v6, main_call0_v7, main_call0_v8, main_call0_c, main_call0_v9, main_call0_v10, main_call0_v11,
    main_call0_c_0, main_call0_v12, main_call0_v13, main_v7, main_c_2, main_v8, main_v9, main_call1_call0_c, main_call1_call0_v0, main_v10, main_v11]

theorem lines_keep (W : Valuation τ sig (Elt F)) {r : Ref sig .tc} (h : r ∉ lineOuts) : after lines W (Proc.devRef .tc r) = W (Proc.devRef .tc r) :=
  after_of_writes_sub lines W (W := lineOuts) (forall_writes_sub_of_map rfl) h

/-- The program is its lines and the call. -/
theorem main_split (d : Dev nD) : main (F := F) d = (StableHlo.seq lines >>= fun _ => (do sc.run d 0; pure ⟨⟩)) := rfl

end Cert.Proof

end
-- ==== Proof.Launch.lean ====
/-
  The slot kernel launched: both cores' sixteen tasks each, the operands shared out by thirty-seconds of a share and the two results by
  blocks, and the whole program's run, the host lines before the call included: every argument kept, the positions and the slot table at the values Spec.lean names, no semaphore
  left raised.
-/
module

public import proofs.«01_k».proof.Proof.Tile
public import proofs.«01_k».proof.Proof.Starts
public import Idealize.ShloMosaic.Lib.Pipeline.Frame

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type}

local notation "𝕄" => MT nD τ sig (HIx 1) (Elt F) ℕ UU ℕ

-- the kernel's memrefs as its body is called with them: the three operands, the two results, the five scratches
local notation "aC" => (Memref.whole Cert.KernelIdeal.main_arg0_scv : Memref Cert.KernelIdeal.sig Kind.scVector Space.hbm Cert.KernelIdeal.S16384 EltTy.i32)
local notation "aR" => (Memref.whole Cert.KernelIdeal.main_arg1_scv : Memref Cert.KernelIdeal.sig Kind.scVector Space.hbm Cert.KernelIdeal.S16384 EltTy.i32)
local notation "aS" => (Memref.whole Cert.KernelIdeal.main_v11_scv : Memref Cert.KernelIdeal.sig Kind.scVector Space.hbm Cert.KernelIdeal.S32 EltTy.i32)
local notation "oP" => (Memref.whole Cert.KernelIdeal.main_v12_0_scv : Memref Cert.KernelIdeal.sig Kind.scVector Space.hbm Cert.KernelIdeal.S16384 EltTy.i32)
local notation "oT" => (Memref.whole Cert.KernelIdeal.main_v12_1_scv : Memref Cert.KernelIdeal.sig Kind.scVector Space.hbm Cert.KernelIdeal.S22528 EltTy.i32)
local notation "sC" => (Memref.whole Cert.KernelIdeal.cc0_scratch0 : Memref Cert.KernelIdeal.sig Kind.scVector Space.vmem Cert.KernelIdeal.S16384 EltTy.i32)
local notation "sR" => (Memref.whole Cert.KernelIdeal.cc0_scratch1 : Memref Cert.KernelIdeal.sig Kind.scVector Space.vmem Cert.KernelIdeal.S16384 EltTy.i32)
local notation "sS" => (Memref.whole Cert.KernelIdeal.cc0_scratch2 : Memref Cert.KernelIdeal.sig Kind.scVector Space.vmem Cert.KernelIdeal.S32 EltTy.i32)
local notation "sP" => (Memref.whole Cert.KernelIdeal.cc0_scratch3 : Memref Cert.KernelIdeal.sig Kind.scVector Space.vmem Cert.KernelIdeal.S16384 EltTy.i32)
local notation "sT" => (Memref.whole Cert.KernelIdeal.cc0_scratch4 : Memref Cert.KernelIdeal.sig Kind.scVector Space.vmem Cert.KernelIdeal.S22528 EltTy.i32)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

theorem nCore_zero : (K (F := F)).nCore 0 = 2 := rfl

variable (m : (ℓ : Loc nD τ sig) → Buf (Elt F) ℓ) (ρ : Dev nD → PrngReg)

/-! ## What the handshakes carry -/

/-- A task before and after its run. -/
abbrev goPts (d : Dev nD) (w : Fin 32) : sProp 𝕄 := taskPts m d w (m (pLoc d)) (m (tLoc d))
abbrev tdPts (d : Dev nD) (w : Fin 32) : sProp 𝕄 := taskPts m d w (posOut m d) (slotOut m d)

instance taskPts_storable (d : Dev nD) (w : Fin 32) (p : Buf (Elt F) (pLoc d)) (t : Buf (Elt F) (tLoc d)) :
    BI.Storable (upEmb : UEmb _ 𝕄) (taskPts m d w p t) := by unfold taskPts; infer_instance

/-- What one core's tasks hold between them. -/
abbrev coreOf (Φ : Fin 32 → sProp 𝕄) (c : Fin ((K (F := F)).nCore 0)) : sProp 𝕄 :=
  bigSep Finset.univ fun i : Fin ((K (F := F)).nSub 0) => Φ (wid (Fin.cast nCore_zero c) (Fin.cast nSub_zero i))

def P : (K (F := F)).Pay (nD := nD) (Val := Elt F) (Name := ℕ) (U := UU) where
  st := fun q d c => match q with | 0 => coreOf (goPts m d) c
  dn := fun q d c => match q with | 0 => coreOf (tdPts m d) c
  go := fun q d c i => match q with | 0 => goPts m d (wid (Fin.cast nCore_zero c) (Fin.cast nSub_zero i))
  td := fun q d c i => match q with | 0 => tdPts m d (wid (Fin.cast nCore_zero c) (Fin.cast nSub_zero i))
  x := fun _ _ => iprop(emp)

instance P_storable : (P (F := F) m).IsStorable where
  st q d c := match q with | 0 => (inferInstance : BI.Storable (upEmb : UEmb _ 𝕄) (coreOf (goPts m d) c))
  dn q d c := match q with | 0 => (inferInstance : BI.Storable (upEmb : UEmb _ 𝕄) (coreOf (tdPts m d) c))
  go q d c i := match q with | 0 => (inferInstance : BI.Storable (upEmb : UEmb _ 𝕄) (goPts m d (wid (Fin.cast nCore_zero c) (Fin.cast nSub_zero i))))
  td q d c i := match q with | 0 => (inferInstance : BI.Storable (upEmb : UEmb _ 𝕄) (tdPts m d (wid (Fin.cast nCore_zero c) (Fin.cast nSub_zero i))))

/-! ## The tasks' obligation -/

section Obligation

variable [FloatOps F]

/-- Every device's operands are in range. -/
abbrev AllInRange : Prop := ∀ d : Dev nD, InRange (clsOf m d) (rankOf m d) (startsOf m d)

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_slots (coordsV c s) aC (Memref.isWhole_whole _) aR (Memref.isWhole_whole _) aS (Memref.isWhole_whole _)
          oP (Memref.isWhole_whole _) oT (Memref.isWhole_whole _) sC (Memref.isWhole_whole _) sR (Memref.isWhole_whole _) sS (Memref.isWhole_whole _)
          sP (Memref.isWhole_whole _) sT (Memref.isWhole_whole _) cc0_scoped0 cc0_scoped1 cc0_scoped2 cc0_scoped3 cc0_scoped4) ⟨⟩ c s := rfl

theorem tileObl (hR : AllInRange m) (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF (hR d) O W hO

end Obligation

/-- A core's start is its tasks', and theirs back its end. -/
theorem vecSplit : (K (F := F)).VecSplit' (P m) 0 := by
  intro d c
  show coreOf (goPts m d) c ⊢ |={Set.univ}=> iprop(coreOf (goPts m d) c ∗ (coreOf (tdPts m d) c -∗ coreOf (tdPts m d) c))
  iintro H; imodintro
  isplitl [H]; · iexact H
  iintro H; iexact H

/-! ## The arrays shared out -/

/-- Core and subcore number the tasks. -/
def widE : Fin 2 × Fin 16 ≃ Fin 32 where
  toFun p := wid p.1 p.2
  invFun w := (⟨w.val % 2, Nat.mod_lt _ (by decide)⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

/-- Both cores' tasks are the thirty-two. -/
theorem cores_tasks (Φ : Fin 32 → sProp 𝕄) :
    (bigSep Finset.univ fun c : Fin ((K (F := F)).nCore 0) => coreOf Φ c) = bigSep Finset.univ Φ :=
  ((BI.bigSep_univ_equiv widE Φ).trans (BI.bigSep_univ_prod fun p => Φ (widE p))).symm

/-- Each result is its thirty-two blocks. -/
theorem posBlocks (d : Dev nD) (p : Buf (Elt F) (pLoc d)) :
    (pLoc d ↦{fullShare} p : sProp 𝕄) = bigSep Finset.univ fun w : Fin 32 => pLoc d ↦[(blkP w).set]{fullShare} p :=
  (congrArg (fun S => (pLoc d ↦[S]{fullShare} p : sProp 𝕄)) (Rect.biUnion_part hdivP).symm).trans
    (pointsTo_biUnion Finset.univ (ℓ := pLoc d) (fun w => (blkP w).set) fun i _ j _ h => Rect.part_disjoint hdivP h)
theorem slotBlocks (d : Dev nD) (t : Buf (Elt F) (tLoc d)) :
    (tLoc d ↦{fullShare} t : sProp 𝕄) = bigSep Finset.univ fun w : Fin 32 => tLoc d ↦[(blkT w).set]{fullShare} t :=
  (congrArg (fun S => (tLoc d ↦[S]{fullShare} t : sProp 𝕄)) (Rect.biUnion_part hdivT).symm).trans
    (pointsTo_biUnion Finset.univ (ℓ := tLoc d) (fun w => (blkT w).set) fun i _ j _ h => Rect.part_disjoint hdivT h)

/-- All tasks' holdings are the arrays whole. -/
theorem tasks_whole (d : Dev nD) (p : Buf (Elt F) (pLoc d)) (t : Buf (Elt F) (tLoc d)) :
    (bigSep Finset.univ fun w : Fin 32 => taskPts m d w p t)
      = iprop((cLoc d ↦{fullShare} m (cLoc d)) ∗ (rLoc d ↦{fullShare} m (rLoc d)) ∗ (sLoc d ↦{fullShare} m (sLoc d))
        ∗ (pLoc d ↦{fullShare} p) ∗ tLoc d ↦{fullShare} t) := by
  unfold taskPts
  rw [bigSep_sep', bigSep_sep', bigSep_sep', bigSep_sep', pointsTo_leaves Finset.univ (m (cLoc d)) 5 fullShare, pointsTo_leaves Finset.univ (m (rLoc d)) 5 fullShare,
    pointsTo_leaves Finset.univ (m (sLoc d)) 5 fullShare, posBlocks, slotBlocks]
  rfl

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program's one thread of its own -/

/-- The call's five arrays as the device names them, and every array held. -/
abbrev arrs : Finset (DevRef τ sig) :=
  {Proc.devRef .tc main_arg0, Proc.devRef .tc main_arg1, Proc.devRef .tc main_v11, Proc.devRef .tc main_v12_0, Proc.devRef .tc main_v12_1}

theorem arrs_sub : arrs ⊆ Pipeline.ucRefs τ sig := by decide

theorem held_arrs (d : Dev nD) (W : Valuation τ sig (Elt F)) :
    (StableHlo.held (SparseCore.T d) arrs W : sProp 𝕄)
      = iprop((cLoc d ↦{fullShare} W (Proc.devRef .tc main_arg0)) ∗ (rLoc d ↦{fullShare} W (Proc.devRef .tc main_arg1))
        ∗ (sLoc d ↦{fullShare} W (Proc.devRef .tc main_v11)) ∗ (pLoc d ↦{fullShare} W (Proc.devRef .tc main_v12_0))
        ∗ tLoc d ↦{fullShare} W (Proc.devRef .tc main_v12_1)) := by
  unfold StableHlo.held arrs
  rw [SparseCore.bigSep_insert' (by decide), SparseCore.bigSep_insert' (by decide), SparseCore.bigSep_insert' (by decide), SparseCore.bigSep_insert' (by decide), bigSep_singleton]

/-- The counts, as the memory has them. -/
abbrev kLoc (d : Dev nD) : Loc nD τ sig := (SparseCore.T d).loc main_arg2

theorem held_counts (d : Dev nD) (W : Valuation τ sig (Elt F)) :
    (StableHlo.held (SparseCore.T d) {Proc.devRef .tc main_arg2} W : sProp 𝕄) = (kLoc d ↦{fullShare} W (Proc.devRef .tc main_arg2)) := by
  unfold StableHlo.held
  rw [bigSep_singleton]

theorem counts_sub : ({Proc.devRef .tc main_arg2} : Finset (DevRef τ sig)) ⊆ Pipeline.ucRefs τ sig \ arrs := by decide

/-- The memory as the host lines leave it to the call. -/
def mid [FloatOps F] : (ℓ : Loc nD τ sig) → Buf (Elt F) ℓ := fun ℓ => StableHlo.after lines (fun b => m (ℓ.1, b)) ℓ.2

theorem mid_keep [FloatOps F] (d : Dev nD) {r : Ref sig .tc} (h : r ∉ lineOuts) : mid m ((SparseCore.T d).loc r) = m ((SparseCore.T d).loc r) :=
  lines_keep (fun b => m (d, b)) h
theorem mid_starts [FloatOps F] (d : Dev nD) : mid m (sLoc d) = startsFrom (F := F) (m (kLoc d)) := lines_v11 (fun b => m (d, b))

theorem st0_eq (d : Dev nD) :
    (bigSep Finset.univ fun c : Fin ((K (F := F)).nCore 0) => (P m).st 0 d c) = (bigSep Finset.univ fun w : Fin 32 => goPts m d w) := cores_tasks _
theorem dn0_eq (d : Dev nD) :
    (bigSep Finset.univ fun c : Fin ((K (F := F)).nCore 0) => (P m).dn 0 d c) = (bigSep Finset.univ fun w : Fin 32 => tdPts m d w) := cores_tasks _

/-- What the program ends with: the arguments, the starts, and the two results' values. -/
abbrev FIN [FloatOps F] (d : Dev nD) : sProp 𝕄 :=
  iprop(((cLoc d ↦{fullShare} mid m (cLoc d)) ∗ (rLoc d ↦{fullShare} mid m (rLoc d)) ∗ (sLoc d ↦{fullShare} mid m (sLoc d))
    ∗ (pLoc d ↦{fullShare} posOut (mid m) d) ∗ tLoc d ↦{fullShare} slotOut (mid m) d) ∗ kLoc d ↦{fullShare} mid m (kLoc d))

theorem hmain [FloatOps F] (κ : GSem nD τ sig → ℕ) (d : Dev nD) :
    iprop((K (F := F)).ctx EH (P (mid m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) (Pipeline.ucRefs τ sig) (fun b => m (d, b)) from
    Pipeline.unscopedBufs_held d (fun b => m (d, b)), main_split]
  iintro ⟨#Hctx, Hst, ⟨Hb, Harr, Hts, -⟩, -⟩
  iapply (StableHlo.wp_seq (defs := (K (F := F)).defs (D (F := F))) 𝒱 (bd := none) (E := Set.univ) d (Pipeline.ucRefs τ sig) _ lines
    (fun op h => Pipeline.sub_ucRefs op (lines_sub op h)) lines_fresh (fun b => m (d, b))) $$ [Hb Harr]
  · isplitl [Hb] <;> iassumption
  iintro ⟨Hb, Harr⟩
  ihave Harr := (Entails.of_eq (StableHlo.held_sub_split (SparseCore.T d) arrs_sub _)) $$ Harr
  icases Harr with ⟨Harr, Hrest⟩
  ihave Hrest := (Entails.of_eq (StableHlo.held_sub_split (SparseCore.T d) counts_sub _)) $$ Hrest
  icases Hrest with ⟨Hk, -⟩
  ihave Hk := (Entails.of_eq (held_counts d _)) $$ Hk
  ihave Harr := (Entails.of_eq (held_arrs d _)) $$ Harr
  simp only [wp_bind, wp_pure]
  iapply ((K (F := F)).wp_run (D (F := F)) 𝒱 (EH := EH) (P := P (mid m)) κ d 0) $$ [Hst Harr Hb Hts Hk]
  isplitr; · iexact Hctx
  isplitl [Hst]; · iexact Hst
  isplitl [Harr]
  · rw [st0_eq, tasks_whole]; iexact Harr
  iintro ⟨Hst, Hdn⟩
  ihave Hdn' := (Entails.of_eq ((dn0_eq (mid m) d).trans (tasks_whole (mid m) d _ _))) $$ Hdn
  imodintro
  isplitl [Hst]; · iexact Hst
  isplitl [Hdn' Hk]
  · isplitl [Hdn']; · iexact Hdn'
    iexact Hk
  isplitl [Hb] <;> iassumption

/-- The last state: arguments kept, results written. -/
def fq [FloatOps F] (d : Dev nD) (s' : Phys nD τ sig (Elt F)) : Prop :=
  (s'.mem.mem (cLoc d) = m (cLoc d) ∧ s'.mem.mem (rLoc d) = m (rLoc d) ∧ s'.mem.mem (kLoc d) = m (kLoc d))
    ∧ s'.mem.mem (pLoc d) = posOut (mid m) d ∧ s'.mem.mem (tLoc d) = slotOut (mid m) d

/-- A buffer held whole is the memory's. -/
theorem agree_keep (s' : Phys nD τ sig (Elt F)) {ℓ : Loc nD τ sig} (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

theorem hfin [FloatOps F] (d : Dev nD) (s' : Phys nD τ sig (Elt F)) : iprop(FIN m d ∗ SI s') ⊢ (⌜fq m d s'⌝ : sProp 𝕄) := by
  iintro ⟨⟨⟨Hc, Hr, Hs, Hp, Ht⟩, Hk⟩, HSI⟩
  ihave H := (agree_keep s' _) $$ [Hc HSI]
  · isplitl [Hc] <;> iassumption
  icases H with ⟨%hc, HSI⟩
  ihave H := (agree_keep s' _) $$ [Hr HSI]
  · isplitl [Hr] <;> iassumption
  icases H with ⟨%hr, HSI⟩
  ihave H := (agree_keep s' _) $$ [Hk HSI]
  · isplitl [Hk] <;> iassumption
  icases H with ⟨%hk, HSI⟩
  ihave H := (agree_keep s' _) $$ [Hp HSI]
  · isplitl [Hp] <;> iassumption
  icases H with ⟨%hp, HSI⟩
  ihave H := (agree_keep s' _) $$ [Ht HSI]
  · isplitl [Ht] <;> iassumption
  icases H with ⟨%ht, -⟩
  ipureintro
  exact ⟨⟨hc.trans (mid_keep m d (by decide)), hr.trans (mid_keep m d (by decide)), hk.trans (mid_keep m d (by decide))⟩, hp, ht⟩

/-! ## The run -/

def QC [FloatOps F] : PUnit × MemSt nD τ sig (Elt F) → Prop := fun r =>
  (∀ d : Dev nD, (r.2.mem (cLoc d) = m (cLoc d) ∧ r.2.mem (rLoc d) = m (rLoc d) ∧ r.2.mem (kLoc d) = m (kLoc d))
    ∧ r.2.mem (pLoc d) = posOut (mid m) d ∧ r.2.mem (tLoc d) = slotOut (mid m) d) ∧ r.2.sem = fun _ => 0

theorem run_main [FloatOps F] [∀ e, Nonempty (Elt F e)] (hR : AllInRange (mid m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (mid m)) (A := ∅) facts v₀
    (fun q hq => match q with | 0 => nomatch hq)
    (fun q _ => match q with | 0 => tileObl (mid m) hR facts)
    (fun q _ => match q with | 0 => SparseCore.Cfg.VecSplit.of_plain (vecSplit (mid m)))
    m ρ main (fun _ => iprop(emp)) (FIN m) (u₀ (F := F)) (sep_elim_left.trans (hu₀ (mid m))) (hmain m ρ) (fq m) (hfin m) (QC m) (fun _ h hz => ⟨h, hz⟩)

end Cert.Proof

end
-- ==== Proof.RefValue.lean ====
/-
  The reference's two results are the functions `posF` and `slotF` of its arguments, and the precondition says the arguments are in range.

  The reference gathers each token's class start and adds its rank, then scatters the token numbers over the table `j ↦ j mod 16384`. Both of its index
  arrays pass through the host's wrapping of negative indices, which does nothing to an index in range.
-/
module

public import proofs.«01_k».proof.Proof.Spec
public import proofs.«01_k».proof.Proof.Starts
public import proofs.«01_k».proof.Proof.Gen.ReferenceIdeal.Run
public import proofs.«01_k».proof.Proof.Gen.Pre_in_range
public import Idealize.ShloMosaic.Lib.Routing.Ops
public import Idealize.ShloMosaic.Lib.Routing.OpsPair
public import Idealize.ShloMosaic.Lib.StableHlo.Predicate
public import Idealize.ShloMosaic.Lib.ReduceAll
public import Idealize.ShloMosaic.Lib.WordCmp

@[expose] public section

noncomputable section

namespace Cert.Proof

open Idealize.ShloMosaic
open Idealize.ShloMosaic.ScatterToDense (GS GS_zero GS_succ)
open Idealize.ShloMosaic.Routing (scatter_at resultIdx?_eq_some wrap_of_lt symm1 numel1)
open Idealize.ShloMosaic.ValueIdx (ix1)
open Idealize.ShloMosaic.StableHlo.Predicate (ixP gather_take bcast_col1)
open Idealize.ShloMosaic.WordCmp (cmpi_slt_zero select_of_eq_zero andi_sge_zero_slt_ofNat)
open Cert.ReferenceIdeal (S16384 S32 S22528 S16384x1 S_)

/-! ## The starts -/

/-- The reference's sizes of the regions: the counts rounded up to whole tiles. -/
def refSize (n : IVec Cert.KernelIdeal.S32 32) : IVec Cert.KernelIdeal.S32 32 :=
  muli (Idealize.ShloMosaic.Routing.pyDiv Cert.KernelIdeal.Gen.bcast_S_S32 (addi n (broadcastInDim Cert.KernelIdeal.S32 ![] Cert.KernelIdeal.Gen.bcast_S_S32 (constantI Cert.KernelIdeal.S_ 32 255#32)))
    (constantI Cert.KernelIdeal.S_ 32 256#32)) (broadcastInDim Cert.KernelIdeal.S32 ![] Cert.KernelIdeal.Gen.bcast_S_S32 (constantI Cert.KernelIdeal.S_ 32 256#32))

/-- The reference's starts. -/
def refStarts {F : FTy → Type} [FloatOps F] (counts : FVec F Cert.KernelIdeal.S32x128 .f32) : IVec Cert.KernelIdeal.S32 32 :=
  subi (endsOf (refSize (cntOf counts))) (refSize (cntOf counts))

theorem refSize_eq (n : IVec Cert.KernelIdeal.S32 32) : refSize n = sizeOf n := by
  unfold refSize sizeOf
  congr 2
  funext j
  show n j + 255#32 = (n j + 256#32) - 1#32
  rw [BitVec.sub_eq_add_neg, BitVec.add_assoc]
  rfl

theorem refStarts_eq {F : FTy → Type} [FloatOps F] (counts : FVec F Cert.KernelIdeal.S32x128 .f32) : refStarts counts = startsFrom counts := by
  unfold refStarts startsFrom
  rw [refSize_eq]

/-! ## The reference's terms -/

section

variable (cls rank : IVec S16384 32) (starts : IVec S32 32)

/-- An index array with its negative entries wrapped round a dimension of `n`, as a column. -/
def wrapped (n : BitVec 32) (v : IVec S16384 32) : IVec S16384x1 32 :=
  broadcastInDim S16384x1 ![0] Cert.ReferenceIdeal.Facts₀.bcast_S16384_S16384x1_0
    (select (cmpi .slt v (broadcastInDim S16384 ![] Cert.ReferenceIdeal.Facts₀.bcast_S_S16384 (constantI S_ 32 0#32)))
      (addi v (broadcastInDim S16384 ![] Cert.ReferenceIdeal.Facts₀.bcast_S_S16384 (constantI S_ 32 n))) v)

/-- The reference's slots. -/
def refPos : IVec S16384 32 :=
  addi (Host.gather Cert.ReferenceIdeal.gather_S32_S16384x1_S16384_n_0_n_n_0_1_1 starts (wrapped 32#32 cls)) rank

/-- The divisor of the reference's remainder, as the host spells it. -/
def divisor : IVec S_ 32 :=
  select (cmpi .eq (id (constantI S_ 32 16384#32)) (constantI S_ 32 0#32)) (constantI S_ 32 1#32) (id (constantI S_ 32 16384#32))

/-- The host's truncated remainder of the slot numbers by the number of tokens. -/
def remTrunc : IVec S22528 32 :=
  Host.remsi (iotaInDim S22528 32 0) (broadcastInDim S22528 ![] Cert.ReferenceIdeal.Facts₀.bcast_S_S22528 divisor)

/-- The table the reference scatters over: the slot numbers modulo the number of tokens. -/
def refInit : IVec S22528 32 :=
  select (andi (cmpi .ne (cmpi .slt remTrunc (broadcastInDim S22528 ![] Cert.ReferenceIdeal.Facts₀.bcast_S_S22528 (constantI S_ 32 0#32)))
        (broadcastInDim S22528 ![] Cert.ReferenceIdeal.Facts₀.bcast_S_S22528 (cmpi .slt divisor (constantI S_ 32 0#32))))
      (cmpi .ne remTrunc (broadcastInDim S22528 ![] Cert.ReferenceIdeal.Facts₀.bcast_S_S22528 (constantI S_ 32 0#32))))
    (addi remTrunc (broadcastInDim S22528 ![] Cert.ReferenceIdeal.Facts₀.bcast_S_S22528 divisor)) remTrunc

/-- The reference's slot table. -/
def refSlot : IVec S22528 32 :=
  Host.scatter Cert.ReferenceIdeal.scatter_S22528_S16384x1_S16384_n_0_0_1 (fun _ b => b) refInit (wrapped 22528#32 (refPos cls rank starts))
    (iotaInDim S16384 32 0)

end

/-- A column of wrapped indices reads, at an index that is not negative, that index. -/
theorem wrapped_apply (n : BitVec 32) (v : IVec S16384 32) (p : Fin 16384) (h : (v (Shape.Idx.ofFin p)).toNat < 2 ^ 31) :
    wrapped n v (ixP p) = v (Shape.Idx.ofFin p) := by
  unfold wrapped
  rw [bcast_col1]
  exact wrap_of_lt _ _ h

theorem ofFin_coord (j : S16384.Idx) : Shape.Idx.ofFin (j 0) = j := idx1_ext rfl

/-- The gather: every token's slot, when the classes are rows of the starts. -/
theorem refPos_eq (cls rank : IVec S16384 32) (starts : IVec S32 32) (hc : ∀ j, (cls j).toNat < 32) :
    refPos cls rank starts = posF cls rank starts := by
  funext j
  obtain ⟨p, rfl⟩ : ∃ p : Fin 16384, j = Shape.Idx.ofFin p := ⟨j 0, (ofFin_coord j).symm⟩
  have hp := hc (Shape.Idx.ofFin p)
  have ht : tok ((Shape.Idx.ofFin p : S16384.Idx) 0).val = Shape.Idx.ofFin p := tok_coord _
  show Host.gather _ starts (wrapped 32#32 cls) (Shape.Idx.ofFin p) + rank (Shape.Idx.ofFin p)
    = starts (cell (cls (tok ((Shape.Idx.ofFin p : S16384.Idx) 0).val))) + rank (tok ((Shape.Idx.ofFin p : S16384.Idx) 0).val)
  rw [ht, gather_take _ rfl rfl rfl rfl starts _ p (by decide)]
  congr 2
  refine idx1_ext ?_
  rw [cell_val _ hp]
  show min (wrapped 32#32 cls (ixP p)).toInt.toNat 31 = _
  rw [wrapped_apply _ _ _ (by omega), BitVec.toInt_eq_toNat_cond, if_pos (by omega), Int.toNat_natCast]
  omega

/-- The reference's table before the scatter: the low fourteen bits of the slot number. -/
theorem refInit_apply (j : S22528.Idx) : refInit j = BitVec.ofNat 32 (j 0).val &&& 16383#32 := by
  have hj : (j 0).val < 22528 := (j 0).isLt
  have hr : remTrunc j = BitVec.ofNat 32 ((j 0).val % 16384) := by
    show (if IntOp.SDivCorner (BitVec.ofNat 32 (j 0).val) 16384#32 then _ else (BitVec.ofNat 32 (j 0).val).srem 16384#32) = _
    rw [if_neg (by rintro (h | ⟨-, h⟩) <;> exact absurd h (by decide))]
    rw [BitVec.srem_eq, (BitVec.msb_eq_false_iff_two_mul_lt.mpr (by rw [BitVec.toNat_ofNat]; omega)), show (16384#32).msb = false from rfl]
    apply BitVec.eq_of_toNat_eq
    rw [BitVec.toNat_umod, BitVec.toNat_ofNat, BitVec.toNat_ofNat, BitVec.toNat_ofNat, Nat.mod_eq_of_lt (show (j 0).val < 2 ^ 32 by omega),
      Nat.mod_eq_of_lt (show 16384 < 2 ^ 32 by decide), Nat.mod_eq_of_lt (show (j 0).val % 16384 < 2 ^ 32 by omega)]
  have hs : Scalar.select (IntOp.andi (IntOp.cmpi .ne (IntOp.cmpi .slt (remTrunc j) 0#32) 0#1) (IntOp.cmpi .ne (remTrunc j) 0#32))
      (remTrunc j + 16384#32) (remTrunc j) = remTrunc j := by
    have h0 : IntOp.cmpi .slt (remTrunc j) 0#32 = 0#1 := by
      rw [cmpi_slt_zero, hr]
      rw [show decide (2 ^ (32 - 1) ≤ (BitVec.ofNat 32 ((j 0).val % 16384)).toNat) = false from decide_eq_false (by rw [BitVec.toNat_ofNat]; omega)]
      rfl
    rw [h0, show IntOp.cmpi .ne 0#1 0#1 = 0#1 from rfl]
    exact select_of_eq_zero (by show 0#1 &&& _ = 0#1; exact BitVec.zero_and) _ _
  refine (show refInit j = _ from rfl).trans (hs.trans ?_)
  rw [hr]
  apply BitVec.eq_of_toNat_eq
  rw [BitVec.toNat_and]
  simp only [BitVec.toNat_ofNat]
  rw [show (16383 % 2 ^ 32 : ℕ) = 2 ^ 14 - 1 from rfl, Nat.and_two_pow_sub_one_eq_mod]
  omega

/-- Update `p` of the reference's scatter lands at slot `x` exactly when its index word, read signed, is `x`. -/
theorem lands (idx : IVec S16384x1 32) (p : Fin 16384) (x : S22528.Idx) :
    Cert.ReferenceIdeal.scatter_S22528_S16384x1_S16384_n_0_0_1.resultIdx? (ix1 p) idx = some x ↔ (idx (ixP p)).toInt = ((x 0).val : Int) := by
  set d := Cert.ReferenceIdeal.scatter_S22528_S16384x1_S16384_n_0_0_1 with hd
  have hm : (0 : Fin 1) ∈ d.scatterDimsToOperandDims := List.mem_singleton.2 rfl
  have hw : d.window (ix1 p) 0 = 0 := by
    unfold ScatterDims.window
    rw [dif_neg fun h => (of_decide_eq_true (List.mem_filter.1 h).2) (List.mem_singleton.2 rfl)]
  have hst : d.start (ix1 p) idx 0 = (idx (ixP p)).toInt := by
    unfold ScatterDims.start
    rw [dif_pos hm]
    have hsi : d.siIdx (ix1 p) ⟨d.scatterDimsToOperandDims.idxOf 0, List.idxOf_lt_length_iff.2 hm⟩ = ixP p := by
      funext b
      apply Fin.ext
      match b with
      | ⟨0, _⟩ =>
        unfold ScatterDims.siIdx
        rw [dif_neg (show ¬ (0 : ℕ) = d.indexVectorDim from Nat.zero_ne_one)]
        unfold ScatterDims.siCoord
        simp only [Fin.val_cast]
        have e : ∀ X : Fin 1, (ix1 p X).val = p.val := fun X => by
          obtain rfl : X = 0 := Subsingleton.elim _ _
          rfl
        exact e _
      | ⟨1, _⟩ =>
        unfold ScatterDims.siIdx
        rw [dif_pos (show (1 : ℕ) = d.indexVectorDim from rfl)]
        rfl
    rw [hsi]
  rw [resultIdx?_eq_some]
  constructor
  · intro h
    have h0 := h 0
    rw [hst, hw] at h0
    simpa using h0
  · intro h a
    obtain rfl : a = 0 := Subsingleton.elim _ _
    rw [hst, hw]
    simpa using h

/-- The scatter: the whole slot table. -/
theorem refSlot_eq (cls rank : IVec S16384 32) (starts : IVec S32 32) (hR : InRange cls rank starts) :
    refSlot cls rank starts = slotF cls rank starts := by
  funext j
  unfold refSlot
  rw [scatter_at, refInit_apply, refPos_eq cls rank starts hR.1]
  show _ = GS (posAt cls rank starts) (BitVec.ofNat 32) (BitVec.ofNat 32 (j 0).val &&& 16383#32) (j 0).val 16384
  rw [← numel1 16384]
  refine (foldl_lanes _ _ (GS (posAt cls rank starts) (BitVec.ofNat 32) (BitVec.ofNat 32 (j 0).val &&& 16383#32) (j 0).val) fun k => ?_)
  have hk : k.val < 16384 := lt_of_lt_of_eq k.isLt (numel1 16384)
  rw [GS_succ]
  have hlt := hR.2 k.val
  have hw : wrapped 22528#32 (posF cls rank starts) (ixP (k.cast (numel1 16384))) = posAt cls rank starts k.val :=
    wrapped_apply _ _ _ (lt_trans hlt (by decide))
  rw [symm1 k]
  have hc : (Cert.ReferenceIdeal.scatter_S22528_S16384x1_S16384_n_0_0_1.resultIdx? (ix1 (k.cast (numel1 16384))) (wrapped 22528#32 (posF cls rank starts)) = some j)
      ↔ (j 0).val = (posAt cls rank starts k.val).toNat := by
    rw [lands, hw, BitVec.toInt_eq_toNat_cond, if_pos (by omega)]
    omega
  by_cases H : (j 0).val = (posAt cls rank starts k.val).toNat
  · rw [if_pos (hc.mpr H), if_pos H]
    rfl
  · rw [if_neg (mt hc.mp H), if_neg H]

/-! ## The precondition -/

theorem ofBool_one (b : Bool) : BitVec.ofBool b = 1#1 ↔ b = true := by cases b <;> decide

/-- A word below 32 is left alone by the host's clamp to `[0, 31]`. -/
theorem clip_id (v : BitVec 32) (h : v.toNat < 32) : IntOp.minsi 31#32 (IntOp.maxsi 0#32 v) = v := by
  have hv : v.toInt = v.toNat := by rw [BitVec.toInt_eq_toNat_cond, if_pos (by omega)]
  have h1 : IntOp.maxsi 0#32 v = v := by
    unfold IntOp.maxsi
    simp only [BitVec.sle_eq_decide, BitVec.slt_eq_decide, hv, BitVec.toInt_zero]
    split <;> rename_i hh <;> simp at hh
    all_goals first | rfl | (apply BitVec.eq_of_toNat_eq; simp; omega)
  rw [h1]
  unfold IntOp.minsi
  simp only [BitVec.sle_eq_decide, BitVec.slt_eq_decide, hv, show (31#32).toInt = 31 from rfl]
  split <;> rename_i hh <;> simp at hh
  all_goals first | rfl | (apply BitVec.eq_of_toNat_eq; simp; omega)

/-- The precondition's word, from the starts. -/
def preAt {F : FTy → Type} [FloatOps F] (cls rank : IVec S16384 32) (starts : IVec S32 32) : IVec S_ 1 :=
  Cert.Pre_in_range.fn_part1 (F := F) cls rank starts (wrapped 32#32 (Cert.Pre_in_range.fn_clip (F := F) cls (constantI S_ 32 0#32) (constantI S_ 32 31#32)))

/-- The precondition makes the starts as the reference does. -/
theorem pre_split {F : FTy → Type} [FloatOps F] (cls rank : IVec S16384 32) (counts : FVec F Cert.KernelIdeal.S32x128 .f32) :
    Cert.Pre_in_range.fn (F := F) cls rank counts = preAt (F := F) cls rank (refStarts counts) := rfl

/-- The precondition's word is one only when the arguments are in range. -/
theorem inRange_of_preAt {F : FTy → Type} [FloatOps F] (cls rank : IVec S16384 32) (starts : IVec S32 32)
    (h : preAt (F := F) cls rank starts = fun _ => 1#1) : InRange cls rank starts := by
  have h0 : IntOp.andi _ _ = 1#1 := congrFun h (fun a => a.elim0)
  obtain ⟨hA, hB⟩ := IntOp.andi_eq_one.mp h0
  have hc : ∀ j, (cls j).toNat < 32 := fun j => by
    have e : IntOp.andi (IntOp.cmpi .sge (cls j) 0#32) (IntOp.cmpi .slt (cls j) (BitVec.ofNat 32 32)) = 1#1 :=
      Host.reduce_andi_all _ _ _ _ _ hA j
    rw [andi_sge_zero_slt_ofNat (by decide)] at e
    exact of_decide_eq_true ((ofBool_one _).mp e)
  refine ⟨hc, fun t => ?_⟩
  have hclip : Cert.Pre_in_range.fn_clip (F := F) cls (constantI S_ 32 0#32) (constantI S_ 32 31#32) = cls := by
    funext j
    exact clip_id _ (hc j)
  have hP : posAt cls rank starts t = refPos cls rank starts (tok t) := by
    rw [refPos_eq cls rank starts hc]
    show _ = posAt cls rank starts ((tok t) 0).val
    unfold posAt
    rw [tok_coord]
  have e : IntOp.andi (IntOp.cmpi .sge (refPos (Cert.Pre_in_range.fn_clip (F := F) cls (constantI S_ 32 0#32) (constantI S_ 32 31#32)) rank starts (tok t)) 0#32)
      (IntOp.cmpi .slt (refPos (Cert.Pre_in_range.fn_clip (F := F) cls (constantI S_ 32 0#32) (constantI S_ 32 31#32)) rank starts (tok t)) (BitVec.ofNat 32 22528)) = 1#1 :=
    Host.reduce_andi_all _ _ _ _ _ hB (tok t)
  rw [andi_sge_zero_slt_ofNat (by decide), hclip] at e
  rw [hP]
  exact of_decide_eq_true ((ofBool_one _).mp e)

/-- Under the precondition the arguments are in range. -/
theorem inRange_of_pre {F : FTy → Type} [FloatOps F] (cls rank : IVec S16384 32) (counts : FVec F Cert.KernelIdeal.S32x128 .f32)
    (h : Cert.Pre_in_range.fn (F := F) cls rank counts = fun _ => 1#1) : InRange cls rank (startsFrom counts) := by
  rw [pre_split, refStarts_eq] at h
  exact inRange_of_preAt (F := F) cls rank _ h

end Cert.Proof

end
-- ==== Proof.PairLaunch.lean ====
/-
  The setting of the expert kernel's certificate: what the region finds in memory, the host lines after it, the tables the
  grid reads, and each window's block.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.FrameSuffix
public import Idealize.ShloMosaic.Lib.Pipeline.TableIdle
public import Idealize.ShloMosaic.Lib.Tactic
public import Idealize.ShloMosaic.Lib.WordCmp

@[expose] public section

set_option maxRecDepth 16384

noncomputable section

namespace Cert.Kernel2Ideal.Pair

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Memory when the region is entered -/

/-- The host lines before the region, a called function's own lines in its place. -/
abbrev preOps : List (List (HloOp τ sig (Elt F))) :=
  [hostOps0, hostOps0_1, hostOps0_2, hostOps0_3, hostOps0_4, hostOps0_5, hostOps0_6, hostOps0_7, hostOps0_8, hostOps0_9, hostOps0_10, hostOps0_11,
    hostOps0_12]

/-- What the host lines before the region leave on device `c`. -/
@[irreducible] def entry (c : Dev nD) : Valuation τ sig (Elt F) := StableHlo.after (List.flatten preOps) (fun b => m (c, b))
/-- The same, by buffer. -/
abbrev V (c : Dev nD) (b : Ref sig .tc) : Buf (Elt F) ((c : Thread nD τ).loc b) := entry m c (Proc.devRef .tc b)

theorem pre_fresh : (preOps : List (List (HloOp τ sig (Elt F)))).Forall fun ops => ops.Forall fun op => op.fresh = ∅ := by
  simp only [List.Forall]; repeat' constructor
theorem post_fresh : (hostOps1 : List (HloOp τ sig (Elt F))).Forall fun op => op.fresh = ∅ := by
  simp only [List.Forall]; repeat' constructor

set_option maxHeartbeats 1600000 in
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) := by
  unfold V entry
  exact Pipeline.hmainP_around pcfgs 0 defs₀ 𝒱₀ m main preOps [hostOps1] (by
      simp only [List.Forall]
      exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    pre_fresh main_chain

theorem post_sub : ∀ ops ∈ ([hostOps1] : List (List (HloOp τ sig (Elt F)))), ∀ op ∈ ops,
    op.bufs ⊆ Pipeline.tailRefs sig pre0 spec0 := by
  intro ops hops op hop
  obtain rfl := List.mem_singleton.mp hops
  refine Pipeline.sub_tailRefs pre0 spec0 op ((List.forall_iff_forall_mem.mp hostOps1_sub) op hop) ?_
  simp only [hostOps1, List.mem_cons, List.mem_nil_iff, or_false] at hop
  rcases hop with rfl | rfl | rfl | rfl | rfl | rfl | rfl | rfl | rfl | rfl | rfl | rfl | rfl | rfl | rfl | rfl | rfl | rfl
  all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

theorem post_fresh' : ∀ ops ∈ ([hostOps1] : List (List (HloOp τ sig (Elt F)))), ∀ op ∈ ops, op.fresh = ∅ := by
  intro ops hops op hop
  obtain rfl := List.mem_singleton.mp hops
  exact (List.forall_iff_forall_mem.mp post_fresh) op hop

set_option maxHeartbeats 400000 in
/-- The buffers no host line after the region writes. -/
theorem post_keeps (b : Ref sig .tc)
    (hb : b ∈ [main_arg0, main_arg1, main_arg2, main_arg3, main_arg4, main_arg5, main_arg6, main_arg7, main_arg8, main_arg9,
      main_v6, main_v13, main_v15, main_v63, main_v64_0, main_v64_1]) :
    ∀ op ∈ (hostOps1 : List (HloOp τ sig (Elt F))), Proc.devRef .tc b ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl
  all_goals
    simp only [StableHlo.nullary_writes, StableHlo.unary_writes, StableHlo.binary_writes, StableHlo.ternary_writes, StableHlo.quaternary_writes, StableHlo.reshape_writes, StableHlo.binaryIndexed_writes, Finset.mem_singleton]
    refine StableHlo.devRef_ne_of_ne fun e => ?_
    subst e
    revert hb; decide

theorem post_keeps_arrays : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.mp hops
  exact post_keeps _ (by revert w; decide) op hop

/-! ## What each stretch of host lines writes -/

abbrev outs0 : List (Ref sig .tc) :=
  [main_c, main_c_0, main_c_1, main_v0, main_v1, main_c_2, main_v2, main_v3, main_v4, main_v5, main_v6, main_c_3, main_v7, main_v8, main_c_4, main_v9,
    main_v10, main_v11, main_v12, main_v13, main_v14, main_v15, main_v16, main_v17, main_v18, main_c_5, main_v19, main_v20, main_c_6, main_v21,
    main_v22, main_c_7]
abbrev outs1 : List (Ref sig .tc) :=
  [main_call0_v0, main_call0_v1, main_call0_v2, main_call0_v3, main_call0_v4, main_call0_v5, main_call0_v6, main_call0_v7, main_call0_v8,
    main_call0_c, main_call0_v9, main_call0_v10, main_call0_v11, main_call0_c_0, main_call0_v12, main_call0_v13, main_v23]
abbrev outs2 : List (Ref sig .tc) :=
  [main_c_8, main_v24, main_v25]
abbrev outs3 : List (Ref sig .tc) :=
  [main_call1_call0_c, main_call1_call0_v0, main_v26]
abbrev outs4 : List (Ref sig .tc) :=
  [main_v27, main_v28, main_v29, main_c_9, main_v30, main_v31, main_v32, main_v33, main_v34, main_v35, main_v36, main_c_10, main_v37, main_c_11,
    main_v38, main_v39, main_c_12]
abbrev outs5 : List (Ref sig .tc) :=
  [main_call2_v0, main_call2_v1, main_call2_v2, main_call2_v3, main_call2_v4, main_call2_v5, main_call2_v6, main_call2_v7, main_call2_v8,
    main_call2_c, main_call2_v9, main_call2_v10, main_call2_v11, main_call2_c_0, main_call2_v12, main_call2_v13, main_v40]
abbrev outs6 : List (Ref sig .tc) :=
  [main_c_13, main_v41, main_v42, main_c_14]
abbrev outs7 : List (Ref sig .tc) :=
  [main_call3_v0, main_call3_c, main_call3_v1, main_call3_c_0, main_call3_v2, main_call3_v3, main_call3_v4, main_call3_c_1, main_call3_v5,
    main_call3_v6, main_call3_c_2, main_call3_v7, main_call3_v8, main_call3_c_3, main_call3_v9, main_call3_v10, main_call3_v11, main_call3_v12,
    main_call3_v13, main_call3_v14, main_v43]
abbrev outs8 : List (Ref sig .tc) :=
  [main_c_15, main_v44, main_v45, main_c_16, main_v46, main_v47, main_v48, main_v49, main_v50, main_v51, main_c_17]
abbrev outs9 : List (Ref sig .tc) :=
  [main_call4_v0, main_call4_c, main_call4_v1, main_call4_c_0, main_call4_v2, main_call4_v3, main_call4_v4, main_call4_c_1, main_call4_v5,
    main_call4_v6, main_call4_c_2, main_call4_v7, main_call4_v8, main_call4_c_3, main_call4_v9, main_call4_v10, main_call4_v11, main_call4_v12,
    main_call4_v13, main_call4_v14, main_v52]
abbrev outs10 : List (Ref sig .tc) :=
  [main_c_18, main_v53, main_v54, main_c_19, main_v55, main_v56, main_v57, main_v58, main_v59, main_v60, main_v61, main_c_20]
abbrev outs11 : List (Ref sig .tc) :=
  [main_call5_v0, main_call5_v1, main_call5_v2, main_call5_v3, main_call5_v4, main_call5_v5, main_call5_v6, main_call5_v7, main_call5_v8,
    main_call5_c, main_call5_v9, main_call5_v10, main_call5_v11, main_call5_c_0, main_call5_v12, main_call5_v13, main_v62]
abbrev outs12 : List (Ref sig .tc) :=
  [main_v63]
theorem kept0 (W : Valuation τ sig (Elt F)) (b : Ref sig .tc) (hb : b ∉ outs0) :
    StableHlo.after hostOps0 W (Proc.devRef .tc b) = W (Proc.devRef .tc b) :=
  StableHlo.after_of_writes_sub (W := outs0) _ W (StableHlo.forall_writes_sub_of_map rfl) hb
theorem kept1 (W : Valuation τ sig (Elt F)) (b : Ref sig .tc) (hb : b ∉ outs1) :
    StableHlo.after hostOps0_1 W (Proc.devRef .tc b) = W (Proc.devRef .tc b) :=
  StableHlo.after_of_writes_sub (W := outs1) _ W (StableHlo.forall_writes_sub_of_map rfl) hb
theorem kept2 (W : Valuation τ sig (Elt F)) (b : Ref sig .tc) (hb : b ∉ outs2) :
    StableHlo.after hostOps0_2 W (Proc.devRef .tc b) = W (Proc.devRef .tc b) :=
  StableHlo.after_of_writes_sub (W := outs2) _ W (StableHlo.forall_writes_sub_of_map rfl) hb
theorem kept3 (W : Valuation τ sig (Elt F)) (b : Ref sig .tc) (hb : b ∉ outs3) :
    StableHlo.after hostOps0_3 W (Proc.devRef .tc b) = W (Proc.devRef .tc b) :=
  StableHlo.after_of_writes_sub (W := outs3) _ W (StableHlo.forall_writes_sub_of_map rfl) hb
theorem kept4 (W : Valuation τ sig (Elt F)) (b : Ref sig .tc) (hb : b ∉ outs4) :
    StableHlo.after hostOps0_4 W (Proc.devRef .tc b) = W (Proc.devRef .tc b) :=
  StableHlo.after_of_writes_sub (W := outs4) _ W (StableHlo.forall_writes_sub_of_map rfl) hb
theorem kept5 (W : Valuation τ sig (Elt F)) (b : Ref sig .tc) (hb : b ∉ outs5) :
    StableHlo.after hostOps0_5 W (Proc.devRef .tc b) = W (Proc.devRef .tc b) :=
  StableHlo.after_of_writes_sub (W := outs5) _ W (StableHlo.forall_writes_sub_of_map rfl) hb
theorem kept6 (W : Valuation τ sig (Elt F)) (b : Ref sig .tc) (hb : b ∉ outs6) :
    StableHlo.after hostOps0_6 W (Proc.devRef .tc b) = W (Proc.devRef .tc b) :=
  StableHlo.after_of_writes_sub (W := outs6) _ W (StableHlo.forall_writes_sub_of_map rfl) hb
theorem kept7 (W : Valuation τ sig (Elt F)) (b : Ref sig .tc) (hb : b ∉ outs7) :
    StableHlo.after hostOps0_7 W (Proc.devRef .tc b) = W (Proc.devRef .tc b) :=
  StableHlo.after_of_writes_sub (W := outs7) _ W (StableHlo.forall_writes_sub_of_map rfl) hb
theorem kept8 (W : Valuation τ sig (Elt F)) (b : Ref sig .tc) (hb : b ∉ outs8) :
    StableHlo.after hostOps0_8 W (Proc.devRef .tc b) = W (Proc.devRef .tc b) :=
  StableHlo.after_of_writes_sub (W := outs8) _ W (StableHlo.forall_writes_sub_of_map rfl) hb
theorem kept9 (W : Valuation τ sig (Elt F)) (b : Ref sig .tc) (hb : b ∉ outs9) :
    StableHlo.after hostOps0_9 W (Proc.devRef .tc b) = W (Proc.devRef .tc b) :=
  StableHlo.after_of_writes_sub (W := outs9) _ W (StableHlo.forall_writes_sub_of_map rfl) hb
theorem kept10 (W : Valuation τ sig (Elt F)) (b : Ref sig .tc) (hb : b ∉ outs10) :
    StableHlo.after hostOps0_10 W (Proc.devRef .tc b) = W (Proc.devRef .tc b) :=
  StableHlo.after_of_writes_sub (W := outs10) _ W (StableHlo.forall_writes_sub_of_map rfl) hb
theorem kept11 (W : Valuation τ sig (Elt F)) (b : Ref sig .tc) (hb : b ∉ outs11) :
    StableHlo.after hostOps0_11 W (Proc.devRef .tc b) = W (Proc.devRef .tc b) :=
  StableHlo.after_of_writes_sub (W := outs11) _ W (StableHlo.forall_writes_sub_of_map rfl) hb
theorem kept12 (W : Valuation τ sig (Elt F)) (b : Ref sig .tc) (hb : b ∉ outs12) :
    StableHlo.after hostOps0_12 W (Proc.devRef .tc b) = W (Proc.devRef .tc b) :=
  StableHlo.after_of_writes_sub (W := outs12) _ W (StableHlo.forall_writes_sub_of_map rfl) hb

theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

/-- Memory after the first stretch of host lines, after the next, and so on. -/
abbrev st0 (c : Dev nD) : Valuation τ sig (Elt F) := StableHlo.after hostOps0 (fun b => m (c, b))
abbrev st1 (c : Dev nD) : Valuation τ sig (Elt F) := StableHlo.after hostOps0_1 (st0 m c)
abbrev st2 (c : Dev nD) : Valuation τ sig (Elt F) := StableHlo.after hostOps0_2 (st1 m c)
abbrev st3 (c : Dev nD) : Valuation τ sig (Elt F) := StableHlo.after hostOps0_3 (st2 m c)
abbrev st4 (c : Dev nD) : Valuation τ sig (Elt F) := StableHlo.after hostOps0_4 (st3 m c)
abbrev st5 (c : Dev nD) : Valuation τ sig (Elt F) := StableHlo.after hostOps0_5 (st4 m c)
abbrev st6 (c : Dev nD) : Valuation τ sig (Elt F) := StableHlo.after hostOps0_6 (st5 m c)
abbrev st7 (c : Dev nD) : Valuation τ sig (Elt F) := StableHlo.after hostOps0_7 (st6 m c)
abbrev st8 (c : Dev nD) : Valuation τ sig (Elt F) := StableHlo.after hostOps0_8 (st7 m c)
abbrev st9 (c : Dev nD) : Valuation τ sig (Elt F) := StableHlo.after hostOps0_9 (st8 m c)
abbrev st10 (c : Dev nD) : Valuation τ sig (Elt F) := StableHlo.after hostOps0_10 (st9 m c)
abbrev st11 (c : Dev nD) : Valuation τ sig (Elt F) := StableHlo.after hostOps0_11 (st10 m c)
abbrev st12 (c : Dev nD) : Valuation τ sig (Elt F) := StableHlo.after hostOps0_12 (st11 m c)

theorem entry_eq (c : Dev nD) : entry m c = st12 m c := by
  unfold entry preOps
  simp only [List.flatten_cons, List.flatten_nil, after_append, List.append_nil]

/-- The host lines before the region write none of the arguments. -/
theorem V_kept (c : Dev nD) (b : Ref sig .tc) (hb : b ∈ [main_arg0, main_arg1, main_arg2, main_arg3, main_arg4, main_arg5, main_arg6, main_arg7, main_arg8, main_arg9]) :
    V m c b = m ((c : Thread nD τ).loc b) := by
  have h0 := (by decide : ∀ b ∈ ([main_arg0, main_arg1, main_arg2, main_arg3, main_arg4, main_arg5, main_arg6, main_arg7, main_arg8, main_arg9] : List (Ref sig .tc)),
    b ∉ outs0 ∧ b ∉ outs1 ∧ b ∉ outs2 ∧ b ∉ outs3 ∧ b ∉ outs4 ∧ b ∉ outs5 ∧ b ∉ outs6 ∧ b ∉ outs7 ∧ b ∉ outs8 ∧ b ∉ outs9 ∧ b ∉ outs10 ∧ b ∉ outs11 ∧ b ∉ outs12) b hb
  obtain ⟨h0, h1, h2, h3, h4, h5, h6, h7, h8, h9, h10, h11, h12⟩ := h0
  refine (congrFun (entry_eq m c) _).trans ?_
  exact (kept12 _ b h12).trans ((kept11 _ b h11).trans ((kept10 _ b h10).trans ((kept9 _ b h9).trans ((kept8 _ b h8).trans ((kept7 _ b h7).trans ((kept6 _ b h6).trans ((kept5 _ b h5).trans ((kept4 _ b h4).trans ((kept3 _ b h3).trans ((kept2 _ b h2).trans ((kept1 _ b h1).trans (kept0 _ b h0))))))))))))

/-! ## The tables -/

/-- The tables' contents (there is one device). -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl
/-- Every window's block lies in its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tab0 : Memref sig .tc .smem S88 .i32 := Memref.whole main_v51
abbrev tab1 : Memref sig .tc .smem S88 .i32 := Memref.whole main_v60
abbrev tab2 : Memref sig .tc .smem S1 .i32 := Memref.whole main_v62

/-- Half of a table's buffer, at its contents: what the body holds of it. -/
abbrev tabPt (c : Dev nD) {S : Shape} {e : EltTy} (M : Memref sig .tc .smem S e) (f : Buf (Elt F) (M.view.loc (c : Thread nD τ))) : sProp 𝕄 :=
  M.view.loc (c : Thread nD τ) ↦{fullShare.right} f

theorem PhiT_eq (c : Dev nD) : (Pipeline.ΦT pre0 (tbl m) c : sProp 𝕄) = iprop(tabPt c tab0 (tbl m 0) ∗ tabPt c tab1 (tbl m 1) ∗ tabPt c tab2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The number of row tiles in use. -/
def nUsed : ℕ := BitVec.toNat (tbl m 2 (fun a => ⟨0, by fin_cases a; decide⟩) : BitVec 32)

theorem coord_val (t : Fin grid0.N) : (grid0.coords t 0).val = t.val := by
  have h : t.val < 88 := t.isLt
  rw [Pipeline.Grid.coords_val t 0 (S := 1) (B := 88) rfl rfl]
  omega

/-- The number of row tiles in use is between 1 and 88. -/
abbrev UsedOk : Prop := 1 ≤ nUsed m ∧ nUsed m ≤ 88

theorem at2_toNat {h} : BitVec.toNat ((tbl m).at 2 (Rect.unit (s := S1) ![0] S1.size inb_S1_S1_0) h : BitVec 32) = nUsed m := by
  unfold nUsed Pipeline.Prefetch.Contents.at
  congr 2
  funext a; fin_cases a; exact Subsingleton.elim (α := Fin 1) _ _

theorem atD2_toNat : BitVec.toNat ((tbl m).atD 2 ![0] : BitVec 32) = nUsed m := by
  unfold nUsed Pipeline.Prefetch.Contents.atD
  rw [dif_pos (by intro a; fin_cases a; decide)]
  congr 2
  funext a; fin_cases a; rfl

/-- The row tile of a point: the point, but for the last tile in use from there on. -/
theorem row_eq (hu : UsedOk m) (t : Fin grid0.N) (v : BitVec 32) (hv : v.toNat = nUsed m) :
    (Scalar.minsi (BitVec.ofNat 32 (grid0.coords t 0).val) (Scalar.subi v 1#32)).toNat = min t.val (nUsed m - 1) := by
  have h : t.val < 88 := t.isLt
  obtain ⟨h1, h2⟩ := hu
  have e : v = BitVec.ofNat 32 (nUsed m) := by rw [← hv]; simp
  rw [coord_val, e]
  generalize nUsed m = n at *
  generalize t.val = k at *
  have key : ∀ k < 88, ∀ n < 89, 1 ≤ n → (Scalar.minsi (BitVec.ofNat 32 k) (Scalar.subi (BitVec.ofNat 32 n) 1#32)).toNat = min k (n - 1) := by decide +kernel
  exact key k h n (by omega) h1

theorem cond_iff (hu : UsedOk m) (t : Fin grid0.N) (v : BitVec 32) (hv : v.toNat = nUsed m) :
    k0_cond1 (grid0.coords t) v = 1#1 ↔ t.val < nUsed m := by
  have h : t.val < 88 := t.isLt
  obtain ⟨h1, h2⟩ := hu
  have e : v = BitVec.ofNat 32 (nUsed m) := by rw [← hv]; simp
  unfold k0_cond1
  dsimp only
  rw [coord_val, e]
  generalize nUsed m = n at *
  generalize t.val = k at *
  have key : ∀ k < 88, ∀ n < 89, (Scalar.cmpi .ne (Scalar.extui (Scalar.cmpi .slt (BitVec.ofNat 32 k) (BitVec.ofNat 32 n)) : BitVec 32) (0#32) : BitVec 1) = 1#1 ↔ k < n := by decide +kernel
  exact key k h n (by omega)

theorem index6 (hO : Ok m) (hu : UsedOk m) (t : Fin (cfgM m hO).N) : ((cfgM m hO).win 6).index t = ![min t.val (nUsed m - 1), 0] := by
  have e := row_eq m hu t _ (at2_toNat m (h := numel1_S1))
  show cc0_transform_7 inb_S1_S1_0 numel1_S1 (tbl m) (grid0.coords t) = _
  unfold cc0_transform_7
  dsimp only
  rw [e]; rfl

theorem index7 (hO : Ok m) (hu : UsedOk m) (t : Fin (cfgM m hO).N) : ((cfgM m hO).win 7).index t = ![min t.val (nUsed m - 1), 0] :=
  index6 m hO hu t

theorem index0 (hO : Ok m) (hu : UsedOk m) (t : Fin (cfgM m hO).N) : ((cfgM m hO).win 0).index t = ![min t.val (nUsed m - 1), 0] :=
  index6 m hO hu t

theorem index1 (hO : Ok m) (hu : UsedOk m) (t : Fin (cfgM m hO).N) : ((cfgM m hO).win 1).index t = ![min t.val (nUsed m - 1), 0] :=
  index6 m hO hu t

end Cert.Kernel2Ideal.Pair

end
-- ==== Proof.PairBody.lean ====
/-
  The expert kernel's body at one grid point: at a tile in use it stores two halves of a sum of two expert products; past
  the last tile in use it stores nothing.
-/
module

public import proofs.«01_k».proof.Proof.PairLaunch
public import Idealize.ShloMosaic.Lib.WholeRead
public import Idealize.ShloMosaic.Lib.WritesUnit

@[expose] public section

set_option maxRecDepth 16384

noncomputable section

namespace Cert.Kernel2Ideal.Pair

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The columns of the second row block that hold numbers, and those that hold weights. -/
def colsA (x : Vec F S256x384 .i32) : Vec F S256x256 .i32 := fun j => x ((Rect.unit (s := S256x384) ![0, 0] S256x256.size inb_S256x384_S256x256_0_0).emb j)
def colsB (x : Vec F S256x384 .i32) : Vec F S256x128 .i32 := fun j => x ((Rect.unit (s := S256x384) ![0, 256] S256x128.size inb_S256x384_S256x128_0_256).emb j)

/-- The two halves of what a tile's rows come to. -/
def tileL (x0 : Vec F S256x256 .i32) (x1 : Vec F S256x384 .i32) (x2 : Vec F S1x1024x512 .bf16) (x3 : Vec F S1x256x1024 .bf16) (x4 : Vec F S1x1024x512 .bf16) (x5 : Vec F S1x256x1024 .bf16) : Vec F S256x512 .bf16 :=
  k0_pay2 (k0_pay4 x0 (colsA x1)) (k0_pay5 (colsB x1)) (k0_pay6 x0 (colsA x1) (colsB x1) x2) x3 x4 x5
def tileR (x0 : Vec F S256x256 .i32) (x1 : Vec F S256x384 .i32) (x2 : Vec F S1x1024x512 .bf16) (x3 : Vec F S1x256x1024 .bf16) (x4 : Vec F S1x1024x512 .bf16) (x5 : Vec F S1x256x1024 .bf16) : Vec F S256x512 .bf16 :=
  k0_pay3 (k0_pay4 x0 (colsA x1)) (k0_pay5 (colsB x1)) (k0_pay6 x0 (colsA x1) (colsB x1) x2) x3 x4 x5

/-- A load of a whole buffer that reads `x` is `x`. -/
theorem load_whole {s : Shape} {e : EltTy} {M : Memref sig .tc .vmem s e} (hM : M.IsWhole) (x : Vec F s e) {off : Fin s.rank → ℕ}
    (h0 : ∀ a, off a = 0) (inb : ∀ a, off a + s.size a ≤ s.size a) :
    View.readAt (Elt F) M.view (Rect.unit off s.size inb).toLoadRect (hM.unread x) = x := by
  funext j
  refine (hM.readAt_unread x _ j).trans (congrArg x (funext fun a => Fin.ext ?_))
  show off a + 1 * (j a).val = (j a).val
  rw [h0 a]; omega

/-- What one store of a whole block leaves is what was stored. -/
theorem store_whole {s : Shape} {e : EltTy} (M : Memref sig .tc .vmem s e) (f : M.view.ty.Contents (Elt F)) {off : Fin s.rank → ℕ}
    (h0 : ∀ a, off a = 0) (inb : ∀ a, off a + s.size a ≤ s.size a) (w : Vec F s e) :
    View.read (Elt F) M.view (M.view.writes (Elt F) f [⟨Rect.unit off s.size inb, w⟩]) = w := by
  funext y
  exact View.read_writes_cons_unit_of_mem M.view f inb w [] y y rfl fun a => by rw [h0 a]; omega

set_option maxHeartbeats 1000000 in
/-- A tile in use. -/
theorem body_live (c : Dev nD) (i : grid0.Coords) (arg4 : Memref sig .tc .vmem S256x256 .i32) (harg4 : arg4.IsWhole) (arg5 : Memref sig .tc .vmem S256x384 .i32) (harg5 : arg5.IsWhole) (arg6 : Memref sig .tc .vmem S1x1024x512 .bf16) (harg6 : arg6.IsWhole) (arg7 : Memref sig .tc .vmem S1x256x1024 .bf16) (harg7 : arg7.IsWhole) (arg8 : Memref sig .tc .vmem S1x1024x512 .bf16) (harg8 : arg8.IsWhole) (arg9 : Memref sig .tc .vmem S1x256x1024 .bf16) (harg9 : arg9.IsWhole) (arg11 : Memref sig .tc .vmem S256x512 .bf16) (harg11 : arg11.IsWhole) (arg12 : Memref sig .tc .vmem S256x512 .bf16) (harg12 : arg12.IsWhole)
    (x0 : Vec F S256x256 .i32) (x1 : Vec F S256x384 .i32) (x2 : Vec F S1x1024x512 .bf16) (x3 : Vec F S1x256x1024 .bf16) (x4 : Vec F S1x1024x512 .bf16) (x5 : Vec F S1x256x1024 .bf16)
    (n : Buf (Elt F) (tab2.view.loc (c : Thread nD τ)))
    (hc : k0_cond1 i (n ((Rect.unit (s := S1) ![0] S1.size inb_S1_S1_0).emb (Shape.Idx.first (numel1_S1.symm ▸ Nat.one_pos)))) = 1#1)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg11 fullShare d) ∗ (∃ d, owns (c : Thread nD τ) arg12 fullShare d) ∗ tabPt c tab2 n
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5
            ∗ owns (c : Thread nD τ) arg11 fullShare (tileL x0 x1 x2 x3 x4 x5) ∗ owns (c : Thread nD τ) arg12 fullShare (tileR x0 x1 x2 x3 x4 x5) ∗ tabPt c tab2 n) -∗ K ⟨⟩))
      ⊢ wp frame (wpE (defs₀ (F := F)) Variants.none c none) E (cc0_moe_pair i tab0 (Memref.isWhole_whole _) tab1 (Memref.isWhole_whole _) tab2 (Memref.isWhole_whole _) arg4 harg4 arg5 harg5 arg6 harg6 arg7 harg7 arg8 harg8 arg9 harg9 (Memref.whole main_arg9) (Memref.isWhole_whole _) arg11 harg11 arg12 harg12) K := by
  simp only [cc0_moe_pair_eq_skeleton]; unfold cc0_moe_pair_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, HT2, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5
  sl_exec (disch := sl_exact hc)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr
    swap; · iexact H6
    ipureintro
    refine (store_whole _ _ (by decide) _ _).trans ?_
    unfold tileL
    rw [load_whole harg8 x4 (by decide), load_whole harg9 x5 (by decide)]
    have e1 : body_live.sl.r_1 c arg4 harg4 arg5 harg5 x0 x1 = k0_pay4 x0 (colsA x1) := by
      unfold body_live.sl.r_1
      exact congr (congrArg k0_pay4 (load_whole harg4 x0 (by decide) _)) (funext fun j => harg5.readAt_unread x1 _ j)
    have e2 : body_live.sl.r_2 c arg5 harg5 x1 = k0_pay5 (colsB x1) := by
      unfold body_live.sl.r_2
      exact congrArg k0_pay5 (funext fun j => harg5.readAt_unread x1 _ j)
    have e3 : body_live.sl.r_3 c arg4 harg4 arg5 harg5 arg6 harg6 x0 x1 x2 = k0_pay6 x0 (colsA x1) (colsB x1) x2 := by
      unfold body_live.sl.r_3
      exact congr (congr (congr (congrArg k0_pay6 (load_whole harg4 x0 (by decide) _)) (funext fun j => harg5.readAt_unread x1 _ j))
        (funext fun j => harg5.readAt_unread x1 _ j)) (load_whole harg6 x2 (by decide) _)
    have e4 : body_live.sl.r_4 c arg7 harg7 x3 = x3 := by
      unfold body_live.sl.r_4
      exact load_whole harg7 x3 (by decide) _
    rw [e1, e2, e3, e4]
  isplitl [H7]
  · iexists _; isplitr
    swap; · iexact H7
    ipureintro
    refine (store_whole _ _ (by decide) _ _).trans ?_
    unfold tileR
    rw [load_whole harg8 x4 (by decide), load_whole harg9 x5 (by decide)]
    have e1 : body_live.sl.r_1 c arg4 harg4 arg5 harg5 x0 x1 = k0_pay4 x0 (colsA x1) := by
      unfold body_live.sl.r_1
      exact congr (congrArg k0_pay4 (load_whole harg4 x0 (by decide) _)) (funext fun j => harg5.readAt_unread x1 _ j)
    have e2 : body_live.sl.r_2 c arg5 harg5 x1 = k0_pay5 (colsB x1) := by
      unfold body_live.sl.r_2
      exact congrArg k0_pay5 (funext fun j => harg5.readAt_unread x1 _ j)
    have e3 : body_live.sl.r_3 c arg4 harg4 arg5 harg5 arg6 harg6 x0 x1 x2 = k0_pay6 x0 (colsA x1) (colsB x1) x2 := by
      unfold body_live.sl.r_3
      exact congr (congr (congr (congrArg k0_pay6 (load_whole harg4 x0 (by decide) _)) (funext fun j => harg5.readAt_unread x1 _ j))
        (funext fun j => harg5.readAt_unread x1 _ j)) (load_whole harg6 x2 (by decide) _)
    have e4 : body_live.sl.r_4 c arg7 harg7 x3 = x3 := by
      unfold body_live.sl.r_4
      exact load_whole harg7 x3 (by decide) _
    rw [e1, e2, e3, e4]
  iexact HT2

set_option maxHeartbeats 1000000 in
/-- Past the last tile in use. -/
theorem body_idle (c : Dev nD) (i : grid0.Coords) (arg4 : Memref sig .tc .vmem S256x256 .i32) (harg4 : arg4.IsWhole) (arg5 : Memref sig .tc .vmem S256x384 .i32) (harg5 : arg5.IsWhole) (arg6 : Memref sig .tc .vmem S1x1024x512 .bf16) (harg6 : arg6.IsWhole) (arg7 : Memref sig .tc .vmem S1x256x1024 .bf16) (harg7 : arg7.IsWhole) (arg8 : Memref sig .tc .vmem S1x1024x512 .bf16) (harg8 : arg8.IsWhole) (arg9 : Memref sig .tc .vmem S1x256x1024 .bf16) (harg9 : arg9.IsWhole) (arg11 : Memref sig .tc .vmem S256x512 .bf16) (harg11 : arg11.IsWhole) (arg12 : Memref sig .tc .vmem S256x512 .bf16) (harg12 : arg12.IsWhole)
    (n : Buf (Elt F) (tab2.view.loc (c : Thread nD τ)))
    (hc : ¬ k0_cond1 i (n ((Rect.unit (s := S1) ![0] S1.size inb_S1_S1_0).emb (Shape.Idx.first (numel1_S1.symm ▸ Nat.one_pos)))) = 1#1)
    (E : Set ℕ) (K : PUnit → sProp 𝕄) :
    iprop(tabPt c tab2 n ∗ (tabPt c tab2 n -∗ K ⟨⟩))
      ⊢ wp frame (wpE (defs₀ (F := F)) Variants.none c none) E (cc0_moe_pair i tab0 (Memref.isWhole_whole _) tab1 (Memref.isWhole_whole _) tab2 (Memref.isWhole_whole _) arg4 harg4 arg5 harg5 arg6 harg6 arg7 harg7 arg8 harg8 arg9 harg9 (Memref.whole main_arg9) (Memref.isWhole_whole _) arg11 harg11 arg12 harg12) K := by
  simp only [cc0_moe_pair_eq_skeleton]; unfold cc0_moe_pair_skel
  iintro ⟨HT2, Hk⟩
  sl_exec (disch := sl_exact hc)
  sl_step
  iapply Hk
  iexact HT2

end Cert.Kernel2Ideal.Pair

end
-- ==== Proof.PairRun.lean ====
/-
  The expert kernel's run over any floats: what each staging buffer holds after each grid point, the body's obligation, and
  the whole program's final state.
-/
module

public import proofs.«01_k».proof.Proof.PairBody
public import Idealize.ShloMosaic.Lib.Claim

@[expose] public section

set_option maxRecDepth 16384

noncomputable section

namespace Cert.Kernel2Ideal.Pair

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Point `t`, but for the last tile in use from there on. -/
def usedPt (hO : Ok m) (t : Fin (cfgM m hO).N) : Fin (cfgM m hO).N := ⟨min t.val (nUsed m - 1), lt_of_le_of_lt (min_le_left _ _) t.isLt⟩

theorem usedPt_live (hO : Ok m) (t : Fin (cfgM m hO).N) (h : t.val < nUsed m) : usedPt m hO t = t :=
  Fin.ext (min_eq_left (by omega))

/-- The two halves of what point `t`'s blocks come to. -/
def outL (hO : Ok m) (c : Dev nD) (t : Fin (cfgM m hO).N) : Vec F S256x512 .bf16 :=
  tileL (iblk m hO c 0 t) (iblk m hO c 1 t) (iblk m hO c 2 t) (iblk m hO c 3 t) (iblk m hO c 4 t) (iblk m hO c 5 t)
def outR (hO : Ok m) (c : Dev nD) (t : Fin (cfgM m hO).N) : Vec F S256x512 .bf16 :=
  tileR (iblk m hO c 0 t) (iblk m hO c 1 t) (iblk m hO c 2 t) (iblk m hO c 3 t) (iblk m hO c 4 t) (iblk m hO c 5 t)

/-- The pipeline's proof data: inputs stay at their blocks; each output holds its half of the last tile computed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => outL m hO c (usedPt m hO t)
    | ⟨7, _⟩ => outR m hO c (usedPt m hO t)
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = outL m hO c (usedPt m hO t) := by dsimp only [dats]; try rfl
theorem after_7 (hO : Ok m) (c : Dev nD) (t : Fin (cfgM m hO).N) : (dats m hO 0 c).after 7 t = outR m hO c (usedPt m hO t) := by dsimp only [dats]; try rfl

/-! ## What the body finds in the inputs' buffers -/

theorem found_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem found_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem found_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem found_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem found_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem found_5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-! ## The outputs' buffers past the last tile in use -/

theorem idle_iff (hO : Ok m) (hu : UsedOk m) (t : Fin (cfgM m hO).N) :
    (!(k0_cond1 (grid0.coords t) ((tbl m).atD 2 ![0]) == 1#1)) = decide (nUsed m ≤ t.val) := by
  have h := cond_iff m hu t _ (atD2_toNat m)
  by_cases hc : t.val < nUsed m
  · rw [decide_eq_false (by omega)]
    simp [h.mpr hc]
  · rw [decide_eq_true (by omega)]
    simp [mt h.mp hc]

theorem idle_gen (a : (pcfg0 (F := F)).Adm) (w : Fin 8) (i : grid0.Coords) : (cfg0 a).idle w i = idle0 a.1 w i := rfl
theorem idle0_6 (pf : pre0.Contents (Elt F)) (i : grid0.Coords) : idle0 pf 6 i = !(k0_cond1 i (pf.atD 2 ![0]) == 1#1) := rfl
theorem idle0_7 (pf : pre0.Contents (Elt F)) (i : grid0.Coords) : idle0 pf 7 i = !(k0_cond1 i (pf.atD 2 ![0]) == 1#1) := rfl

theorem last_lt (hO : Ok m) (t : Fin (cfgM m hO).N) : t.val < 88 := t.isLt

theorem idle_6 (hO : Ok m) (hu : UsedOk m) (t : Fin (cfgM m hO).N) : (cfgM m hO).idle 6 ((cfgM m hO).grid.coords t) = decide (nUsed m ≤ t.val) :=
  ((idle_gen (adm m hO) (6 : Fin 8) (grid0.coords t)).trans (idle0_6 (tbl m) (grid0.coords t))).trans (idle_iff m hO hu t)

theorem flush_6 (hO : Ok m) (hu : UsedOk m) (t : Fin (cfgM m hO).N) :
    ((cfgM m hO).win 6).flush t = decide (t.val + 1 = 88 ∨ t.val + 1 < nUsed m) := by
  have ht := last_lt m hO t
  unfold Pipeline.Window.flush
  rw [show ((cfgM m hO).win 6).isOut = true from rfl, Bool.true_and]
  have hN : (cfgM m hO).grid.N = 88 := N_0
  have e : (∃ h : t.val + 1 < (cfgM m hO).grid.N, ((cfgM m hO).win 6).index ⟨t.val + 1, h⟩ ≠ ((cfgM m hO).win 6).index t) ↔ t.val + 1 < nUsed m := by
    have hu' := hu
    obtain ⟨h1, h2⟩ := hu
    constructor
    · rintro ⟨h, hne⟩
      by_contra hc
      refine hne ((index6 m hO hu' _).trans (Eq.trans ?_ (index6 m hO hu' t).symm))
      have : min (t.val + 1) (nUsed m - 1) = min t.val (nUsed m - 1) := by omega
      simp only [this]; rfl
    · intro h
      refine ⟨by omega, fun he => ?_⟩
      have := congrFun ((index6 m hO hu' _).symm.trans (he.trans (index6 m hO hu' t))) 0
      simp only [Matrix.cons_val_zero] at this
      omega
  rw [Bool.decide_or]
  exact congrArg₂ (· || ·) (decide_eq_decide.mpr (by omega)) (decide_eq_decide.mpr e)

theorem found_6 (hO : Ok m) (hu : UsedOk m) (c : Dev nD) (t : Fin (cfgM m hO).N) (ht : nUsed m ≤ t.val) (d) :
    (dats m hO 0 c).before 6 t d = (dats m hO 0 c).after 6 t := by
  have h88 := last_lt m hO t
  have h1 := hu.1
  rw [(dats m hO 0 c).before_idle_run 6 (fun t => Pipeline.Window.fetch_out _ rfl t) d (t.val - nUsed m) t (by omega) (fun j h₁ h₂ => by
    rw [idle_6 m hO hu, flush_6 m hO hu]
    exact ⟨decide_eq_true (by omega), decide_eq_false (by omega)⟩)]
  rw [(dats m hO 0 c).before_of_pos 6 _ (by dsimp only; omega) (Pipeline.Window.fetch_out _ rfl _), flush_6 m hO hu,
    if_neg (by simp only [decide_eq_true_eq]; omega)]
  unfold Dat.left
  rw [idle_6 m hO hu, decide_eq_false (by dsimp only; omega)]
  show (dats m hO 0 c).after 6 _ = _
  rw [after_6, after_6]
  congr 1
  exact Fin.ext (by show min (t.val - (t.val - nUsed m) - 1) (nUsed m - 1) = min t.val (nUsed m - 1); omega)

theorem idle_7 (hO : Ok m) (hu : UsedOk m) (t : Fin (cfgM m hO).N) : (cfgM m hO).idle 7 ((cfgM m hO).grid.coords t) = decide (nUsed m ≤ t.val) :=
  ((idle_gen (adm m hO) (7 : Fin 8) (grid0.coords t)).trans (idle0_7 (tbl m) (grid0.coords t))).trans (idle_iff m hO hu t)

theorem flush_7 (hO : Ok m) (hu : UsedOk m) (t : Fin (cfgM m hO).N) :
    ((cfgM m hO).win 7).flush t = decide (t.val + 1 = 88 ∨ t.val + 1 < nUsed m) := by
  have ht := last_lt m hO t
  unfold Pipeline.Window.flush
  rw [show ((cfgM m hO).win 7).isOut = true from rfl, Bool.true_and]
  have hN : (cfgM m hO).grid.N = 88 := N_0
  have e : (∃ h : t.val + 1 < (cfgM m hO).grid.N, ((cfgM m hO).win 7).index ⟨t.val + 1, h⟩ ≠ ((cfgM m hO).win 7).index t) ↔ t.val + 1 < nUsed m := by
    have hu' := hu
    obtain ⟨h1, h2⟩ := hu
    constructor
    · rintro ⟨h, hne⟩
      by_contra hc
      refine hne ((index7 m hO hu' _).trans (Eq.trans ?_ (index7 m hO hu' t).symm))
      have : min (t.val + 1) (nUsed m - 1) = min t.val (nUsed m - 1) := by omega
      simp only [this]; rfl
    · intro h
      refine ⟨by omega, fun he => ?_⟩
      have := congrFun ((index7 m hO hu' _).symm.trans (he.trans (index7 m hO hu' t))) 0
      simp only [Matrix.cons_val_zero] at this
      omega
  rw [Bool.decide_or]
  exact congrArg₂ (· || ·) (decide_eq_decide.mpr (by omega)) (decide_eq_decide.mpr e)

theorem found_7 (hO : Ok m) (hu : UsedOk m) (c : Dev nD) (t : Fin (cfgM m hO).N) (ht : nUsed m ≤ t.val) (d) :
    (dats m hO 0 c).before 7 t d = (dats m hO 0 c).after 7 t := by
  have h88 := last_lt m hO t
  have h1 := hu.1
  rw [(dats m hO 0 c).before_idle_run 7 (fun t => Pipeline.Window.fetch_out _ rfl t) d (t.val - nUsed m) t (by omega) (fun j h₁ h₂ => by
    rw [idle_7 m hO hu, flush_7 m hO hu]
    exact ⟨decide_eq_true (by omega), decide_eq_false (by omega)⟩)]
  rw [(dats m hO 0 c).before_of_pos 7 _ (by dsimp only; omega) (Pipeline.Window.fetch_out _ rfl _), flush_7 m hO hu,
    if_neg (by simp only [decide_eq_true_eq]; omega)]
  unfold Dat.left
  rw [idle_7 m hO hu, decide_eq_false (by dsimp only; omega)]
  show (dats m hO 0 c).after 7 _ = _
  rw [after_7, after_7]
  congr 1
  exact Fin.ext (by show min (t.val - (t.val - nUsed m) - 1) (nUsed m - 1) = min t.val (nUsed m - 1); omega)

/-! ## The body's obligation -/

abbrev ms0 (hO : Ok m) (t : Fin (cfgM m hO).N) : Memref sig .tc .vmem S256x256 .i32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S256x384 .i32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1024x512 .bf16 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x256x1024 .bf16 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1024x512 .bf16 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1x256x1024 .bf16 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S256x512 .bf16 := spec0_6.stage ((cfgM m hO).slots t 6)
abbrev hs6 (hO : Ok m) (t : Fin (cfgM m hO).N) : (ms6 m hO t).IsWhole := hstage0_6 (((cfgM m hO).slots t 6).cast nbuf0_6)
abbrev ms7 (hO : Ok m) (t : Fin (cfgM m hO).N) : Memref sig .tc .vmem S256x512 .bf16 := spec0_7.stage ((cfgM m hO).slots t 7)
abbrev hs7 (hO : Ok m) (t : Fin (cfgM m hO).N) : (ms7 m hO t).IsWhole := hstage0_7 (((cfgM m hO).slots t 7).cast nbuf0_7)

/-- What the body leaves of window `w` at point `t`. -/
def leaveAt (hO : Ok m) (c : Dev nD) (t : Fin (cfgM m hO).N) (w : Fin 8) : sProp 𝕄 := (dats m hO 0 c).leavesExact w t

theorem leave_busy (hO : Ok m) (c : Dev nD) (t : Fin (cfgM m hO).N) (w : Fin 8) (h : (cfgM m hO).idle w ((cfgM m hO).grid.coords t) = false) :
    leaveAt m hO c t w = owns (c : Thread nD τ) (((cfgM m hO).win w).stage ((cfgM m hO).slots t w)) fullShare ((dats m hO 0 c).after w t) := by
  unfold leaveAt Dat.leavesExact; rw [h]

theorem leave_held (hO : Ok m) (c : Dev nD) (t : Fin (cfgM m hO).N) (w : Fin 8) (h : (cfgM m hO).idle w ((cfgM m hO).grid.coords t) = true)
    (hb : ∀ d, (dats m hO 0 c).before w t d = (dats m hO 0 c).after w t) :
    owns (c : Thread nD τ) (((cfgM m hO).win w).stage ((cfgM m hO).slots t w)) fullShare ((dats m hO 0 c).after w t) ⊢ leaveAt m hO c t w := by
  unfold leaveAt Dat.leavesExact; rw [h]
  cases ((cfgM m hO).win w).flush t
  · dsimp only
    iintro H
    iexists ((dats m hO 0 c).after w t)
    rw [hb]
    iexact H
  · exact .rfl

theorem leaves_0 (hO : Ok m) (c : Dev nD) (t : Fin (cfgM m hO).N) :
    leaveAt m hO c t 0 = owns (c : Thread nD τ) (ms0 m hO t) fullShare (iblk m hO c 0 t) :=
  (leave_busy m hO c t (0 : Fin 8) (idle_gen (adm m hO) (0 : Fin 8) (grid0.coords t))).trans
    (congrArg (owns (c : Thread nD τ) (ms0 m hO t) fullShare) (after_0 m hO c t))
theorem leaves_1 (hO : Ok m) (c : Dev nD) (t : Fin (cfgM m hO).N) :
    leaveAt m hO c t 1 = owns (c : Thread nD τ) (ms1 m hO t) fullShare (iblk m hO c 1 t) :=
  (leave_busy m hO c t (1 : Fin 8) (idle_gen (adm m hO) (1 : Fin 8) (grid0.coords t))).trans
    (congrArg (owns (c : Thread nD τ) (ms1 m hO t) fullShare) (after_1 m hO c t))
theorem leaves_2 (hO : Ok m) (c : Dev nD) (t : Fin (cfgM m hO).N) :
    leaveAt m hO c t 2 = owns (c : Thread nD τ) (ms2 m hO t) fullShare (iblk m hO c 2 t) :=
  (leave_busy m hO c t (2 : Fin 8) (idle_gen (adm m hO) (2 : Fin 8) (grid0.coords t))).trans
    (congrArg (owns (c : Thread nD τ) (ms2 m hO t) fullShare) (after_2 m hO c t))
theorem leaves_3 (hO : Ok m) (c : Dev nD) (t : Fin (cfgM m hO).N) :
    leaveAt m hO c t 3 = owns (c : Thread nD τ) (ms3 m hO t) fullShare (iblk m hO c 3 t) :=
  (leave_busy m hO c t (3 : Fin 8) (idle_gen (adm m hO) (3 : Fin 8) (grid0.coords t))).trans
    (congrArg (owns (c : Thread nD τ) (ms3 m hO t) fullShare) (after_3 m hO c t))
theorem leaves_4 (hO : Ok m) (c : Dev nD) (t : Fin (cfgM m hO).N) :
    leaveAt m hO c t 4 = owns (c : Thread nD τ) (ms4 m hO t) fullShare (iblk m hO c 4 t) :=
  (leave_busy m hO c t (4 : Fin 8) (idle_gen (adm m hO) (4 : Fin 8) (grid0.coords t))).trans
    (congrArg (owns (c : Thread nD τ) (ms4 m hO t) fullShare) (after_4 m hO c t))
theorem leaves_5 (hO : Ok m) (c : Dev nD) (t : Fin (cfgM m hO).N) :
    leaveAt m hO c t 5 = owns (c : Thread nD τ) (ms5 m hO t) fullShare (iblk m hO c 5 t) :=
  (leave_busy m hO c t (5 : Fin 8) (idle_gen (adm m hO) (5 : Fin 8) (grid0.coords t))).trans
    (congrArg (owns (c : Thread nD τ) (ms5 m hO t) fullShare) (after_5 m hO c t))

/-- The body as the pipeline calls it at point `t`. -/
abbrev bodyAt (hO : Ok m) (t : Fin (cfgM m hO).N) : Prog (TpuEff nD τ sig (Elt F) Λ₀ .tc) PUnit :=
  cc0_moe_pair (grid0.coords t) tab0 (Memref.isWhole_whole _) tab1 (Memref.isWhole_whole _) tab2 (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (Memref.whole main_arg9) (Memref.isWhole_whole _) (ms6 m hO t) (hs6 m hO t) (ms7 m hO t) (hs7 m hO t)

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d))
    ∗ (∃ d, owns (c : Thread nD τ) (ms7 m hO t) fullShare ((dats m hO 0 c).before 7 t d)))

def bodyPost (hO : Ok m) (c : Dev nD) (t : Fin (cfgM m hO).N) : sProp 𝕄 :=
  iprop((dats m hO 0 c).Φ t.succ ∗ (dats m hO 0 c).owesAt () t.succ
    ∗ leaveAt m hO c t 0
    ∗ leaveAt m hO c t 1
    ∗ leaveAt m hO c t 2
    ∗ leaveAt m hO c t 3
    ∗ leaveAt m hO c t 4
    ∗ leaveAt m hO c t 5
    ∗ leaveAt m hO c t 6 ∗ leaveAt m hO c t 7)

set_option maxHeartbeats 800000 in
/-- At a tile in use. -/
theorem body_at_live (hO : Ok m) (hu : UsedOk m) (c : Dev nD) (t : Fin (cfgM m hO).N) (ht : t.val < nUsed m) :
    bodyPre m hO c t ⊢ wp frame (wpE (defs₀ (F := F)) Variants.none c none) Set.univ (bodyAt m hO t) (fun _ => bodyPost m hO c t) := by
  have hl6 : leaveAt m hO c t 6 = owns (c : Thread nD τ) (ms6 m hO t) fullShare (outL m hO c t) :=
    (leave_busy m hO c t (6 : Fin 8) ((idle_6 m hO hu t).trans (decide_eq_false (by omega)))).trans
      (congrArg (owns (c : Thread nD τ) (ms6 m hO t) fullShare) ((after_6 m hO c t).trans (by rw [usedPt_live m hO t ht])))
  have hl7 : leaveAt m hO c t 7 = owns (c : Thread nD τ) (ms7 m hO t) fullShare (outR m hO c t) :=
    (leave_busy m hO c t (7 : Fin 8) ((idle_7 m hO hu t).trans (decide_eq_false (by omega)))).trans
      (congrArg (owns (c : Thread nD τ) (ms7 m hO t) fullShare) ((after_7 m hO c t).trans (by rw [usedPt_live m hO t ht])))
  unfold bodyPre bodyPost bodyAt
  rw [hl6, hl7]
  simp only [found_0, found_1, found_2, found_3, found_4, found_5]
  rw [show (dats m hO 0 c).Φ t.succ = (dats m hO 0 c).Φ t.castSucc from rfl,
    show (dats m hO 0 c).owesAt () t.succ = (dats m hO 0 c).owesAt () t.castSucc from rfl,
    leaves_0, leaves_1, leaves_2, leaves_3, leaves_4, leaves_5]
  rw [show (dats m hO 0 c).Φ t.castSucc = iprop(Pipeline.ΦA spec0 c ∗ Pipeline.ΦT pre0 (tbl m) c) from rfl, PhiT_eq]
  unfold outL outR
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_live c (grid0.coords t) _ _ _ _ _ _ _ _ _ _ _ _ _ _ _ _ (iblk m hO c 0 t) (iblk m hO c 1 t) (iblk m hO c 2 t) (iblk m hO c 3 t) (iblk m hO c 4 t) (iblk m hO c 5 t) (tbl m 2)
    ((cond_iff m hu t _ (at2_toNat m (h := numel1_S1))).mpr ht) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HT2]; · iexact HT2
  iintro ⟨H0, H1, H2, H3, H4, H5, H6, H7, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 800000 in
/-- Past the last tile in use: nothing is stored, and at the last point the buffers hold what is written back. -/
theorem body_at_idle (hO : Ok m) (hu : UsedOk m) (c : Dev nD) (t : Fin (cfgM m hO).N) (ht : nUsed m ≤ t.val) :
    bodyPre m hO c t ⊢ wp frame (wpE (defs₀ (F := F)) Variants.none c none) Set.univ (bodyAt m hO t) (fun _ => bodyPost m hO c t) := by
  have hl6 : owns (c : Thread nD τ) (ms6 m hO t) fullShare ((dats m hO 0 c).after 6 t) ⊢ leaveAt m hO c t 6 :=
    leave_held m hO c t (6 : Fin 8) ((idle_6 m hO hu t).trans (decide_eq_true ht)) (found_6 m hO hu c t ht)
  have hl7 : owns (c : Thread nD τ) (ms7 m hO t) fullShare ((dats m hO 0 c).after 7 t) ⊢ leaveAt m hO c t 7 :=
    leave_held m hO c t (7 : Fin 8) ((idle_7 m hO hu t).trans (decide_eq_true ht)) (found_7 m hO hu c t ht)
  unfold bodyPre bodyPost bodyAt
  simp only [found_0, found_1, found_2, found_3, found_4, found_5, found_6 m hO hu c t ht, found_7 m hO hu c t ht]
  rw [show (dats m hO 0 c).Φ t.succ = (dats m hO 0 c).Φ t.castSucc from rfl,
    show (dats m hO 0 c).owesAt () t.succ = (dats m hO 0 c).owesAt () t.castSucc from rfl,
    leaves_0, leaves_1, leaves_2, leaves_3, leaves_4, leaves_5]
  rw [show (dats m hO 0 c).Φ t.castSucc = iprop(Pipeline.ΦA spec0 c ∗ Pipeline.ΦT pre0 (tbl m) c) from rfl, PhiT_eq]
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_idle c (grid0.coords t) _ _ _ _ _ _ _ _ _ _ _ _ _ _ _ _ (tbl m 2)
    (mt (cond_iff m hu t _ (at2_toNat m (h := numel1_S1))).mp (by omega)) Set.univ _)
  isplitl [HT2]; · iexact HT2
  iintro HT2
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply hl6; iexact H6
  iapply hl7; iexact H7

theorem body_at (hO : Ok m) (hu : UsedOk m) (c : Dev nD) (t : Fin (cfgM m hO).N) :
    bodyPre m hO c t ⊢ wp frame (wpE (defs₀ (F := F)) Variants.none c none) Set.univ (bodyAt m hO t) (fun _ => bodyPost m hO c t) := by
  by_cases h : t.val < nUsed m
  · exact body_at_live m hO hu c t h
  · exact body_at_idle m hO hu c t (by omega)

theorem row_body (hO : Ok m) (t : Fin (cfgM m hO).N) :
    defs₀ (F := F) .tc (cfgM m hO).body ((cfgM m hO).bodyArgs t ((cfgM m hO).slots t)) = bodyAt m hO t := by
  unfold defs₀; rw [Defs.onTc_tc]

theorem obligation' (hO : Ok m) (hu : UsedOk m) (c : Dev nD) (t : Fin (cfgM m hO).N) :
    iprop((dats m hO 0 c).Φ t.castSucc ∗ (dats m hO 0 c).owesAt () t.castSucc
        ∗ bigSep Finset.univ fun w : Fin (cfgM m hO).W => iprop(∃ d, owns (c : Thread nD τ) (((cfgM m hO).win w).stage ((cfgM m hO).slots t w)) fullShare ((dats m hO 0 c).before w t d)))
      ⊢ wp frame (wpE (defs₀ (F := F)) Variants.none c none) Set.univ (defs₀ (F := F) .tc (cfgM m hO).body ((cfgM m hO).bodyArgs t ((cfgM m hO).slots t))) fun _ =>
          iprop((dats m hO 0 c).Φ t.succ ∗ (dats m hO 0 c).owesAt () t.succ
            ∗ bigSep Finset.univ fun w : Fin 8 => leaveAt m hO c t w) := by
  rw [bigSep_W0, bigSep_W0, row_body m hO]
  exact triple_restated (body_at m hO hu c t) rfl .rfl fun _ => .rfl

theorem obligation (hO : Ok m) (hu : UsedOk m) (c : Dev nD) : BodyObligation (dats (F := F) m hO 0 c) (defs₀ (F := F)) Variants.none () Set.univ :=
  fun t => obligation' m hO hu c t

/-! ## The run -/

set_option backward.isDefEq.respectTransparency.types false in
set_option maxHeartbeats 800000 in
/-- Every execution ends, with the pipeline's arrays and the later host lines' results as computed and every counter zero. -/
theorem run (hO : Ok m) (hu : UsedOk m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (entry m) [hostOps1])) r ∧ r.2.sem = fun _ => 0) :=
  Pipeline.θ_run_frameP_around_shared (Q' := _) pcfgs (fun _ => adm m hO) (dats m hO) (0 : Fin 1) launch₀0 defs₀ Variants.none m ρ main
    (hbody := fun c => (obligation m hO hu c).loose) (hq := fun _ _ _ => rfl)
    (howed := fun _ _ => rfl) (V₀ := entry m) (opss := [hostOps1]) (hsub := post_sub) (hfresh := post_fresh') (hkeep := post_keeps_arrays)
    (hmain := hmain m Variants.none) (hA := A_eq m hO) (hpf := V_pre m) (hΦ := fun _ _ => rfl)

/-- An argument, which no host line writes and no window stages, ends as it began. -/
theorem tail_kept (hO : Ok m) (c : Dev nD) (b : Ref sig .tc)
    (hb : b ∈ [main_arg0, main_arg1, main_arg2, main_arg3, main_arg4, main_arg5, main_arg6, main_arg7, main_arg8, main_arg9]) :
    Pipeline.afterTail pcfgs (fun _ => adm m hO) (dats m hO) 0 (entry m) [hostOps1] c b = m ((c : Thread nD τ).loc b) := by
  have hne := (by decide : ∀ b ∈ ([main_arg0, main_arg1, main_arg2, main_arg3, main_arg4, main_arg5, main_arg6, main_arg7, main_arg8, main_arg9] : List (Ref sig .tc)),
    ∀ w, Pipeline.arrRef spec0 w ≠ b) b hb
  unfold Pipeline.afterTail
  rw [StableHlo.after_of_forall_not_mem (b := Proc.devRef .tc b) _ _ (fun op hop => post_keeps b (by
      revert hb; simp only [List.mem_cons, List.mem_nil_iff, or_false]; tauto) op (by simpa using hop)),
    Pipeline.withArrays_of_ne _ c (entry m c) _ b hne]
  exact V_kept m c b hb

/-- The arguments end unchanged. -/
theorem args_kept (hO : Ok m) (r)
    (h : Pipeline.FramePost (Pipeline.pin pcfgs fun _ => adm m hO) (dats m hO) 0 (Pipeline.afterTail pcfgs (fun _ => adm m hO) (dats m hO) 0 (entry m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).2 main_arg0 (by decide : main_arg0 ∈ Pipeline.restRefs sig spec0)).trans (tail_kept m hO c _ (by decide)),
    ((h c).2 main_arg1 (by decide : main_arg1 ∈ Pipeline.restRefs sig spec0)).trans (tail_kept m hO c _ (by decide)),
    ((h c).2 main_arg2 (by decide : main_arg2 ∈ Pipeline.restRefs sig spec0)).trans (tail_kept m hO c _ (by decide)),
    ((h c).2 main_arg3 (by decide : main_arg3 ∈ Pipeline.restRefs sig spec0)).trans (tail_kept m hO c _ (by decide)),
    ((h c).2 main_arg4 (by decide : main_arg4 ∈ Pipeline.restRefs sig spec0)).trans (tail_kept m hO c _ (by decide)),
    ((h c).2 main_arg5 (by decide : main_arg5 ∈ Pipeline.restRefs sig spec0)).trans (tail_kept m hO c _ (by decide)),
    ((h c).2 main_arg6 (by decide : main_arg6 ∈ Pipeline.restRefs sig spec0)).trans (tail_kept m hO c _ (by decide)),
    ((h c).2 main_arg7 (by decide : main_arg7 ∈ Pipeline.restRefs sig spec0)).trans (tail_kept m hO c _ (by decide)),
    ((h c).2 main_arg8 (by decide : main_arg8 ∈ Pipeline.restRefs sig spec0)).trans (tail_kept m hO c _ (by decide)),
    ((h c).2 main_arg9 (by decide : main_arg9 ∈ Pipeline.restRefs sig spec0)).trans (tail_kept m hO c _ (by decide))⟩

end Cert.Kernel2Ideal.Pair

end
-- ==== Proof.PairHost.lean ====
/-
  The host lines before the expert kernel's region: what they make of the counts, of the packed rows and of the weights.
-/
module

public import proofs.«01_k».proof.Proof.PairLaunch
public import Idealize.ShloMosaic.Lib.StableHlo.Run
public import Idealize.ShloMosaic.Lib.Routing.Model

@[expose] public section

set_option maxRecDepth 16384

noncomputable section

namespace Cert.Kernel2Ideal.Pair

open Cert.Kernel2Ideal.Gen
open Idealize.ShloMosaic Idealize.ShloMosaic.TcCoe Idealize.ShloMosaic.StableHlo
open Idealize.ShloMosaic.Routing (pyDiv pyRem)

variable {F : FTy → Type} [FloatOps F]

variable (m : (ℓ : Loc nD τ sig) → Buf (Elt F) ℓ)

/-! ## The functions -/

/-- The gate and up weights side by side, rounded. -/
def bothW (a6 a7 : FVec F S16x1024x256 .f32) : FVec F S16x1024x512 .bf16 :=
  truncf .bf16 (concatenate S16x1024x512 2 [⟨S16x1024x256, a6⟩, ⟨S16x1024x256, a7⟩] concatenates_S16x1024x256_S16x1024x256_S16x1024x512_d2) bitsLt_bf16_f32

/-- The slots' tokens, as a column. -/
def tokIdx (a3 : IVec S22528 32) : IVec S22528x1 32 :=
  broadcastInDim S22528x1 ![0] bcast_S22528_S22528x1_0 (select (cmpi .slt a3 (broadcastInDim S22528 ![] bcast_S_S22528 (constantI S_ 32 0#32)))
    (addi a3 (broadcastInDim S22528 ![] bcast_S_S22528 (constantI S_ 32 16384#32))) a3)

/-- The slots' rows of the two packed arrays. -/
def slotsA (a3 : IVec S22528 32) (a4 : IVec S16384x256 32) : IVec S22528x256 32 :=
  Host.gather gather_S16384x256_S22528x1_S22528x256_1_0_n_n_0_1_1256 a4 (tokIdx a3)
def slotsB (a3 : IVec S22528 32) (a5 : IVec S16384x384 32) : IVec S22528x384 32 :=
  Host.gather gather_S16384x384_S22528x1_S22528x384_1_0_n_n_0_1_1384 a5 (tokIdx a3)

/-- The classes' counts, as words. -/
def cntOf (a0 : FVec F S32x128 .f32) : IVec S32 32 :=
  fptosi 32 (shapeCast S32 (extractStridedSlice S32x1 ![0, 0] a0 slices_S32x128_S32x1_0_0) shapeCasts_S32x1_S32)

/-- The classes' regions' sizes: their counts rounded up to whole tiles. -/
def sizeOf (n : IVec S32 32) : IVec S32 32 :=
  muli (pyDiv bcast_S_S32 (subi (addi n (broadcastInDim S32 ![] bcast_S_S32 (constantI S_ 32 256#32))) (broadcastInDim S32 ![] bcast_S_S32 (constantI S_ 32 1#32)))
    (constantI S_ 32 256#32)) (broadcastInDim S32 ![] bcast_S_S32 (constantI S_ 32 256#32))

/-- The regions' ends. -/
def endsOf (sz : IVec S32 32) : IVec S32 32 :=
  Host.reduceWindow IntOp.addi ![32] ![1] ![31] ![0] sz (broadcastInDim S_ ![] bcast_S_S_ (constantI S_ 32 0#32)) reduceWindows_S32_S32_w32s1p31_0 h_S_

/-- Each tile's class: the number of regions that end by its first slot, 23 at most. -/
def classesOf (en : IVec S32 32) : IVec S88 32 :=
  minsi (Host.reduce IntOp.addi (extui 32 (cmpi .sle
      (broadcastInDim S88x24 ![0, 1] bcast_S1x24_S88x24_0_1 (broadcastInDim S1x24 ![1] bcast_S24_S1x24_1 (extractStridedSlice S24 ![0] en slices_S32_S24_0)))
      (broadcastInDim S88x24 ![0, 1] bcast_S88x1_S88x24_0_1 (broadcastInDim S88x1 ![0] bcast_S88_S88x1_0
        (muli (iotaInDim S88 32 0) (broadcastInDim S88 ![] bcast_S_S88 (constantI S_ 32 256#32)))))) natLt_1_32)
    (constantI S_ 32 0#32) reducesTo_S88x24_S88_d1 h_S_) (broadcastInDim S88 ![] bcast_S_S88 (constantI S_ 32 23#32))

/-- An entry of a table of six at each tile's class's place in its group. -/
def pickOf (tab : IVec S6 32) (r : IVec S88 32) : IVec S88 32 :=
  Host.gather gather_S6_S88x1_S88_n_0_n_n_0_1_1 tab (broadcastInDim S88x1 ![0] bcast_S88_S88x1_0
    (select (cmpi .slt r (broadcastInDim S88 ![] bcast_S_S88 (constantI S_ 32 0#32)))
      (addi r (broadcastInDim S88 ![] bcast_S_S88 (constantI S_ 32 6#32))) r))

/-- Each tile's expert, by the group's table of six. -/
def expertOf (tab : IVec S6 32) (q : IVec S88 32) : IVec S88 32 :=
  addi (muli (pyDiv bcast_S_S88 q (constantI S_ 32 6#32)) (broadcastInDim S88 ![] bcast_S_S88 (constantI S_ 32 4#32)))
    (pickOf tab (pyRem bcast_S_S88 q (constantI S_ 32 6#32)))

/-- The number of tiles in use. -/
def usedOf (en : IVec S32 32) : IVec S1 32 :=
  pyDiv bcast_S_S1 (extractStridedSlice S1 ![23] en slices_S32_S1_23) (constantI S_ 32 256#32)

/-- The two tables of six. -/
abbrev firstTab : IVec S6 32 := fun i => lit0 (S6.rowMajor i)
abbrev secondTab : IVec S6 32 := fun i => lit1 (S6.rowMajor i)

/-! ## Each stretch, from any memory -/

section Stretch
variable (W : Valuation τ sig (Elt F))

theorem s0_v6 : after hostOps0 W (Proc.devRef .tc main_v6) = slotsA (W (Proc.devRef .tc main_arg3)) (W (Proc.devRef .tc main_arg4)) := by
  unfold slotsA tokIdx
  simp only [hostOps0]
  after_results <;> rfl
theorem s0_v13 : after hostOps0 W (Proc.devRef .tc main_v13) = slotsB (W (Proc.devRef .tc main_arg3)) (W (Proc.devRef .tc main_arg5)) := by
  unfold slotsB tokIdx
  simp only [hostOps0]
  after_results <;> rfl
theorem s0_v15 : after hostOps0 W (Proc.devRef .tc main_v15) = bothW (W (Proc.devRef .tc main_arg6)) (W (Proc.devRef .tc main_arg7)) := by
  unfold bothW
  simp only [hostOps0]
  after_results <;> rfl
theorem s0_c : after hostOps0 W (Proc.devRef .tc main_c) = firstTab := by
  simp only [hostOps0]
  after_results <;> rfl
theorem s0_c0 : after hostOps0 W (Proc.devRef .tc main_c_0) = secondTab := by
  simp only [hostOps0]
  after_results <;> rfl
theorem s0_v22 : after hostOps0 W (Proc.devRef .tc main_v22) = subi (addi (cntOf (F := F) (W (Proc.devRef .tc main_arg0))) (broadcastInDim S32 ![] bcast_S_S32 (constantI S_ 32 256#32))) (broadcastInDim S32 ![] bcast_S_S32 (constantI S_ 32 1#32)) := by
  unfold cntOf
  simp only [hostOps0]
  after_results <;> rfl
theorem s0_c7 : after hostOps0 W (Proc.devRef .tc main_c_7) = constantI S_ 32 256#32 := by
  simp only [hostOps0]
  after_results <;> rfl
theorem s1_v23 : after hostOps0_1 W (Proc.devRef .tc main_v23) = pyDiv bcast_S_S32 (W (Proc.devRef .tc main_v22)) (W (Proc.devRef .tc main_c_7)) := by
  unfold pyDiv
  simp only [hostOps0_1]
  after_results <;> simp only [TRef.ofBuf_toBuf] <;> rfl
theorem s2_v25 : after hostOps0_2 W (Proc.devRef .tc main_v25) = muli (W (Proc.devRef .tc main_v23) : IVec S32 32) (broadcastInDim S32 ![] bcast_S_S32 (constantI S_ 32 256#32)) := by
  simp only [hostOps0_2]
  after_results <;> rfl
theorem s3_v26 : after hostOps0_3 W (Proc.devRef .tc main_v26) = endsOf (W (Proc.devRef .tc main_v25)) := by
  simp only [hostOps0_3]
  after_results
  simp only [TRef.ofBuf_toBuf]
  simp -implicitDefEqProofs only [TRef.toBuf, TRef.ofBuf, cast_eq]
  rfl
theorem s4_v39 : after hostOps0_4 W (Proc.devRef .tc main_v39) = classesOf (W (Proc.devRef .tc main_v26)) := by
  unfold classesOf
  simp only [hostOps0_4]
  after_results <;> rfl
theorem s4_c12 : after hostOps0_4 W (Proc.devRef .tc main_c_12) = constantI S_ 32 6#32 := by
  simp only [hostOps0_4]
  after_results <;> rfl
theorem s5_v40 : after hostOps0_5 W (Proc.devRef .tc main_v40) = pyDiv bcast_S_S88 (W (Proc.devRef .tc main_v39)) (W (Proc.devRef .tc main_c_12)) := by
  unfold pyDiv
  simp only [hostOps0_5]
  after_results <;> simp only [TRef.ofBuf_toBuf] <;> rfl
theorem s6_v42 : after hostOps0_6 W (Proc.devRef .tc main_v42) = muli (W (Proc.devRef .tc main_v40) : IVec S88 32) (broadcastInDim S88 ![] bcast_S_S88 (constantI S_ 32 4#32)) := by
  simp only [hostOps0_6]
  after_results <;> rfl
theorem s6_c14 : after hostOps0_6 W (Proc.devRef .tc main_c_14) = constantI S_ 32 6#32 := by
  simp only [hostOps0_6]
  after_results <;> rfl
theorem s7_v43 : after hostOps0_7 W (Proc.devRef .tc main_v43) = pyRem bcast_S_S88 (W (Proc.devRef .tc main_v39)) (W (Proc.devRef .tc main_c_14)) := by
  unfold pyRem
  simp only [hostOps0_7]
  after_results <;> simp only [TRef.ofBuf_toBuf] <;> rfl
theorem s8_v51 : after hostOps0_8 W (Proc.devRef .tc main_v51) = addi (W (Proc.devRef .tc main_v42) : IVec S88 32) (pickOf (W (Proc.devRef .tc main_c)) (W (Proc.devRef .tc main_v43))) := by
  unfold pickOf
  simp only [hostOps0_8]
  after_results <;> rfl
theorem s8_c17 : after hostOps0_8 W (Proc.devRef .tc main_c_17) = constantI S_ 32 6#32 := by
  simp only [hostOps0_8]
  after_results <;> rfl
theorem s9_v52 : after hostOps0_9 W (Proc.devRef .tc main_v52) = pyRem bcast_S_S88 (W (Proc.devRef .tc main_v39)) (W (Proc.devRef .tc main_c_17)) := by
  unfold pyRem
  simp only [hostOps0_9]
  after_results <;> simp only [TRef.ofBuf_toBuf] <;> rfl
theorem s10_v60 : after hostOps0_10 W (Proc.devRef .tc main_v60) = addi (W (Proc.devRef .tc main_v42) : IVec S88 32) (pickOf (W (Proc.devRef .tc main_c_0)) (W (Proc.devRef .tc main_v52))) := by
  unfold pickOf
  simp only [hostOps0_10]
  after_results <;> rfl
theorem s10_v61 : after hostOps0_10 W (Proc.devRef .tc main_v61) = extractStridedSlice S1 ![23] (W (Proc.devRef .tc main_v26) : IVec S32 32) slices_S32_S1_23 := by
  simp only [hostOps0_10]
  after_results <;> rfl
theorem s10_c20 : after hostOps0_10 W (Proc.devRef .tc main_c_20) = constantI S_ 32 256#32 := by
  simp only [hostOps0_10]
  after_results <;> rfl
theorem s11_v62 : after hostOps0_11 W (Proc.devRef .tc main_v62) = pyDiv bcast_S_S1 (W (Proc.devRef .tc main_v61)) (W (Proc.devRef .tc main_c_20)) := by
  unfold pyDiv
  simp only [hostOps0_11]
  after_results <;> simp only [TRef.ofBuf_toBuf] <;> rfl
theorem s12_v63 : after hostOps0_12 W (Proc.devRef .tc main_v63) = truncf .bf16 (W (Proc.devRef .tc main_arg8) : FVec F S16x256x1024 .f32) bitsLt_bf16_f32 := by
  simp only [hostOps0_12]
  after_results <;> rfl

end Stretch

/-! ## What the region finds -/

theorem V_v6 (c : Dev nD) : V m c main_v6 = slotsA (m ((c : Thread nD τ).loc main_arg3)) (m ((c : Thread nD τ).loc main_arg4)) :=
  (congrFun (entry_eq m c) _).trans (((kept12 _ main_v6 (by decide)).trans ((kept11 _ main_v6 (by decide)).trans ((kept10 _ main_v6 (by decide)).trans ((kept9 _ main_v6 (by decide)).trans ((kept8 _ main_v6 (by decide)).trans ((kept7 _ main_v6 (by decide)).trans ((kept6 _ main_v6 (by decide)).trans ((kept5 _ main_v6 (by decide)).trans ((kept4 _ main_v6 (by decide)).trans ((kept3 _ main_v6 (by decide)).trans ((kept2 _ main_v6 (by decide)).trans (kept1 _ main_v6 (by decide))))))))))))).trans (s0_v6 _))
theorem V_v13 (c : Dev nD) : V m c main_v13 = slotsB (m ((c : Thread nD τ).loc main_arg3)) (m ((c : Thread nD τ).loc main_arg5)) :=
  (congrFun (entry_eq m c) _).trans (((kept12 _ main_v13 (by decide)).trans ((kept11 _ main_v13 (by decide)).trans ((kept10 _ main_v13 (by decide)).trans ((kept9 _ main_v13 (by decide)).trans ((kept8 _ main_v13 (by decide)).trans ((kept7 _ main_v13 (by decide)).trans ((kept6 _ main_v13 (by decide)).trans ((kept5 _ main_v13 (by decide)).trans ((kept4 _ main_v13 (by decide)).trans ((kept3 _ main_v13 (by decide)).trans ((kept2 _ main_v13 (by decide)).trans (kept1 _ main_v13 (by decide))))))))))))).trans (s0_v13 _))
theorem V_v15 (c : Dev nD) : V m c main_v15 = bothW (m ((c : Thread nD τ).loc main_arg6)) (m ((c : Thread nD τ).loc main_arg7)) :=
  (congrFun (entry_eq m c) _).trans (((kept12 _ main_v15 (by decide)).trans ((kept11 _ main_v15 (by decide)).trans ((kept10 _ main_v15 (by decide)).trans ((kept9 _ main_v15 (by decide)).trans ((kept8 _ main_v15 (by decide)).trans ((kept7 _ main_v15 (by decide)).trans ((kept6 _ main_v15 (by decide)).trans ((kept5 _ main_v15 (by decide)).trans ((kept4 _ main_v15 (by decide)).trans ((kept3 _ main_v15 (by decide)).trans ((kept2 _ main_v15 (by decide)).trans (kept1 _ main_v15 (by decide))))))))))))).trans (s0_v15 _))
theorem V_v63 (c : Dev nD) : V m c main_v63 = truncf .bf16 (m ((c : Thread nD τ).loc main_arg8) : FVec F S16x256x1024 .f32) bitsLt_bf16_f32 :=
  (congrFun (entry_eq m c) _).trans ((s12_v63 _).trans (congrArg (fun x : FVec F S16x256x1024 .f32 => truncf .bf16 x bitsLt_bf16_f32)
    ((kept11 _ main_arg8 (by decide)).trans ((kept10 _ main_arg8 (by decide)).trans ((kept9 _ main_arg8 (by decide)).trans ((kept8 _ main_arg8 (by decide)).trans ((kept7 _ main_arg8 (by decide)).trans ((kept6 _ main_arg8 (by decide)).trans ((kept5 _ main_arg8 (by decide)).trans ((kept4 _ main_arg8 (by decide)).trans ((kept3 _ main_arg8 (by decide)).trans ((kept2 _ main_arg8 (by decide)).trans ((kept1 _ main_arg8 (by decide)).trans (kept0 _ main_arg8 (by decide)))))))))))))))

/-- The regions' ends and the tiles' classes, of the counts' array. -/
def endsAt (a0 : FVec F S32x128 .f32) : IVec S32 32 := endsOf (sizeOf (cntOf a0))
def classesAt (a0 : FVec F S32x128 .f32) : IVec S88 32 := classesOf (endsAt a0)

theorem st3_v26 (c : Dev nD) : st3 m c (Proc.devRef .tc main_v26) = endsAt (F := F) (m ((c : Thread nD τ).loc main_arg0)) := by
  refine (s3_v26 _).trans (congrArg endsOf ((s2_v25 _).trans ?_))
  unfold sizeOf
  refine congrArg (fun x : IVec S32 32 => muli x _) ((s1_v23 _).trans ?_)
  exact congrArg₂ (pyDiv bcast_S_S32) (s0_v22 _) (s0_c7 _)

theorem st4_v39 (c : Dev nD) : st4 m c (Proc.devRef .tc main_v39) = classesAt (F := F) (m ((c : Thread nD τ).loc main_arg0)) :=
  (s4_v39 _).trans (congrArg classesOf (st3_v26 m c))

theorem st6_v42 (c : Dev nD) : st6 m c (Proc.devRef .tc main_v42)
    = muli (pyDiv bcast_S_S88 (classesAt (F := F) (m ((c : Thread nD τ).loc main_arg0))) (constantI S_ 32 6#32)) (broadcastInDim S88 ![] bcast_S_S88 (constantI S_ 32 4#32)) := by
  refine (s6_v42 _).trans (congrArg (fun x : IVec S88 32 => muli x _) ((s5_v40 _).trans ?_))
  exact congrArg₂ (pyDiv bcast_S_S88) (st4_v39 m c) (s4_c12 _)

theorem V_v51 (c : Dev nD) : V m c main_v51 = expertOf firstTab (classesAt (F := F) (m ((c : Thread nD τ).loc main_arg0))) := by
  refine (congrFun (entry_eq m c) _).trans (((kept12 _ main_v51 (by decide)).trans ((kept11 _ main_v51 (by decide)).trans ((kept10 _ main_v51 (by decide)).trans (kept9 _ main_v51 (by decide))))).trans ((s8_v51 _).trans ?_))
  unfold expertOf
  refine congrArg₂ (fun x y : IVec S88 32 => addi x y) ((kept7 _ main_v42 (by decide)).trans (st6_v42 m c)) (congrArg₂ pickOf (((kept7 _ main_c (by decide)).trans ((kept6 _ main_c (by decide)).trans ((kept5 _ main_c (by decide)).trans ((kept4 _ main_c (by decide)).trans ((kept3 _ main_c (by decide)).trans ((kept2 _ main_c (by decide)).trans (kept1 _ main_c (by decide)))))))).trans (s0_c _)) ((s7_v43 _).trans ?_))
  exact congrArg₂ (pyRem bcast_S_S88) (((kept6 _ main_v39 (by decide)).trans (kept5 _ main_v39 (by decide))).trans (st4_v39 m c)) (s6_c14 _)

theorem V_v60 (c : Dev nD) : V m c main_v60 = expertOf secondTab (classesAt (F := F) (m ((c : Thread nD τ).loc main_arg0))) := by
  refine (congrFun (entry_eq m c) _).trans (((kept12 _ main_v60 (by decide)).trans (kept11 _ main_v60 (by decide))).trans ((s10_v60 _).trans ?_))
  unfold expertOf
  refine congrArg₂ (fun x y : IVec S88 32 => addi x y) (((kept9 _ main_v42 (by decide)).trans ((kept8 _ main_v42 (by decide)).trans (kept7 _ main_v42 (by decide)))).trans (st6_v42 m c)) (congrArg₂ pickOf (((kept9 _ main_c_0 (by decide)).trans ((kept8 _ main_c_0 (by decide)).trans ((kept7 _ main_c_0 (by decide)).trans ((kept6 _ main_c_0 (by decide)).trans ((kept5 _ main_c_0 (by decide)).trans ((kept4 _ main_c_0 (by decide)).trans ((kept3 _ main_c_0 (by decide)).trans ((kept2 _ main_c_0 (by decide)).trans (kept1 _ main_c_0 (by decide)))))))))).trans (s0_c0 _)) ((s9_v52 _).trans ?_))
  exact congrArg₂ (pyRem bcast_S_S88) (((kept8 _ main_v39 (by decide)).trans ((kept7 _ main_v39 (by decide)).trans ((kept6 _ main_v39 (by decide)).trans (kept5 _ main_v39 (by decide))))).trans (st4_v39 m c)) (s8_c17 _)

theorem st10_v61 (c : Dev nD) : st10 m c (Proc.devRef .tc main_v61) = extractStridedSlice S1 ![23] (endsAt (F := F) (m ((c : Thread nD τ).loc main_arg0))) slices_S32_S1_23 := by
  have e : st9 m c (Proc.devRef .tc main_v26) = endsAt (F := F) (m ((c : Thread nD τ).loc main_arg0)) :=
    ((kept9 _ main_v26 (by decide)).trans ((kept8 _ main_v26 (by decide)).trans ((kept7 _ main_v26 (by decide)).trans ((kept6 _ main_v26 (by decide)).trans ((kept5 _ main_v26 (by decide)).trans (kept4 _ main_v26 (by decide))))))).trans (st3_v26 m c)
  have h := s10_v61 (st9 m c)
  rw [e] at h
  exact h

theorem V_v62 (c : Dev nD) : V m c main_v62 = usedOf (endsAt (F := F) (m ((c : Thread nD τ).loc main_arg0))) := by
  have e2 : st10 m c (Proc.devRef .tc main_c_20) = constantI S_ 32 256#32 := s10_c20 _
  have h := s11_v62 (st10 m c)
  rw [e2, st10_v61] at h
  unfold usedOf
  exact (congrFun (entry_eq m c) _).trans ((kept12 _ main_v62 (by decide)).trans h)

end Cert.Kernel2Ideal.Pair

end
-- ==== Proof.PairPlan.lean ====
/-
  The expert kernel's tables as numbers: the regions' ends are the running sums of the rounded counts, so each tile's class is
  the one whose region holds the tile.
-/
module

public import proofs.«01_k».proof.Proof.PairHost
public import Idealize.ShloMosaic.Lib.Routing.Words
public import Idealize.ShloMosaic.Lib.Routing.Count
public import Idealize.ShloMosaic.Lib.Routing.Line
public import Idealize.ShloMosaic.Lib.Routing.OpsPair
public import Idealize.ShloMosaic.Lib.Routing.OpsSet
public import Idealize.ShloMosaic.Lib.Pointwise

@[expose] public section

set_option maxRecDepth 16384

noncomputable section

namespace Cert.Kernel2Ideal.Pair

open Cert.Kernel2Ideal.Gen
open Idealize.ShloMosaic Idealize.ShloMosaic.TcCoe Idealize.ShloMosaic.Routing
open Idealize.ShloMosaic.WordCmp

/-! ## Numbers -/

/-- A class's region: its count rounded up to whole tiles. -/
def size (n : ℕ → ℕ) (c : ℕ) : ℕ := (n c + 255) / 256 * 256
/-- Where class `c`'s region starts; class `c - 1`'s ends there. -/
def start (n : ℕ → ℕ) (c : ℕ) : ℕ := psum (size n) c

theorem start_succ (n : ℕ → ℕ) (c : ℕ) : start n (c + 1) = start n c + size n c := psum_succ _ _
theorem start_mono (n : ℕ → ℕ) {a b : ℕ} (h : a ≤ b) : start n a ≤ start n b := by
  induction h with
  | refl => exact le_refl _
  | step _ ih => rw [Nat.succ_eq_add_one, start_succ]; omega
theorem start_dvd (n : ℕ → ℕ) (c : ℕ) : 256 ∣ start n c := by
  induction c with
  | zero => exact ⟨0, rfl⟩
  | succ c ih => rw [start_succ]; exact dvd_add ih ⟨(n c + 255) / 256, by unfold size; omega⟩
theorem start_le (n : ℕ → ℕ) (h : ∀ c, n c ≤ 16384) (c : ℕ) : start n c ≤ 16640 * c := by
  induction c with
  | zero => exact le_refl _
  | succ c ih => rw [start_succ]; have := h c; unfold size; omega

/-- A tile's class: the number of regions that end by its first slot, 23 at most. -/
def classAt (n : ℕ → ℕ) (i : ℕ) : ℕ := min (Nat.count (fun q => start n (q + 1) ≤ 256 * i) 24) 23
theorem classAt_lt (n : ℕ → ℕ) (i : ℕ) : classAt n i < 24 := by unfold classAt; omega

theorem count_lt (c : ℕ) (hc : c < 24) : Nat.count (fun q => q < c) 24 = c := by
  have := (by decide : ∀ c < 24, Nat.count (fun q => q < c) 24 = c)
  exact this c hc

/-- A slot of class `c`'s region lies in a tile of class `c`. -/
theorem classAt_of (n : ℕ → ℕ) {c p : ℕ} (hc : c < 24) (lo : start n c ≤ p) (hi : p < start n (c + 1)) : classAt n (p / 256) = c := by
  unfold classAt
  rw [count_congr_of_lt (Q := fun q => q < c) 24 fun q hq => ?_, count_lt c hc]
  · omega
  · obtain ⟨k, hk⟩ := start_dvd n (q + 1)
    constructor
    · intro h
      by_contra hn
      have := start_mono n (show c + 1 ≤ q + 1 by omega)
      omega
    · intro h
      have := start_mono n (show q + 1 ≤ c by omega)
      omega

/-- The two experts of a class. -/
def firstOf (c : ℕ) : ℕ := c / 6 * 4 + (lit0 ⟨c % 6, Nat.mod_lt _ (by decide)⟩).toNat
def secondOf (c : ℕ) : ℕ := c / 6 * 4 + (lit1 ⟨c % 6, Nat.mod_lt _ (by decide)⟩).toNat

theorem firstOf_lt (c : ℕ) (hc : c < 24) : firstOf c < 16 :=
  (by decide : ∀ c < 24, firstOf c < 16) c hc
theorem secondOf_lt (c : ℕ) (hc : c < 24) : secondOf c < 16 :=
  (by decide : ∀ c < 24, secondOf c < 16) c hc
theorem firstOf_ne (c : ℕ) (hc : c < 24) : firstOf c ≠ secondOf c :=
  (by decide : ∀ c < 24, firstOf c ≠ secondOf c) c hc

/-! ## Words -/

section Words
variable (n : ℕ → ℕ) (hn : ∀ c, n c ≤ 16384)
include hn

theorem rounded_apply (y : IVec S32 32) (c : Fin 32) (hy : y (ValueIdx.ix1 c) = BitVec.ofNat 32 (n c.val + 255)) :
    muli (pyDiv bcast_S_S32 y (constantI S_ 32 256#32)) (broadcastInDim S32 ![] bcast_S_S32 (constantI S_ 32 256#32)) (ValueIdx.ix1 c) = BitVec.ofNat 32 (size n c.val) := by
  have h := hn c.val
  have d := pyDiv_ap bcast_S_S32 y (constantI S_ 32 256#32) (ValueIdx.ix1 c) hy (b := 256) rfl (by omega) (by decide) (by decide)
  rw [muli_ap, bc0, d]
  show BitVec.ofNat 32 ((n c.val + 255) / 256) * BitVec.ofNat 32 256 = _
  rw [← BitVec.ofNat_mul]
  rfl

theorem sizeOf_apply (x : IVec S32 32) (hx : ∀ c : Fin 32, x (ValueIdx.ix1 c) = BitVec.ofNat 32 (n c.val)) (c : Fin 32) :
    sizeOf x (ValueIdx.ix1 c) = BitVec.ofNat 32 (size n c.val) := by
  refine rounded_apply n hn _ c ?_
  rw [subi_ap, addi_ap, bc0, bc0, hx]
  show BitVec.ofNat 32 (n c.val) + BitVec.ofNat 32 256 - BitVec.ofNat 32 1 = _
  rw [← BitVec.ofNat_add, ofNat32_sub (by omega)]
  rfl

theorem endsOf_apply (x : IVec S32 32) (hx : ∀ c : Fin 32, x (ValueIdx.ix1 c) = BitVec.ofNat 32 (size n c.val)) (c : Fin 32) :
    endsOf x (ValueIdx.ix1 c) = BitVec.ofNat 32 (start n (c.val + 1)) :=
  cumsum1 (N := 32) (Nm1 := 31) rfl x (size n) hx _ rfl _ _ c

theorem classesOf_apply (x : IVec S32 32) (hx : ∀ c : Fin 32, x (ValueIdx.ix1 c) = BitVec.ofNat 32 (start n (c.val + 1))) (i : Fin 88) :
    classesOf x (ValueIdx.ix1 i) = BitVec.ofNat 32 (classAt n i.val) := by
  have hc : Nat.count (fun q => start n (q + 1) ≤ 256 * i.val) 24 ≤ 24 := Nat.count_le _
  have e := reduce_count (n := 88) (m := 24) (by decide) (cmpi .sle
      (broadcastInDim S88x24 ![0, 1] bcast_S1x24_S88x24_0_1 (broadcastInDim S1x24 ![1] bcast_S24_S1x24_1 (extractStridedSlice S24 ![0] x slices_S32_S24_0)))
      (broadcastInDim S88x24 ![0, 1] bcast_S88x1_S88x24_0_1 (broadcastInDim S88x1 ![0] bcast_S88_S88x1_0
        (muli (iotaInDim S88 32 0) (broadcastInDim S88 ![] bcast_S_S88 (constantI S_ 32 256#32)))))) natLt_1_32 reducesTo_S88x24_S88_d1 h_S_ i
    (fun q => start n (q + 1) ≤ 256 * i.val) (fun q => by
      have b1 := start_le n hn (q.val + 1)
      show IntOp.cmpi .sle _ _ = _ ↔ _
      rw [bcCols, bcRows, slice1 0 x _ q (by omega), hx, muli_ap, bc0, iota1_ap]
      have z : 0 + q.val = q.val := Nat.zero_add _
      show IntOp.cmpi .sle (BitVec.ofNat 32 (start n (0 + q.val + 1))) (BitVec.ofNat 32 i.val * BitVec.ofNat 32 256) = _ ↔ _
      rw [z]
      rw [← BitVec.ofNat_mul, cmpi_sle_ofNat_eq_one_iff (by omega) (by omega), Nat.mul_comm])
  unfold classesOf
  show IntOp.minsi _ _ = _
  rw [e, bc0]
  show IntOp.minsi _ (BitVec.ofNat 32 23) = _
  unfold IntOp.minsi classAt
  rw [slt_ofNat32 (by omega) (by decide)]
  split <;> rename_i h <;> congr 1 <;> simp at h <;> omega

end Words

theorem pick_word (tab : IVec S6 32) (r : IVec S88 32) (i : Fin 88) (b : Fin 6) (hr : r (ValueIdx.ix1 i) = BitVec.ofNat 32 b.val) :
    pickOf tab r (ValueIdx.ix1 i) = tab (ValueIdx.ix1 b) := by
  have hb := b.isLt
  refine gather_take1 (N := 6) (n := 88) _ rfl rfl rfl rfl tab _ i b ?_ (by decide)
  rw [bcCol]
  show Scalar.select (IntOp.cmpi .slt (r _) _) _ (r _) = _
  rw [bc0, hr]
  exact wrap_of_lt _ _ (by rw [BitVec.toNat_ofNat]; omega)

theorem expertOf_apply (tab : IVec S6 32) (q : IVec S88 32) (i : Fin 88) (c : ℕ) (hc : c < 24) (hq : q (ValueIdx.ix1 i) = BitVec.ofNat 32 c) :
    expertOf tab q (ValueIdx.ix1 i) = BitVec.ofNat 32 (c / 6 * 4 + (tab (ValueIdx.ix1 ⟨c % 6, Nat.mod_lt _ (by decide)⟩)).toNat) := by
  have d := pyDiv_ap bcast_S_S88 q (constantI S_ 32 6#32) (ValueIdx.ix1 i) hq (b := 6) rfl (by omega) (by decide) (by decide)
  have e := pyRem_ap bcast_S_S88 q (constantI S_ 32 6#32) (ValueIdx.ix1 i) hq (b := 6) rfl (by omega) (by decide) (by decide)
  unfold expertOf
  rw [addi_ap, muli_ap, bc0, d, pick_word tab _ i ⟨c % 6, Nat.mod_lt _ (by decide)⟩ e]
  show BitVec.ofNat 32 (c / 6) * BitVec.ofNat 32 4 + _ = _
  rw [← BitVec.ofNat_mul, BitVec.ofNat_add, BitVec.ofNat_toNat, BitVec.setWidth_eq]

theorem usedOf_apply (x : IVec S32 32) (u : ℕ) (hu : u < 2 ^ 31) (hx : x (ValueIdx.ix1 23) = BitVec.ofNat 32 u) (j : S1.Idx) :
    usedOf x j = BitVec.ofNat 32 (u / 256) := by
  obtain rfl : j = ValueIdx.ix1 (0 : Fin 1) := by
    rw [ValueIdx.eq_ix1 j]; exact congrArg ValueIdx.ix1 (Subsingleton.elim (α := Fin 1) _ _)
  unfold usedOf
  refine pyDiv_ap bcast_S_S1 _ (constantI S_ 32 256#32) (ValueIdx.ix1 0) ?_ (b := 256) rfl hu (by decide) (by decide)
  rw [slice1 23 x _ (0 : Fin 1) (by decide)]
  exact hx

end Cert.Kernel2Ideal.Pair

end
-- ==== Proof.PairPre.lean ====
/-
  What the routed precondition says of the tables and positions, and what follows for the expert kernel's windows.
-/
module

public import proofs.«01_k».proof.Proof.PairPlan
public import proofs.«01_k».proof.Proof.Gen.Pre_routed
public import Idealize.ShloMosaic.Lib.ReduceAll
public import Idealize.ShloMosaic.Lib.WordCmp
public import Idealize.ShloMosaic.Lib.Affine

@[expose] public section

set_option maxRecDepth 16384

noncomputable section

namespace Cert.Kernel2Ideal.Pair

open Cert.Kernel2Ideal.Gen
open Idealize.ShloMosaic Idealize.ShloMosaic.TcCoe
open Idealize.SL.Sem
open Idealize.ShloMosaic.WordCmp (andi_sge_zero_slt_ofNat)
open Idealize.ShloMosaic.Routing (pyDiv bc0 bcCol addi_ap subi_ap gather_take1 wrap_of_lt cumsum1 slice1 ofNat32_sub)

attribute [local instance] Cert.Pre_routed.Gen.facts

/-- The one index of the used-tile word. -/
abbrev one0 : S1.Idx := fun a => ⟨0, by fin_cases a; decide⟩

/-- The tables name two different experts of sixteen per tile, one to 88 tiles are in use, and every token's row is in a tile in use. -/
structure Tables (ea eb : IVec S88 32) (used : IVec S1 32) (pos : IVec S16384 32) : Prop where
  lo : ∀ j, (ea j).toNat < 16
  hi : ∀ j, (eb j).toNat < 16
  ne : ∀ j, ea j ≠ eb j
  used1 : 1 ≤ (used one0).toNat
  used88 : (used one0).toNat ≤ 88
  pos : ∀ t, (pos t).toNat < 256 * (used one0).toNat

theorem bit_true (b : Bool) : BitVec.ofBool b = 1#1 → b = true := by cases b <;> decide

theorem ix1_same {k : ℕ} (a : Fin k) : Idealize.ShloMosaic.ix1 a = ValueIdx.ix1 a :=
  funext fun d => by fin_cases d; rfl

theorem sle_range (x : BitVec 32) (a b : ℕ) (ha : a < 2 ^ 31) (hb : b < 2 ^ 31) (h1 : (BitVec.ofNat 32 a).toInt ≤ x.toInt) (h2 : x.toInt < (BitVec.ofNat 32 b).toInt) :
    a ≤ x.toNat ∧ x.toNat < b := by
  rw [BitVec.toInt_eq_toNat_cond, BitVec.toInt_eq_toNat_cond, BitVec.toNat_ofNat, Nat.mod_eq_of_lt (by omega)] at h1
  rw [BitVec.toInt_eq_toNat_cond, BitVec.toInt_eq_toNat_cond, BitVec.toNat_ofNat, Nat.mod_eq_of_lt (by omega)] at h2
  have := x.isLt
  split at h1 <;> split at h1 <;> split at h2 <;> omega

theorem sle_int {x y : BitVec 32} (h : IntOp.cmpi .sle x y = 1#1) : x.toInt ≤ y.toInt := by
  have := bit_true _ h
  simpa [IntOp.cmpi, BitVec.sle] using this
theorem sge_int {x y : BitVec 32} (h : IntOp.cmpi .sge x y = 1#1) : y.toInt ≤ x.toInt := by
  have := bit_true _ h
  simpa [IntOp.cmpi, BitVec.sle] using this
theorem slt_int {x y : BitVec 32} (h : IntOp.cmpi .slt x y = 1#1) : x.toInt < y.toInt := by
  have := bit_true _ h
  simpa [IntOp.cmpi, BitVec.slt] using this

/-- The counts as numbers. -/
def cntN {F : FTy → Type} [FloatOps F] (a0 : FVec F S32x128 .f32) (c : ℕ) : ℕ := if h : c < 32 then (cntOf a0 (ValueIdx.ix1 ⟨c, h⟩)).toNat else 0

theorem cntN_word {F : FTy → Type} [FloatOps F] (a0 : FVec F S32x128 .f32) (c : Fin 32) : cntOf a0 (ValueIdx.ix1 c) = BitVec.ofNat 32 (cntN a0 c.val) := by
  unfold cntN
  rw [dif_pos c.isLt, BitVec.ofNat_toNat, BitVec.setWidth_eq]

/-- A routing whose counts are `n`: the 24 regions fit, each token has a class and a slot of that class's region, and the slot's token is it. -/
structure Plan (n : ℕ → ℕ) (cls pos : IVec S16384 32) (tok : IVec S22528 32) : Prop where
  le : ∀ c, n c ≤ 16384
  fits : start n 24 ≤ 22528
  isClass : ∀ t : Fin 16384, (cls (ValueIdx.ix1 t)).toNat < 24
  lo : ∀ t : Fin 16384, start n (cls (ValueIdx.ix1 t)).toNat ≤ (pos (ValueIdx.ix1 t)).toNat
  hi : ∀ t : Fin 16384, (pos (ValueIdx.ix1 t)).toNat < start n ((cls (ValueIdx.ix1 t)).toNat + 1)
  isTok : ∀ (t : Fin 16384) (p : Fin 22528), pos (ValueIdx.ix1 t) = BitVec.ofNat 32 p.val → tok (ValueIdx.ix1 p) = BitVec.ofNat 32 t.val

/-- The precondition's sizes and ends. -/
def sizeP (x : IVec S32 32) : IVec S32 32 :=
  muli (pyDiv bcast_S_S32 (addi x (broadcastInDim S32 ![] bcast_S_S32 (constantI S_ 32 255#32))) (constantI S_ 32 256#32))
    (broadcastInDim S32 ![] bcast_S_S32 (constantI S_ 32 256#32))

/-- A token's index word into a table of `b`, counted from its end when negative. -/
def wrapP (b : BitVec 32) (x : IVec S16384 32) : IVec S16384x1 32 :=
  broadcastInDim S16384x1 ![0] bcast_S16384_S16384x1_0 (select (cmpi .slt x (broadcastInDim S16384 ![] bcast_S_S16384 (constantI S_ 32 0#32)))
    (addi x (broadcastInDim S16384 ![] bcast_S_S16384 (constantI S_ 32 b))) x)

theorem wrapP_apply (b : BitVec 32) (x : IVec S16384 32) (t : Fin 16384) (h : (x (ValueIdx.ix1 t)).toNat < 2 ^ 31) :
    wrapP b x (ValueIdx.ix2 t (0 : Fin 1)) = x (ValueIdx.ix1 t) := by
  unfold wrapP
  rw [bcCol]
  show Scalar.select (IntOp.cmpi .slt (x _) _) _ (x _) = _
  rw [bc0]
  exact wrap_of_lt _ _ h

theorem pre_eq {F : FTy → Type} [FloatOps F] (a0 : FVec F S32x128 .f32) (a1 a2 : IVec S16384 32) (a3 : IVec S22528 32) (a4 a5 a6 a7 a8 a9) :
    Cert.Pre_routed.fn (F := F) a0 a1 a2 a3 a4 a5 a6 a7 a8 a9
      = andi (andi (andi (andi
          (Host.reduce IntOp.andi (andi (cmpi .sge (cntOf a0) (broadcastInDim S32 ![] bcast_S_S32 (constantI S_ 32 0#32))) (cmpi .sle (cntOf a0) (broadcastInDim S32 ![] bcast_S_S32 (constantI S_ 32 16384#32)))) (constantI S_ 1 1#1) Cert.Pre_routed.Facts.reducesTo_S32_S_d0 h_S_)
          (cmpi .sle (shapeCast S_ (extractStridedSlice S1 ![23] (endsOf (sizeP (cntOf a0))) slices_S32_S1_23) Cert.Pre_routed.Facts.shapeCasts_S1_S_) (constantI S_ 32 22528#32)))
          (Host.reduce IntOp.andi (andi (cmpi .sge a1 (broadcastInDim S16384 ![] bcast_S_S16384 (constantI S_ 32 0#32))) (cmpi .slt a1 (broadcastInDim S16384 ![] bcast_S_S16384 (constantI S_ 32 24#32)))) (constantI S_ 1 1#1) Cert.Pre_routed.Facts.reducesTo_S16384_S_d0 h_S_))
          (Host.reduce IntOp.andi (andi (cmpi .sle (Host.gather Cert.Pre_routed.gather_S32_S16384x1_S16384_n_0_n_n_0_1_1 (subi (endsOf (sizeP (cntOf a0))) (sizeP (cntOf a0))) (wrapP 32#32 a1)) a2)
            (cmpi .slt a2 (Host.gather Cert.Pre_routed.gather_S32_S16384x1_S16384_n_0_n_n_0_1_1 (endsOf (sizeP (cntOf a0))) (wrapP 32#32 a1)))) (constantI S_ 1 1#1) Cert.Pre_routed.Facts.reducesTo_S16384_S_d0 h_S_))
          (Host.reduce IntOp.andi (cmpi .eq (Host.gather Cert.Pre_routed.gather_S22528_S16384x1_S16384_n_0_n_n_0_1_1 a3 (wrapP 22528#32 a2)) (iotaInDim S16384 32 0)) (constantI S_ 1 1#1) Cert.Pre_routed.Facts.reducesTo_S16384_S_d0 h_S_) := by
  unfold Cert.Pre_routed.fn Cert.Pre_routed.fn_part1 Cert.Pre_routed.fn_part2 Cert.Pre_routed.fn_part3 Cert.Pre_routed.fn_floor_divide Cert.Pre_routed.fn_where
    Cert.Pre_routed.fn_cumsum Cert.Pre_routed.fn_cumsum_0 sizeP endsOf cntOf wrapP pyDiv
  rfl

theorem last_le (E : IVec S32 32) (k : S_.Idx) (h : cmpi .sle (shapeCast S_ (extractStridedSlice S1 ![23] E slices_S32_S1_23) Cert.Pre_routed.Facts.shapeCasts_S1_S_) (constantI S_ 32 22528#32) k = 1#1) :
    IntOp.cmpi .sle (E (ValueIdx.ix1 ⟨23, by decide⟩)) 22528#32 = 1#1 := by
  have key : ∀ j : S1.Idx, extractStridedSlice S1 ![23] E slices_S32_S1_23 j = E (ValueIdx.ix1 ⟨23, by decide⟩) := fun j => by
    obtain rfl : j = ValueIdx.ix1 (0 : Fin 1) := by
      rw [ValueIdx.eq_ix1 j]; exact congrArg ValueIdx.ix1 (Subsingleton.elim (α := Fin 1) _ _)
    exact slice1 23 E _ (0 : Fin 1) (by decide)
  have h2 : IntOp.cmpi .sle (extractStridedSlice S1 ![23] E slices_S32_S1_23 _) 22528#32 = 1#1 := h
  rw [key] at h2
  exact h2

theorem plan_of_pre {F : FTy → Type} [FloatOps F] (a0 : FVec F S32x128 .f32) (a1 a2 : IVec S16384 32) (a3 : IVec S22528 32) (a4 a5 a6 a7 a8 a9)
    (h : Cert.Pre_routed.fn (F := F) a0 a1 a2 a3 a4 a5 a6 a7 a8 a9 = fun _ => 1#1) : Plan (cntN a0) a1 a2 a3 := by
  rw [pre_eq] at h
  obtain ⟨hABCD, hE⟩ := IntOp.andi_eq_one.mp (congrFun h (fun a => a.elim0))
  obtain ⟨hABC, hD⟩ := IntOp.andi_eq_one.mp hABCD
  obtain ⟨hAB, hC⟩ := IntOp.andi_eq_one.mp hABC
  obtain ⟨hA, hB⟩ := IntOp.andi_eq_one.mp hAB
  have eA : ∀ j, IntOp.andi (IntOp.cmpi .sge (cntOf a0 j) 0#32) (IntOp.cmpi .sle (cntOf a0 j) 16384#32) = 1#1 := fun j =>
    Host.reduce_andi_all _ _ _ _ _ hA j
  have eB : IntOp.cmpi .sle (endsOf (sizeP (cntOf a0)) (ValueIdx.ix1 ⟨23, by decide⟩)) 22528#32 = 1#1 := last_le _ _ hB
  have eC : ∀ t, IntOp.andi (IntOp.cmpi .sge (a1 t) 0#32) (IntOp.cmpi .slt (a1 t) 24#32) = 1#1 := fun t =>
    Host.reduce_andi_all _ _ _ _ _ hC t
  have eD : ∀ t, IntOp.andi (IntOp.cmpi .sle (Host.gather Cert.Pre_routed.gather_S32_S16384x1_S16384_n_0_n_n_0_1_1 (subi (endsOf (sizeP (cntOf a0))) (sizeP (cntOf a0))) (wrapP 32#32 a1) t) (a2 t))
      (IntOp.cmpi .slt (a2 t) (Host.gather Cert.Pre_routed.gather_S32_S16384x1_S16384_n_0_n_n_0_1_1 (endsOf (sizeP (cntOf a0))) (wrapP 32#32 a1) t)) = 1#1 := fun t =>
    Host.reduce_andi_all _ _ _ _ _ hD t
  have eE : ∀ t, IntOp.cmpi .eq (Host.gather Cert.Pre_routed.gather_S22528_S16384x1_S16384_n_0_n_n_0_1_1 a3 (wrapP 22528#32 a2) t) (iotaInDim S16384 32 0 t) = 1#1 := fun t =>
    Host.reduce_andi_all _ _ _ _ _ hE t
  have le : ∀ c, cntN a0 c ≤ 16384 := fun c => by
    unfold cntN
    split
    · rename_i hc
      obtain ⟨x, y⟩ := IntOp.andi_eq_one.mp (eA (ValueIdx.ix1 ⟨c, hc⟩))
      have := sle_range _ 0 16385 (by decide) (by decide) (sge_int x) (lt_of_le_of_lt (sle_int y) (by decide))
      omega
    · exact Nat.zero_le _
  have sz : ∀ c : Fin 32, sizeP (cntOf a0) (ValueIdx.ix1 c) = BitVec.ofNat 32 (size (cntN a0) c.val) := fun c => by
    refine rounded_apply (cntN a0) le _ c ?_
    rw [addi_ap, bc0, cntN_word, BitVec.ofNat_add]
    rfl
  have en := endsOf_apply (cntN a0) le _ sz
  have big := start_le (cntN a0) le
  have hcls : ∀ t : Fin 16384, (a1 (ValueIdx.ix1 t)).toNat < 24 := fun t => by
    have := eC (ValueIdx.ix1 t)
    rw [show (24#32) = BitVec.ofNat 32 24 from rfl, andi_sge_zero_slt_ofNat (by decide)] at this
    exact of_decide_eq_true (bit_true _ this)
  have range : ∀ t : Fin 16384, start (cntN a0) (a1 (ValueIdx.ix1 t)).toNat ≤ (a2 (ValueIdx.ix1 t)).toNat
      ∧ (a2 (ValueIdx.ix1 t)).toNat < start (cntN a0) ((a1 (ValueIdx.ix1 t)).toNat + 1) := fun t => by
    have hc := hcls t
    have hw : wrapP 32#32 a1 (ValueIdx.ix2 t (0 : Fin 1)) = BitVec.ofNat 32 (⟨(a1 (ValueIdx.ix1 t)).toNat, by omega⟩ : Fin 32).val := by
      rw [wrapP_apply _ _ _ (by omega), BitVec.ofNat_toNat, BitVec.setWidth_eq]
    obtain ⟨x, y⟩ := IntOp.andi_eq_one.mp (eD (ValueIdx.ix1 t))
    rw [gather_take1 (N := 32) (n := 16384) _ rfl rfl rfl rfl _ _ t _ hw (by decide)] at x y
    rw [subi_ap, en, sz] at x
    rw [en] at y
    have b1 := big ((a1 (ValueIdx.ix1 t)).toNat + 1)
    have s := start_succ (cntN a0) (a1 (ValueIdx.ix1 t)).toNat
    rw [ofNat32_sub (by show size (cntN a0) (a1 (ValueIdx.ix1 t)).toNat ≤ start (cntN a0) ((a1 (ValueIdx.ix1 t)).toNat + 1); omega)] at x
    have e : start (cntN a0) ((a1 (ValueIdx.ix1 t)).toNat + 1) - size (cntN a0) (a1 (ValueIdx.ix1 t)).toNat = start (cntN a0) (a1 (ValueIdx.ix1 t)).toNat := by omega
    exact sle_range _ _ _ (by omega) (by omega) (e ▸ sle_int x) (slt_int y)
  refine ⟨le, ?_, hcls, fun t => (range t).1, fun t => (range t).2, fun t p hp => ?_⟩
  · rw [en] at eB
    have b := big 24
    have := sle_int eB
    rw [WordCmp.toInt_ofNat_of_lt (by show start _ 24 < _; omega)] at this
    have e : (22528#32 : BitVec 32).toInt = 22528 := by decide
    rw [e] at this
    exact_mod_cast this
  · have b := big ((a1 (ValueIdx.ix1 t)).toNat + 1)
    have hc := hcls t
    have hw : wrapP 22528#32 a2 (ValueIdx.ix2 t (0 : Fin 1)) = BitVec.ofNat 32 p.val := by
      rw [wrapP_apply _ _ _ (by have := (range t).2; omega)]; exact hp
    have e := eE (ValueIdx.ix1 t)
    rw [gather_take1 (N := 22528) (n := 16384) _ rfl rfl rfl rfl _ _ t _ hw (by decide)] at e
    have := bit_true _ e
    exact (by simpa [IntOp.cmpi] using this : a3 (ValueIdx.ix1 p) = iotaInDim S16384 32 0 (ValueIdx.ix1 t))

/-! ## The tables the plan makes -/

section Tables
variable {F : FTy → Type} [FloatOps F] (a0 : FVec F S32x128 .f32) {cls pos : IVec S16384 32} {tok : IVec S22528 32} (h : Plan (cntN a0) cls pos tok)
include h

theorem endsAt_apply (c : Fin 32) : endsAt a0 (ValueIdx.ix1 c) = BitVec.ofNat 32 (start (cntN a0) (c.val + 1)) :=
  endsOf_apply _ h.le _ (sizeOf_apply _ h.le _ (cntN_word a0)) c

theorem classesAt_apply (i : Fin 88) : classesAt a0 (ValueIdx.ix1 i) = BitVec.ofNat 32 (classAt (cntN a0) i.val) :=
  classesOf_apply _ h.le _ (endsAt_apply a0 h) i

omit h in
theorem firstTab_ix1 (b : Fin 6) : firstTab (ValueIdx.ix1 b) = lit0 b := by
  refine congrArg lit0 (Fin.ext ?_)
  exact (congrArg Fin.val (((Routing.shape1 6).rowMajor.symm_apply_eq).1 (Routing.symm1 (N := 6) (b.cast (Routing.numel1 6).symm)))).symm
omit h in
theorem secondTab_ix1 (b : Fin 6) : secondTab (ValueIdx.ix1 b) = lit1 b := by
  refine congrArg lit1 (Fin.ext ?_)
  exact (congrArg Fin.val (((Routing.shape1 6).rowMajor.symm_apply_eq).1 (Routing.symm1 (N := 6) (b.cast (Routing.numel1 6).symm)))).symm

theorem first_apply (i : Fin 88) : expertOf firstTab (classesAt a0) (ValueIdx.ix1 i) = BitVec.ofNat 32 (firstOf (classAt (cntN a0) i.val)) := by
  rw [expertOf_apply _ _ i _ (classAt_lt _ _) (classesAt_apply a0 h i), firstTab_ix1]
  rfl

theorem second_apply (i : Fin 88) : expertOf secondTab (classesAt a0) (ValueIdx.ix1 i) = BitVec.ofNat 32 (secondOf (classAt (cntN a0) i.val)) := by
  rw [expertOf_apply _ _ i _ (classAt_lt _ _) (classesAt_apply a0 h i), secondTab_ix1]
  rfl

theorem used_apply (j : S1.Idx) : usedOf (endsAt a0) j = BitVec.ofNat 32 (start (cntN a0) 24 / 256) :=
  usedOf_apply _ (start (cntN a0) 24) (by have := h.fits; omega) (endsAt_apply a0 h ⟨23, by decide⟩) j

theorem pos_lt (t : Fin 16384) : (pos (ValueIdx.ix1 t)).toNat < start (cntN a0) 24 :=
  lt_of_lt_of_le (h.hi t) (start_mono _ (h.isClass t))

theorem pos_class (t : Fin 16384) : classAt (cntN a0) ((pos (ValueIdx.ix1 t)).toNat / 256) = (cls (ValueIdx.ix1 t)).toNat :=
  classAt_of _ (h.isClass t) (h.lo t) (h.hi t)

theorem tables_of : Tables (expertOf firstTab (classesAt a0)) (expertOf secondTab (classesAt a0)) (usedOf (endsAt a0)) pos := by
  have small : ∀ k < 16, (BitVec.ofNat 32 k).toNat = k := fun k hk => by rw [BitVec.toNat_ofNat]; omega
  have u : (usedOf (endsAt a0) one0).toNat = start (cntN a0) 24 / 256 := by
    rw [used_apply a0 h, BitVec.toNat_ofNat]
    have := h.fits
    omega
  obtain ⟨k, hk⟩ := start_dvd (cntN a0) 24
  refine ⟨fun j => ?_, fun j => ?_, fun j => ?_, ?_, ?_, fun t => ?_⟩
  · obtain ⟨i, rfl⟩ : ∃ i : Fin 88, j = ValueIdx.ix1 i := ⟨j 0, ValueIdx.eq_ix1 j⟩
    rw [first_apply a0 h, small _ (firstOf_lt _ (classAt_lt _ _))]
    exact firstOf_lt _ (classAt_lt _ _)
  · obtain ⟨i, rfl⟩ : ∃ i : Fin 88, j = ValueIdx.ix1 i := ⟨j 0, ValueIdx.eq_ix1 j⟩
    rw [second_apply a0 h, small _ (secondOf_lt _ (classAt_lt _ _))]
    exact secondOf_lt _ (classAt_lt _ _)
  · obtain ⟨i, rfl⟩ : ∃ i : Fin 88, j = ValueIdx.ix1 i := ⟨j 0, ValueIdx.eq_ix1 j⟩
    rw [first_apply a0 h, second_apply a0 h]
    intro e
    have := congrArg BitVec.toNat e
    rw [small _ (firstOf_lt _ (classAt_lt _ _)), small _ (secondOf_lt _ (classAt_lt _ _))] at this
    exact firstOf_ne _ (classAt_lt _ _) this
  · have := pos_lt a0 h ⟨0, by decide⟩
    rw [u]; omega
  · have := h.fits
    rw [u]; omega
  · obtain ⟨i, rfl⟩ : ∃ i : Fin 16384, t = ValueIdx.ix1 i := ⟨t 0, ValueIdx.eq_ix1 t⟩
    have := pos_lt a0 h i
    rw [u]
    omega

end Tables

/-! ## The windows' blocks lie in their arrays -/

variable {F : FTy → Type} [FloatOps F] (m : (ℓ : Loc nD τ sig) → Buf (Elt F) ℓ)

/-- The plan, of the memory the program starts in. -/
abbrev PlanAt (c : Dev nD) : Prop := Plan (cntN (F := F) (m ((c : Thread nD τ).loc main_arg0))) (m ((c : Thread nD τ).loc main_arg1)) (m ((c : Thread nD τ).loc main_arg2)) (m ((c : Thread nD τ).loc main_arg3))

/-- The tables the region finds. -/
abbrev TablesAt (c : Dev nD) : Prop := Tables (V m c main_v51) (V m c main_v60) (V m c main_v62) (m ((c : Thread nD τ).loc main_arg2))

theorem tablesAt_of (c : Dev nD) (h : PlanAt m c) : TablesAt m c := by
  have := tables_of _ h
  rw [← V_v51 m c, ← V_v60 m c, ← V_v62 m c] at this
  exact this

theorem nUsed_eq : nUsed m = BitVec.toNat (V m 0 main_v62 one0 : BitVec 32) := rfl

theorem usedOk_of (h : TablesAt m 0) : UsedOk m := by
  unfold UsedOk
  rw [nUsed_eq]
  exact ⟨h.used1, h.used88⟩

/-- The row tile at any grid coordinate. -/
theorem row_lt (hu : UsedOk m) (i : grid0.Coords) (v : BitVec 32) (hv : v.toNat = nUsed m) :
    (Scalar.minsi (BitVec.ofNat 32 (i 0).val) (Scalar.subi v 1#32)).toNat < 88 := by
  have hi : (i 0).val < 88 := (i 0).isLt
  have e : i = grid0.coords ⟨(i 0).val, hi⟩ := funext fun a => by
    fin_cases a; exact Fin.ext (coord_val (⟨(i 0).val, hi⟩ : Fin grid0.N)).symm
  have h := row_eq m hu (⟨(i 0).val, hi⟩ : Fin grid0.N) v hv
  rw [← e] at h
  rw [h]
  exact lt_of_le_of_lt (min_le_left _ _) hi

theorem words_rows3 {s : Shape} (p : ℕ) (size ix : Fin s.rank → ℕ) (h : ∀ a, (ix a + 1) * size a ≤ s.size a) (h2 : 2 ≤ s.rank)
    (h0 : ix (s.rowAx h2) = 0) (hs : size (s.rowAx h2) = s.size (s.rowAx h2)) : (Rect.block size ix h).WholeWords p :=
  .inr ⟨h2, rfl, by show ix _ * size _ = 0; rw [h0, Nat.zero_mul], hs⟩

theorem words_dvd {s : Shape} (p : ℕ) (size ix : Fin s.rank → ℕ) (h : ∀ a, (ix a + 1) * size a ≤ s.size a) (h2 : 2 ≤ s.rank)
    (hd : p ∣ size (s.rowAx h2)) : (Rect.block size ix h).WholeWords p :=
  .inl (.inr ⟨h2, rfl, .inl ⟨Dvd.dvd.mul_left hd _, hd⟩⟩)

theorem fits2 (x bs n N : ℕ) (h : (x + 1) * bs ≤ N) (a : Fin 2) : (![x, 0] a + 1) * ![bs, n] a ≤ ![N, n] a := by
  fin_cases a
  · exact h
  · exact (Nat.one_mul n).le

theorem fits3 (x u v : ℕ) (h : x < 16) (a : Fin 3) : (![x, 0, 0] a + 1) * ![1, u, v] a ≤ ![16, u, v] a := by
  fin_cases a
  · show (x + 1) * 1 ≤ 16
    omega
  · exact (Nat.one_mul u).le
  · exact (Nat.one_mul v).le

theorem ok_of (h : TablesAt m 0) : Ok m := by
  have hu := usedOk_of m h
  have r := fun i => row_lt m hu i _ (at2_toNat m (h := numel1_S1))
  have e0 : ∀ j, BitVec.toNat (tbl m 0 j : BitVec 32) < 16 := fun j => h.lo j
  have e1 : ∀ j, BitVec.toNat (tbl m 1 j : BitVec 32) < 16 := fun j => h.hi j
  refine ⟨fun i => ⟨fun a => ?_, .inl rfl⟩, fun i => ⟨fun a => ?_, .inl rfl⟩, fun i => ⟨fun a => ?_, .inr (words_rows3 _ _ _ _ (by decide) rfl rfl)⟩,
    fun i => ⟨fun a => ?_, .inr (words_rows3 _ _ _ _ (by decide) rfl rfl)⟩, fun i => ⟨fun a => ?_, .inr (words_rows3 _ _ _ _ (by decide) rfl rfl)⟩,
    fun i => ⟨fun a => ?_, .inr (words_rows3 _ _ _ _ (by decide) rfl rfl)⟩, fun i => ⟨fun a => ?_, .inr (words_dvd _ _ _ _ (by decide) (by decide))⟩,
    fun i => ⟨fun a => ?_, .inr (words_dvd _ _ _ _ (by decide) (by decide))⟩⟩
  · exact fits2 _ 256 256 22528 (by have := r i; omega) a
  · exact fits2 _ 256 384 22528 (by have := r i; omega) a
  · exact fits3 _ 1024 512 (e0 ((Rect.unit (s := S88) ![(Scalar.indexCast (BitVec.ofNat 32 (i 0).val)).toNat] S1.size (k0_off1_inb i)).emb (Shape.Idx.first (numel1_S1.symm ▸ Nat.one_pos)))) a
  · exact fits3 _ 256 1024 (e0 ((Rect.unit (s := S88) ![(Scalar.indexCast (BitVec.ofNat 32 (i 0).val)).toNat] S1.size (k0_off1_inb i)).emb (Shape.Idx.first (numel1_S1.symm ▸ Nat.one_pos)))) a
  · exact fits3 _ 1024 512 (e1 ((Rect.unit (s := S88) ![(Scalar.indexCast (BitVec.ofNat 32 (i 0).val)).toNat] S1.size (k0_off1_inb i)).emb (Shape.Idx.first (numel1_S1.symm ▸ Nat.one_pos)))) a
  · exact fits3 _ 256 1024 (e1 ((Rect.unit (s := S88) ![(Scalar.indexCast (BitVec.ofNat 32 (i 0).val)).toNat] S1.size (k0_off1_inb i)).emb (Shape.Idx.first (numel1_S1.symm ▸ Nat.one_pos)))) a
  · exact fits2 _ 256 512 22528 (by have := r i; omega) a
  · exact fits2 _ 256 512 22528 (by have := r i; omega) a

end Cert.Kernel2Ideal.Pair

end
-- ==== Proof.PairTail.lean ====
/-
  The host lines around the expert kernel's region: what they make of the weights before it, and of its two arrays after it.
-/
module

public import proofs.«01_k».proof.Proof.PairRun
public import proofs.«01_k».proof.Proof.PairPre
public import Idealize.ShloMosaic.Lib.Pipeline.Value
public import Idealize.ShloMosaic.Lib.StableHlo.Run

@[expose] public section

set_option maxRecDepth 16384

noncomputable section

namespace Cert.Kernel2Ideal.Pair

open Cert.Kernel2Ideal.Gen
open Idealize.ShloMosaic Idealize.ShloMosaic.TcCoe Idealize.ShloMosaic.StableHlo
open Idealize.SL.Sem
open Idealize.ShloMosaic.Pipeline (Dat Cfg Window)

variable {F : FTy → Type} [FloatOps F]

variable (m : (ℓ : Loc nD τ sig) → Buf (Elt F) ℓ)

/-! ## After the region -/

/-- The tokens' rows, as a column. -/
def rowIdx (a2 : IVec S16384 32) : IVec S16384x1 32 :=
  broadcastInDim S16384x1 ![0] bcast_S16384_S16384x1_0 (select (cmpi .slt a2 (broadcastInDim S16384 ![] bcast_S_S16384 (constantI S_ 32 0#32)))
    (addi a2 (broadcastInDim S16384 ![] bcast_S_S16384 (constantI S_ 32 22528#32))) a2)

/-- The tokens' rows of an array. -/
def rowsOf (x : FVec F S22528x512 .bf16) (a2 : IVec S16384 32) : FVec F S16384x512 .bf16 :=
  Host.gather gather_S22528x512_S16384x1_S16384x512_1_0_n_n_0_1_1512 x (rowIdx a2)

theorem post_v71 (W : Valuation τ sig (Elt F)) :
    StableHlo.after (List.flatten [hostOps1]) W (Proc.devRef .tc main_v71) = rowsOf (W (Proc.devRef .tc main_v64_0)) (W (Proc.devRef .tc main_arg2)) := by
  unfold rowsOf rowIdx
  simp only [hostOps1, List.flatten_cons, List.flatten_nil, List.append_nil]
  after_results <;> rfl

theorem post_v78 (W : Valuation τ sig (Elt F)) :
    StableHlo.after (List.flatten [hostOps1]) W (Proc.devRef .tc main_v78) = rowsOf (W (Proc.devRef .tc main_v64_1)) (W (Proc.devRef .tc main_arg2)) := by
  unfold rowsOf rowIdx
  simp only [hostOps1, List.flatten_cons, List.flatten_nil, List.append_nil]
  after_results <;> rfl

theorem shared_in (hO : Ok m) : Pipeline.SharedIn (cfgM m hO).spec := by
  intro w w' hne e
  revert w w'
  exact (by decide : ∀ w w' : Fin 8, w ≠ w' → Pipeline.arrRef spec0 w = Pipeline.arrRef spec0 w' → (spec0 w).isOut = false)

/-- The first result: the tokens' rows of the first half. -/
theorem tail_v71 (hO : Ok m) (c : Dev nD) :
    Pipeline.afterTail pcfgs (fun _ => adm m hO) (dats m hO) 0 (entry m) [hostOps1] c main_v71
      = rowsOf ((dats m hO 0 c).arrAt 6 (cfgM m hO).N) (m ((c : Thread nD τ).loc main_arg2)) := by
  unfold Pipeline.afterTail
  rw [post_v71]
  exact congrArg₂ rowsOf ((dats m hO 0 c).withArrays_arrAt (shared_in m hO) (entry m c) (A_eq m hO c) 6)
    ((Pipeline.withArrays_of_ne _ c (entry m c) _ main_arg2 (by decide : ∀ w, Pipeline.arrRef spec0 w ≠ main_arg2)).trans
      (V_kept m c main_arg2 (by decide)))

/-- The second result: those of the second half. -/
theorem tail_v78 (hO : Ok m) (c : Dev nD) :
    Pipeline.afterTail pcfgs (fun _ => adm m hO) (dats m hO) 0 (entry m) [hostOps1] c main_v78
      = rowsOf ((dats m hO 0 c).arrAt 7 (cfgM m hO).N) (m ((c : Thread nD τ).loc main_arg2)) := by
  unfold Pipeline.afterTail
  rw [post_v78]
  exact congrArg₂ rowsOf ((dats m hO 0 c).withArrays_arrAt (shared_in m hO) (entry m c) (A_eq m hO c) 7)
    ((Pipeline.withArrays_of_ne _ c (entry m c) _ main_arg2 (by decide : ∀ w, Pipeline.arrRef spec0 w ≠ main_arg2)).trans
      (V_kept m c main_arg2 (by decide)))

end Cert.Kernel2Ideal.Pair

end
-- ==== Proof.PairTile.lean ====
/-
  What a tile's blocks come to, element by element, over the extended reals.
-/
module

public import proofs.«01_k».proof.Proof.PairBody
public import Idealize.ShloMosaic.Lib.Pointwise
public import Idealize.ShloMosaic.Lib.IdealHost

@[expose] public section

set_option maxRecDepth 16384

noncomputable section

namespace Cert.Kernel2Ideal.Pair

open Cert.Kernel2Ideal.Gen
open Idealize.ShloMosaic Idealize.ShloMosaic.TcCoe

/-! ## A row's function of the experts' weights -/

/-- The two floats packed in a word. -/
def loF (w : BitVec 32) : EReal := Ideal.ofBits .f32 (IntOp.shli .vector w 16#32)
def hiF (w : BitVec 32) : EReal := Ideal.ofBits .f32 (IntOp.andi w 4294901760#32)

/-- A row's features: the low and the high floats of its first words, then those of its second words. -/
def feat (a b : Fin 256 → BitVec 32) (k : Fin 1024) : EReal :=
  if h : k.val < 256 then loF (a ⟨k.val, h⟩)
  else if h : k.val - 256 < 256 then hiF (a ⟨k.val - 256, h⟩)
  else if h : k.val - 256 - 256 < 256 then loF (b ⟨k.val - 256 - 256, h⟩)
  else hiF (b ⟨k.val - 256 - 256 - 256, by omega⟩)

/-- The gated unit of one hidden column. -/
def glu (x wg wu : Fin 1024 → EReal) : EReal :=
  (∑ k, x k * wg k) * Ideal.div 1 (1 + Ideal.exp (-∑ k, x k * wg k)) * ∑ k, x k * wu k

/-- One expert's share of a row's result at one output column, at gate weight `g`. -/
def expert (x : Fin 1024 → EReal) (wg wu : Fin 256 → Fin 1024 → EReal) (g : EReal) (wd : Fin 256 → EReal) : EReal :=
  ∑ f, glu x (wg f) (wu f) * g * wd f

/-! ## The tile -/

theorem pay4_apply (x0 : Vec Ideal S256x256 .i32) (x1 : Vec Ideal S256x256 .i32) (r : Fin 256) (k : Fin 1024) :
    k0_pay4 (F := Ideal) x0 x1 (ix2 r k) = feat (fun j => x0 (ix2 r j)) (fun j => x1 (ix2 r j)) k := by
  pointwise [k0_pay4]
  rfl

theorem colsA_apply (x : Vec Ideal S256x384 .i32) (r : Fin 256) (k : Fin 256) : colsA (F := Ideal) x (ix2 r k) = x (ix2 r ⟨k.val, by omega⟩) := by
  unfold colsA
  congr 1
  funext a
  fin_cases a
  · exact Fin.ext (by show 0 + 1 * r.val = r.val; omega)
  · exact Fin.ext (by show 0 + 1 * k.val = k.val; omega)

theorem colsB_apply (x : Vec Ideal S256x384 .i32) (r : Fin 256) (k : Fin 128) : colsB (F := Ideal) x (ix2 r k) = x (ix2 r ⟨256 + k.val, by omega⟩) := by
  unfold colsB
  congr 1
  funext a
  fin_cases a
  · exact Fin.ext (by show 0 + 1 * r.val = r.val; omega)
  · exact Fin.ext (by show 256 + 1 * k.val = 256 + k.val; omega)

theorem zero_minus (x : EReal) : 0 - x = -x := by rw [sub_eq_add_neg, zero_add]

theorem pay6_apply (x0 : Vec Ideal S256x256 .i32) (x1 : Vec Ideal S256x256 .i32) (v22 : Vec Ideal S256x128 .i32) (x2 : Vec Ideal S1x1024x512 .bf16) (r : Fin 256) (f : Fin 256) :
    k0_pay6 (F := Ideal) x0 x1 v22 x2 (ix2 r f)
      = glu (fun k => k0_pay4 (F := Ideal) x0 x1 (ix2 r k)) (fun k => x2 (ix3 0 k ⟨f.val, by omega⟩)) (fun k => x2 (ix3 0 k ⟨256 + f.val, by omega⟩))
          * Ideal.ofBits .f32 (v22 (ix2 r 0)) := by
  pointwise [k0_pay6, k0_pay5]
  simp only [zero_minus]
  rfl

theorem pay1_apply (v21 : FVec Ideal S256x1024 .bf16) (v24 : FVec Ideal S256x128 .f32) (v42 : FVec Ideal S256x256 .bf16) (v43 : Vec Ideal S1x256x1024 .bf16) (v46 : Vec Ideal S1x1024x512 .bf16) (v64 : Vec Ideal S1x256x1024 .bf16) (r : Fin 256) (c : Fin 1024) :
    k0_pay1 (F := Ideal) v21 v24 v42 v43 v46 v64 (ix2 r c) = (∑ f : Fin 256, v42 (ix2 r f) * v43 (ix3 0 f c))
      + expert (fun k => v21 (ix2 r k)) (fun f k => v46 (ix3 0 k ⟨f.val, by omega⟩)) (fun f k => v46 (ix3 0 k ⟨256 + f.val, by omega⟩))
          (v24 (ix2 r 1)) (fun f => v64 (ix3 0 f c)) := by
  pointwise [k0_pay1]
  simp only [zero_minus]
  rfl

/-- Both experts' shares of row `r` of a tile at output column `c`. -/
def tileAt (x0 : Vec Ideal S256x256 .i32) (x1 : Vec Ideal S256x384 .i32) (x2 : Vec Ideal S1x1024x512 .bf16) (x3 : Vec Ideal S1x256x1024 .bf16) (x4 : Vec Ideal S1x1024x512 .bf16) (x5 : Vec Ideal S1x256x1024 .bf16)
    (r : Fin 256) (c : Fin 1024) : EReal :=
  expert (feat (fun j => x0 (ix2 r j)) (fun j => x1 (ix2 r ⟨j.val, by omega⟩))) (fun f k => x2 (ix3 0 k ⟨f.val, by omega⟩)) (fun f k => x2 (ix3 0 k ⟨256 + f.val, by omega⟩))
      (Ideal.ofBits .f32 (x1 (ix2 r 256))) (fun f => x3 (ix3 0 f c))
    + expert (feat (fun j => x0 (ix2 r j)) (fun j => x1 (ix2 r ⟨j.val, by omega⟩))) (fun f k => x4 (ix3 0 k ⟨f.val, by omega⟩)) (fun f k => x4 (ix3 0 k ⟨256 + f.val, by omega⟩))
      (Ideal.ofBits .f32 (x1 (ix2 r 257))) (fun f => x5 (ix3 0 f c))

theorem pay1_tile (x0 : Vec Ideal S256x256 .i32) (x1 : Vec Ideal S256x384 .i32) (x2 : Vec Ideal S1x1024x512 .bf16) (x3 : Vec Ideal S1x256x1024 .bf16) (x4 : Vec Ideal S1x1024x512 .bf16) (x5 : Vec Ideal S1x256x1024 .bf16)
    (r : Fin 256) (c : Fin 1024) :
    k0_pay1 (F := Ideal) (k0_pay4 x0 (colsA x1)) (k0_pay5 (colsB x1)) (k0_pay6 x0 (colsA x1) (colsB x1) x2) x3 x4 x5 (ix2 r c) = tileAt x0 x1 x2 x3 x4 x5 r c := by
  rw [pay1_apply]
  simp only [pay6_apply]
  unfold tileAt
  simp only [pay4_apply, colsA_apply]
  have e : k0_pay5 (F := Ideal) (colsB x1) (ix2 r 1) = Ideal.ofBits .f32 (colsB (F := Ideal) x1 (ix2 r 1)) := by
    pointwise [k0_pay5]
  rw [e, colsB_apply, colsB_apply]
  rfl

theorem tileL_apply (x0 : Vec Ideal S256x256 .i32) (x1 : Vec Ideal S256x384 .i32) (x2 : Vec Ideal S1x1024x512 .bf16) (x3 : Vec Ideal S1x256x1024 .bf16) (x4 : Vec Ideal S1x1024x512 .bf16) (x5 : Vec Ideal S1x256x1024 .bf16)
    (r : Fin 256) (c : Fin 512) : tileL (F := Ideal) x0 x1 x2 x3 x4 x5 (ix2 r c) = tileAt x0 x1 x2 x3 x4 x5 r ⟨c.val, by omega⟩ := by
  rw [← pay1_tile]
  pointwise [tileL, k0_pay2]

theorem tileR_apply (x0 : Vec Ideal S256x256 .i32) (x1 : Vec Ideal S256x384 .i32) (x2 : Vec Ideal S1x1024x512 .bf16) (x3 : Vec Ideal S1x256x1024 .bf16) (x4 : Vec Ideal S1x1024x512 .bf16) (x5 : Vec Ideal S1x256x1024 .bf16)
    (r : Fin 256) (c : Fin 512) : tileR (F := Ideal) x0 x1 x2 x3 x4 x5 (ix2 r c) = tileAt x0 x1 x2 x3 x4 x5 r ⟨512 + c.val, by omega⟩ := by
  rw [← pay1_tile]
  pointwise [tileR, k0_pay3]

/-- What the two experts of a row of words `ra`, `rb` give at output column `c`. -/
def rowOut (ra : Fin 256 → BitVec 32) (rb : Fin 384 → BitVec 32) (a6 a7 : FVec Ideal S16x1024x256 .f32) (a8 : FVec Ideal S16x256x1024 .f32)
    (ea eb : Fin 16) (c : Fin 1024) : EReal :=
  expert (feat ra (fun j => rb ⟨j.val, by omega⟩)) (fun f k => a6 (ix3 ea k f)) (fun f k => a7 (ix3 ea k f))
      (Ideal.ofBits .f32 (rb 256)) (fun f => a8 (ix3 ea f c))
    + expert (feat ra (fun j => rb ⟨j.val, by omega⟩)) (fun f k => a6 (ix3 eb k f)) (fun f k => a7 (ix3 eb k f))
      (Ideal.ofBits .f32 (rb 257)) (fun f => a8 (ix3 eb f c))

/-- A tile's row, of blocks that hold that row and the two experts' weights. -/
theorem tileAt_eq (x0 : Vec Ideal S256x256 .i32) (x1 : Vec Ideal S256x384 .i32) (x2 : Vec Ideal S1x1024x512 .bf16) (x3 : Vec Ideal S1x256x1024 .bf16) (x4 : Vec Ideal S1x1024x512 .bf16) (x5 : Vec Ideal S1x256x1024 .bf16)
    (ra : Fin 256 → BitVec 32) (rb : Fin 384 → BitVec 32) (a6 a7 : FVec Ideal S16x1024x256 .f32) (a8 : FVec Ideal S16x256x1024 .f32)
    (r : Fin 256) (ea eb : Fin 16) (c : Fin 1024)
    (h0 : ∀ k, x0 (ix2 r k) = ra k) (h1 : ∀ k, x1 (ix2 r k) = rb k)
    (h2 : ∀ (k : Fin 1024) (f : Fin 256), x2 (ix3 0 k ⟨f.val, by omega⟩) = a6 (ix3 ea k f))
    (h2' : ∀ (k : Fin 1024) (f : Fin 256), x2 (ix3 0 k ⟨256 + f.val, by omega⟩) = a7 (ix3 ea k f))
    (h3 : ∀ (f : Fin 256) (k : Fin 1024), x3 (ix3 0 f k) = a8 (ix3 ea f k))
    (h4 : ∀ (k : Fin 1024) (f : Fin 256), x4 (ix3 0 k ⟨f.val, by omega⟩) = a6 (ix3 eb k f))
    (h4' : ∀ (k : Fin 1024) (f : Fin 256), x4 (ix3 0 k ⟨256 + f.val, by omega⟩) = a7 (ix3 eb k f))
    (h5 : ∀ (f : Fin 256) (k : Fin 1024), x5 (ix3 0 f k) = a8 (ix3 eb f k)) :
    tileAt x0 x1 x2 x3 x4 x5 r c = rowOut ra rb a6 a7 a8 ea eb c := by
  unfold tileAt rowOut
  simp only [h0, h1, h2, h2', h3, h4, h4', h5]

end Cert.Kernel2Ideal.Pair

end
-- ==== Proof.PairValue.lean ====
/-
  What the expert kernel's two arrays hold over the extended reals: every row of a tile in use is its two experts' sum.
-/
module

public import proofs.«01_k».proof.Proof.PairTail
public import proofs.«01_k».proof.Proof.PairTile

@[expose] public section

set_option maxRecDepth 16384

noncomputable section

namespace Cert.Kernel2Ideal.Pair

open Cert.Kernel2Ideal.Gen
open Idealize.ShloMosaic Idealize.ShloMosaic.TcCoe
open Idealize.SL.Sem
open Idealize.ShloMosaic.Pipeline (Dat Cfg Window)

variable (m : (ℓ : Loc nD τ sig) → Buf (Elt Ideal) ℓ)

/-! ## The blocks read -/

/-- Row `r` of tile `t`. -/
def rowAt (hO : Ok m) (t : Fin (cfgM m hO).N) (r : Fin 256) : Fin 22528 := ⟨256 * t.val + r.val, by have : t.val < 88 := t.isLt; omega⟩

theorem min_live {t n : ℕ} (h : t < n) : min t (n - 1) = t := min_eq_left (by omega)

theorem iblk0_apply (hO : Ok m) (hu : UsedOk m) (c : Dev nD) (t : Fin (cfgM m hO).N) (ht : t.val < nUsed m) (r : Fin 256) (k : Fin 256) :
    (iblk m hO c 0 t : Vec Ideal S256x256 .i32) (ix2 r k) = V m c main_v6 (ix2 (rowAt m hO t r) k) := by
  refine congrArg (V m c main_v6) ?_
  funext a
  apply Fin.ext
  refine (Window.rect_emb_val ((cfgM m hO).win 0) t (ix2 r k) a).trans ?_
  rw [index0 m hO hu t, min_live ht]
  fin_cases a
  · show t.val * 256 + r.val = 256 * t.val + r.val
    omega
  · show 0 * 256 + k.val = k.val
    omega

theorem iblk1_apply (hO : Ok m) (hu : UsedOk m) (c : Dev nD) (t : Fin (cfgM m hO).N) (ht : t.val < nUsed m) (r : Fin 256) (k : Fin 384) :
    (iblk m hO c 1 t : Vec Ideal S256x384 .i32) (ix2 r k) = V m c main_v13 (ix2 (rowAt m hO t r) k) := by
  refine congrArg (V m c main_v13) ?_
  funext a
  apply Fin.ext
  refine (Window.rect_emb_val ((cfgM m hO).win 1) t (ix2 r k) a).trans ?_
  rw [index1 m hO hu t, min_live ht]
  fin_cases a
  · show t.val * 256 + r.val = 256 * t.val + r.val
    omega
  · show 0 * 384 + k.val = k.val
    omega

/-- A tile's place in the tables. -/
abbrev tileIx (hO : Ok m) (t : Fin (cfgM m hO).N) : S88.Idx := ix1 (⟨t.val, t.isLt⟩ : Fin 88)

theorem tab0_at (hO : Ok m) (t : Fin (cfgM m hO).N) :
    ((tbl m).at 0 (Rect.unit (s := S88) (k0_off1 (grid0.coords t)) S1.size (k0_off1_inb (grid0.coords t))) numel1_S1 : BitVec 32) = tbl m 0 (tileIx m hO t) := by
  unfold Pipeline.Prefetch.Contents.at
  congr 1
  funext a
  fin_cases a
  apply Fin.ext
  have e := congrFun (k0_off1_eq (grid0.coords t)) 0
  have z : (grid0.coords t 0).val = t.val := coord_val t
  show k0_off1 (grid0.coords t) 0 + 1 * 0 = t.val
  rw [e]
  exact z

theorem tab1_at (hO : Ok m) (t : Fin (cfgM m hO).N) :
    ((tbl m).at 1 (Rect.unit (s := S88) (k0_off1 (grid0.coords t)) S1.size (k0_off1_inb (grid0.coords t))) numel1_S1 : BitVec 32) = tbl m 1 (tileIx m hO t) := by
  unfold Pipeline.Prefetch.Contents.at
  congr 1
  funext a
  fin_cases a
  apply Fin.ext
  have e := congrFun (k0_off1_eq (grid0.coords t)) 0
  have z : (grid0.coords t 0).val = t.val := coord_val t
  show k0_off1 (grid0.coords t) 0 + 1 * 0 = t.val
  rw [e]
  exact z

theorem index2 (hO : Ok m) (t : Fin (cfgM m hO).N) :
    ((cfgM m hO).win 2).index t = ![BitVec.toNat (tbl m 0 (tileIx m hO t) : BitVec 32), 0, 0] := by
  show cc0_transform_2 k0_off1_inb numel1_S1 (tbl m) (grid0.coords t) = _
  exact congrArg (fun v : BitVec 32 => (![v.toNat, 0, 0] : Fin 3 → ℕ)) (tab0_at m hO t)

theorem index3 (hO : Ok m) (t : Fin (cfgM m hO).N) :
    ((cfgM m hO).win 3).index t = ![BitVec.toNat (tbl m 0 (tileIx m hO t) : BitVec 32), 0, 0] := by
  show cc0_transform_3 k0_off1_inb numel1_S1 (tbl m) (grid0.coords t) = _
  exact congrArg (fun v : BitVec 32 => (![v.toNat, 0, 0] : Fin 3 → ℕ)) (tab0_at m hO t)

theorem index4 (hO : Ok m) (t : Fin (cfgM m hO).N) :
    ((cfgM m hO).win 4).index t = ![BitVec.toNat (tbl m 1 (tileIx m hO t) : BitVec 32), 0, 0] := by
  show cc0_transform_4 k0_off1_inb numel1_S1 (tbl m) (grid0.coords t) = _
  exact congrArg (fun v : BitVec 32 => (![v.toNat, 0, 0] : Fin 3 → ℕ)) (tab1_at m hO t)

theorem index5 (hO : Ok m) (t : Fin (cfgM m hO).N) :
    ((cfgM m hO).win 5).index t = ![BitVec.toNat (tbl m 1 (tileIx m hO t) : BitVec 32), 0, 0] := by
  show cc0_transform_5 k0_off1_inb numel1_S1 (tbl m) (grid0.coords t) = _
  exact congrArg (fun v : BitVec 32 => (![v.toNat, 0, 0] : Fin 3 → ℕ)) (tab1_at m hO t)

theorem iblk2_apply (hO : Ok m) (c : Dev nD) (t : Fin (cfgM m hO).N) (e : Fin 16) (he : BitVec.toNat (tbl m 0 (tileIx m hO t) : BitVec 32) = e.val) (k : Fin 1024) (f : Fin 512) :
    (iblk m hO c 2 t : Vec Ideal S1x1024x512 .bf16) (ix3 0 k f)
      = bothW (F := Ideal) (m ((c : Thread nD τ).loc main_arg6)) (m ((c : Thread nD τ).loc main_arg7)) (ix3 e k f) := by
  refine (congrFun (V_v15 m c) ((((cfgM m hO).win 2).rect t).emb (ix3 0 k f))).trans (congrArg (bothW (F := Ideal) (m ((c : Thread nD τ).loc main_arg6)) (m ((c : Thread nD τ).loc main_arg7))) ?_)
  funext a
  apply Fin.ext
  refine (Window.rect_emb_val ((cfgM m hO).win 2) t (ix3 0 k f) a).trans ?_
  rw [index2 m hO t, he]
  fin_cases a
  · show e.val * 1 + 0 = e.val
    omega
  · show 0 * 1024 + k.val = k.val
    omega
  · show 0 * 512 + f.val = f.val
    omega

theorem iblk3_apply (hO : Ok m) (c : Dev nD) (t : Fin (cfgM m hO).N) (e : Fin 16) (he : BitVec.toNat (tbl m 0 (tileIx m hO t) : BitVec 32) = e.val) (f : Fin 256) (k : Fin 1024) :
    (iblk m hO c 3 t : Vec Ideal S1x256x1024 .bf16) (ix3 0 f k) = m ((c : Thread nD τ).loc main_arg8) (ix3 e f k) := by
  refine (congrFun (V_v63 m c) ((((cfgM m hO).win 3).rect t).emb (ix3 0 f k))).trans (congrArg (m ((c : Thread nD τ).loc main_arg8)) ?_)
  funext a
  apply Fin.ext
  refine (Window.rect_emb_val ((cfgM m hO).win 3) t (ix3 0 f k) a).trans ?_
  rw [index3 m hO t, he]
  fin_cases a
  · show e.val * 1 + 0 = e.val
    omega
  · show 0 * 256 + f.val = f.val
    omega
  · show 0 * 1024 + k.val = k.val
    omega

theorem iblk4_apply (hO : Ok m) (c : Dev nD) (t : Fin (cfgM m hO).N) (e : Fin 16) (he : BitVec.toNat (tbl m 1 (tileIx m hO t) : BitVec 32) = e.val) (k : Fin 1024) (f : Fin 512) :
    (iblk m hO c 4 t : Vec Ideal S1x1024x512 .bf16) (ix3 0 k f)
      = bothW (F := Ideal) (m ((c : Thread nD τ).loc main_arg6)) (m ((c : Thread nD τ).loc main_arg7)) (ix3 e k f) := by
  refine (congrFun (V_v15 m c) ((((cfgM m hO).win 4).rect t).emb (ix3 0 k f))).trans (congrArg (bothW (F := Ideal) (m ((c : Thread nD τ).loc main_arg6)) (m ((c : Thread nD τ).loc main_arg7))) ?_)
  funext a
  apply Fin.ext
  refine (Window.rect_emb_val ((cfgM m hO).win 4) t (ix3 0 k f) a).trans ?_
  rw [index4 m hO t, he]
  fin_cases a
  · show e.val * 1 + 0 = e.val
    omega
  · show 0 * 1024 + k.val = k.val
    omega
  · show 0 * 512 + f.val = f.val
    omega

theorem iblk5_apply (hO : Ok m) (c : Dev nD) (t : Fin (cfgM m hO).N) (e : Fin 16) (he : BitVec.toNat (tbl m 1 (tileIx m hO t) : BitVec 32) = e.val) (f : Fin 256) (k : Fin 1024) :
    (iblk m hO c 5 t : Vec Ideal S1x256x1024 .bf16) (ix3 0 f k) = m ((c : Thread nD τ).loc main_arg8) (ix3 e f k) := by
  refine (congrFun (V_v63 m c) ((((cfgM m hO).win 5).rect t).emb (ix3 0 f k))).trans (congrArg (m ((c : Thread nD τ).loc main_arg8)) ?_)
  funext a
  apply Fin.ext
  refine (Window.rect_emb_val ((cfgM m hO).win 5) t (ix3 0 f k) a).trans ?_
  rw [index5 m hO t, he]
  fin_cases a
  · show e.val * 1 + 0 = e.val
    omega
  · show 0 * 256 + f.val = f.val
    omega
  · show 0 * 1024 + k.val = k.val
    omega

theorem bothW_gate (a6 a7 : FVec Ideal S16x1024x256 .f32) (e : Fin 16) (k : Fin 1024) (f : Fin 256) :
    bothW (F := Ideal) a6 a7 (ix3 e k ⟨f.val, by omega⟩) = a6 (ix3 e k f) := by
  pointwise [bothW]

theorem bothW_up (a6 a7 : FVec Ideal S16x1024x256 .f32) (e : Fin 16) (k : Fin 1024) (f : Fin 256) :
    bothW (F := Ideal) a6 a7 (ix3 e k ⟨256 + f.val, by omega⟩) = a7 (ix3 e k f) := by
  pointwise [bothW]

/-! ## A tile in use -/

theorem outL_apply (hO : Ok m) (hu : UsedOk m) (c : Dev nD) (t : Fin (cfgM m hO).N) (ht : t.val < nUsed m) (ea eb : Fin 16)
    (ha : BitVec.toNat (tbl m 0 (tileIx m hO t) : BitVec 32) = ea.val) (hb : BitVec.toNat (tbl m 1 (tileIx m hO t) : BitVec 32) = eb.val)
    (r : Fin 256) (j : Fin 512) :
    outL m hO c t (ix2 r j) = rowOut (fun k => V m c main_v6 (ix2 (rowAt m hO t r) k)) (fun k => V m c main_v13 (ix2 (rowAt m hO t r) k)) (m ((c : Thread nD τ).loc main_arg6))
      (m ((c : Thread nD τ).loc main_arg7)) (m ((c : Thread nD τ).loc main_arg8)) ea eb ⟨j.val, by omega⟩ :=
  (tileL_apply _ _ _ _ _ _ r j).trans (tileAt_eq _ _ _ _ _ _ _ _ _ _ _ r ea eb _
    (fun k => iblk0_apply m hO hu c t ht r k) (fun k => iblk1_apply m hO hu c t ht r k)
    (fun k f => (iblk2_apply m hO c t ea ha k _).trans (bothW_gate _ _ ea k f)) (fun k f => (iblk2_apply m hO c t ea ha k _).trans (bothW_up _ _ ea k f))
    (fun f k => iblk3_apply m hO c t ea ha f k)
    (fun k f => (iblk4_apply m hO c t eb hb k _).trans (bothW_gate _ _ eb k f)) (fun k f => (iblk4_apply m hO c t eb hb k _).trans (bothW_up _ _ eb k f))
    (fun f k => iblk5_apply m hO c t eb hb f k))

theorem outR_apply (hO : Ok m) (hu : UsedOk m) (c : Dev nD) (t : Fin (cfgM m hO).N) (ht : t.val < nUsed m) (ea eb : Fin 16)
    (ha : BitVec.toNat (tbl m 0 (tileIx m hO t) : BitVec 32) = ea.val) (hb : BitVec.toNat (tbl m 1 (tileIx m hO t) : BitVec 32) = eb.val)
    (r : Fin 256) (j : Fin 512) :
    outR m hO c t (ix2 r j) = rowOut (fun k => V m c main_v6 (ix2 (rowAt m hO t r) k)) (fun k => V m c main_v13 (ix2 (rowAt m hO t r) k)) (m ((c : Thread nD τ).loc main_arg6))
      (m ((c : Thread nD τ).loc main_arg7)) (m ((c : Thread nD τ).loc main_arg8)) ea eb ⟨512 + j.val, by omega⟩ :=
  (tileR_apply _ _ _ _ _ _ r j).trans (tileAt_eq _ _ _ _ _ _ _ _ _ _ _ r ea eb _
    (fun k => iblk0_apply m hO hu c t ht r k) (fun k => iblk1_apply m hO hu c t ht r k)
    (fun k f => (iblk2_apply m hO c t ea ha k _).trans (bothW_gate _ _ ea k f)) (fun k f => (iblk2_apply m hO c t ea ha k _).trans (bothW_up _ _ ea k f))
    (fun f k => iblk3_apply m hO c t ea ha f k)
    (fun k f => (iblk4_apply m hO c t eb hb k _).trans (bothW_gate _ _ eb k f)) (fun k f => (iblk4_apply m hO c t eb hb k _).trans (bothW_up _ _ eb k f))
    (fun f k => iblk5_apply m hO c t eb hb f k))

end Cert.Kernel2Ideal.Pair

end
-- ==== Proof.PairRef.lean ====
/-
  What the dense reference of the experts' layer comes to, token by token, over the extended reals.
-/
module

public import proofs.«01_k».proof.Proof.PairTile
public import proofs.«01_k».proof.Proof.PairPlan
public import proofs.«01_k».proof.Proof.Gen.Reference2Ideal.Run
public import Idealize.ShloMosaic.Lib.Routing.Ops
public import Idealize.ShloMosaic.Lib.Routing.OpsSet
public import Idealize.ShloMosaic.Lib.WordCmp

@[expose] public section

noncomputable section

namespace Cert.Reference2Ideal.Dense

open Idealize.ShloMosaic Idealize.ShloMosaic.TcCoe
open Cert.Reference2Ideal Cert.Reference2Ideal.Gen
open Cert.Kernel2Ideal.Pair (loF hiF feat glu expert rowOut firstOf secondOf)

/-! ## The reference's terms -/

/-- The tokens' classes, as a column. -/
def classIdx (a1 : IVec S16384 32) : IVec S16384x1 32 :=
  broadcastInDim S16384x1 ![0] bcast_S16384_S16384x1_0 (select (cmpi .slt a1 (broadcastInDim S16384 ![] bcast_S_S16384 (constantI S_ 32 0#32))) (addi a1 (broadcastInDim S16384 ![] bcast_S_S16384 (constantI S_ 32 24#32))) a1)

/-- The table of the classes' two experts. -/
abbrev pairTab : IVec S24x2 32 := fun i => lit0 (S24x2.rowMajor i)

/-- The tokens' two experts. -/
def chosen (a1 : IVec S16384 32) : IVec S16384x2 32 :=
  Host.gather gather_S24x2_S16384x1_S16384x2_1_0_n_n_0_1_12 pairTab (classIdx a1)

/-- The tokens' features. -/
def feats (WA : IVec S16384x256 32) (WB : IVec S16384x384 32) : FVec Ideal S16384x1024 .f32 :=
  concatenate S16384x1024 1 [⟨S16384x512, (concatenate S16384x512 1 [⟨S16384x256, (bitcastToFloat (F := Ideal) .f32 (Host.shli WA (broadcastInDim S16384x256 ![] bcast_S_S16384x256 (constantI S_ 32 16#32))))⟩, ⟨S16384x256, (bitcastToFloat (F := Ideal) .f32 (andi WA (broadcastInDim S16384x256 ![] bcast_S_S16384x256 (constantI S_ 32 4294901760#32))))⟩] concatenates_S16384x256_S16384x256_S16384x512_d1)⟩, ⟨S16384x512, (concatenate S16384x512 1 [⟨S16384x256, (bitcastToFloat (F := Ideal) .f32 (Host.shli (extractStridedSlice S16384x256 ![0, 0] WB slices_S16384x384_S16384x256_0_0) (broadcastInDim S16384x256 ![] bcast_S_S16384x256 (constantI S_ 32 16#32))))⟩, ⟨S16384x256, (bitcastToFloat (F := Ideal) .f32 (andi (extractStridedSlice S16384x256 ![0, 0] WB slices_S16384x384_S16384x256_0_0) (broadcastInDim S16384x256 ![] bcast_S_S16384x256 (constantI S_ 32 4294901760#32))))⟩] concatenates_S16384x256_S16384x256_S16384x512_d1)⟩] concatenates_S16384x512_S16384x512_S16384x1024_d1

/-- The tokens' gates over the sixteen experts. -/
def gates (C : IVec S16384x2 32) (WB : IVec S16384x384 32) : FVec Ideal S16384x16 .f32 :=
  addf (addf (broadcastInDim S16384x16 ![] bcast_S_S16384x16 (constant (F := Ideal) S_ .f32 0x00000000#32)) (select (cmpi .eq (broadcastInDim S16384x16 ![0, 1] bcast_S16384x1_S16384x16_0_1 (extractStridedSlice S16384x1 ![0, 0] C slices_S16384x2_S16384x1_0_0)) (broadcastInDim S16384x16 ![0, 1] bcast_S1x16_S16384x16_0_1 (broadcastInDim S1x16 ![1] bcast_S16_S1x16_1 (iotaInDim S16 32 0)))) (broadcastInDim S16384x16 ![0, 1] bcast_S16384x1_S16384x16_0_1 (extractStridedSlice S16384x1 ![0, 0] (bitcastToFloat (F := Ideal) .f32 (extractStridedSlice S16384x2 ![0, 256] WB slices_S16384x384_S16384x2_0_256)) slices_S16384x2_S16384x1_0_0)) (broadcastInDim S16384x16 ![] bcast_S_S16384x16 (id (constant (F := Ideal) S_ .f32 0x00000000#32))))) (select (cmpi .eq (broadcastInDim S16384x16 ![0, 1] bcast_S16384x1_S16384x16_0_1 (extractStridedSlice S16384x1 ![0, 1] C slices_S16384x2_S16384x1_0_1)) (broadcastInDim S16384x16 ![0, 1] bcast_S1x16_S16384x16_0_1 (broadcastInDim S1x16 ![1] bcast_S16_S1x16_1 (iotaInDim S16 32 0)))) (broadcastInDim S16384x16 ![0, 1] bcast_S16384x1_S16384x16_0_1 (extractStridedSlice S16384x1 ![0, 1] (bitcastToFloat (F := Ideal) .f32 (extractStridedSlice S16384x2 ![0, 256] WB slices_S16384x384_S16384x2_0_256)) slices_S16384x2_S16384x1_0_1)) (broadcastInDim S16384x16 ![] bcast_S_S16384x16 (id (constant (F := Ideal) S_ .f32 0x00000000#32))))

/-- Every expert at every token, weighed and summed. -/
def dense (X : FVec Ideal S16384x1024 .f32) (G : FVec Ideal S16384x16 .f32) (a6 a7 : FVec Ideal S16x1024x256 .f32) (a8 : FVec Ideal S16x256x1024 .f32) :
    FVec Ideal S16384x1024 .f32 :=
  Host.dotGeneral dot_S16384x16x256_S16x256x1024_S16384x1024_12_01_0_2_n_n none (mulf (mulf (mulf (Host.dotGeneral dot_S16384x1024_S16x1024x256_S16384x16x256_1_1_0_02_n_n none X a6) (Host.divf (broadcastInDim S16384x16x256 ![] bcast_S_S16384x16x256 (constant (F := Ideal) S_ .f32 0x3F800000#32)) (addf (broadcastInDim S16384x16x256 ![] bcast_S_S16384x16x256 (constant (F := Ideal) S_ .f32 0x3F800000#32)) (Host.exp (Host.negf (Host.dotGeneral dot_S16384x1024_S16x1024x256_S16384x16x256_1_1_0_02_n_n none X a6)))))) (Host.dotGeneral dot_S16384x1024_S16x1024x256_S16384x16x256_1_1_0_02_n_n none X a7)) (broadcastInDim S16384x16x256 ![0, 1, 2] bcast_S16384x16x1_S16384x16x256_0_1_2 (broadcastInDim S16384x16x1 ![0, 1] bcast_S16384x16_S16384x16x1_0_1 G))) a8

/-! ## The terms at an index -/

theorem feats_apply (WA : IVec S16384x256 32) (WB : IVec S16384x384 32) (t : Fin 16384) (k : Fin 1024) :
    feats WA WB (ix2 t k) = feat (fun j => WA (ix2 t j)) (fun j => WB (ix2 t ⟨j.val, by omega⟩)) k := by
  pointwise [feats]
  unfold feat
  by_cases h0 : k.val < 256
  · rw [dif_pos (by omega), dif_pos h0, dif_pos h0]
    rfl
  · by_cases h1 : k.val - 256 < 256
    · rw [dif_pos (by omega), dif_neg h0, dif_neg h0, dif_pos h1]
      rfl
    · rw [dif_neg (by omega), dif_neg h0, dif_neg h1]
      by_cases h2 : k.val - 512 < 256
      · rw [dif_pos h2, dif_pos (by omega)]
        simp only [Nat.sub_sub]
        rfl
      · rw [dif_neg h2, dif_neg (by omega)]
        simp only [Nat.sub_sub]
        rfl

theorem gates_apply (C : IVec S16384x2 32) (WB : IVec S16384x384 32) (t : Fin 16384) (e ea eb : Fin 16)
    (ha : C (ix2 t 0) = BitVec.ofNat 32 ea.val) (hb : C (ix2 t 1) = BitVec.ofNat 32 eb.val) :
    gates C WB (ix2 t e)
      = (if ea = e then Ideal.ofBits .f32 (WB (ix2 t 256)) else 0) + (if eb = e then Ideal.ofBits .f32 (WB (ix2 t 257)) else 0) := by
  have same : ∀ (a : Fin 16) (g : EReal), Scalar.select (IntOp.cmpi .eq (BitVec.ofNat 32 a.val) (BitVec.ofNat 32 e.val)) g (id (constant (F := Ideal) S_ .f32 0x00000000#32) ix0)
      = if a = e then g else 0 := by
    intro a g
    have hz : id (constant (F := Ideal) S_ .f32 0x00000000#32) ix0 = (0 : EReal) := Ideal.ofBits_zero_f32
    rw [hz]
    by_cases h : a = e
    · subst h
      rw [if_pos rfl]
      simp [Scalar.select, IntOp.cmpi]
    · have hne : BitVec.ofNat 32 a.val ≠ BitVec.ofNat 32 e.val := fun hh => h (Fin.ext (by
        have h2 := congrArg BitVec.toNat hh
        rw [BitVec.toNat_ofNat, BitVec.toNat_ofNat, Nat.mod_eq_of_lt (by omega), Nat.mod_eq_of_lt (by omega)] at h2
        exact h2))
      rw [if_neg h]
      show (if BitVec.ofBool (BitVec.ofNat 32 a.val == BitVec.ofNat 32 e.val) = 1#1 then g else 0) = 0
      rw [beq_eq_false_iff_ne.mpr hne]
      rfl
  pointwise [gates]
  rw [ha, hb]
  exact congrArg₂ (· + ·) (same ea _) (same eb _)

theorem dense_apply (X : FVec Ideal S16384x1024 .f32) (G : FVec Ideal S16384x16 .f32) (a6 a7 : FVec Ideal S16x1024x256 .f32) (a8 : FVec Ideal S16x256x1024 .f32)
    (t : Fin 16384) (c : Fin 1024) :
    dense X G a6 a7 a8 (ix2 t c)
      = ∑ e, expert (fun k => X (ix2 t k)) (fun f k => a6 (ix3 e k f)) (fun f k => a7 (ix3 e k f)) (G (ix2 t e)) (fun f => a8 (ix3 e f c)) := by
  pointwise [dense]
  rfl

/-- An expert whose gate is zero adds nothing. -/
theorem expert_zero (x : Fin 1024 → EReal) (wg wu : Fin 256 → Fin 1024 → EReal) (wd : Fin 256 → EReal) : expert x wg wu 0 wd = 0 :=
  Finset.sum_eq_zero fun f _ => by rw [mul_zero, zero_mul]

theorem classIdx_apply (a1 : IVec S16384 32) (t : Fin 16384) (c : Fin 24) (hc : a1 (ix1 t) = BitVec.ofNat 32 c.val) :
    classIdx a1 (ix2 t 0) = BitVec.ofNat 32 c.val := by
  pointwise [classIdx]
  rw [hc]
  exact Routing.wrap_of_lt _ _ (by rw [BitVec.toNat_ofNat, Nat.mod_eq_of_lt (by omega)]; omega)

theorem pairTab_apply (c : Fin 24) (k : Fin 2) : pairTab (ix2 c k) = lit0 ⟨c.val * 2 + k.val, by omega⟩ :=
  congrArg lit0 (Fin.ext (Shape.rowMajor_val_two (d := ![24, 2]) (ix2 c k)))

theorem pairs_first : ∀ c : Fin 24, lit0 ⟨c.val * 2 + 0, by omega⟩ = BitVec.ofNat 32 (firstOf c.val) := by decide
theorem pairs_second : ∀ c : Fin 24, lit0 ⟨c.val * 2 + 1, by omega⟩ = BitVec.ofNat 32 (secondOf c.val) := by decide

theorem chosen_apply (a1 : IVec S16384 32) (t : Fin 16384) (c : Fin 24) (hc : a1 (ix1 t) = BitVec.ofNat 32 c.val) (k : Fin 2) :
    chosen a1 (ix2 t k) = pairTab (ix2 c k) :=
  Routing.gather_row gather_S24x2_S16384x1_S16384x2_1_0_n_n_0_1_12 rfl rfl rfl rfl rfl pairTab _ t k c (classIdx_apply a1 t c hc) (by decide)

/-! ## A token's two experts -/

/-- The reference's arrays, together. -/
def denseOf (a1 : IVec S16384 32) (a4 : IVec S16384x256 32) (a5 : IVec S16384x384 32) (a6 a7 : FVec Ideal S16x1024x256 .f32)
    (a8 : FVec Ideal S16x256x1024 .f32) : FVec Ideal S16384x1024 .f32 :=
  dense (feats a4 a5) (gates (chosen a1) a5) a6 a7 a8

theorem denseOf_apply (a1 : IVec S16384 32) (a4 : IVec S16384x256 32) (a5 : IVec S16384x384 32) (a6 a7 : FVec Ideal S16x1024x256 .f32)
    (a8 : FVec Ideal S16x256x1024 .f32) (t : Fin 16384) (q : Fin 24) (hq : a1 (ix1 t) = BitVec.ofNat 32 q.val) (ea eb : Fin 16)
    (ha : firstOf q.val = ea.val) (hb : secondOf q.val = eb.val) (hne : ea ≠ eb) (c : Fin 1024) :
    denseOf a1 a4 a5 a6 a7 a8 (ix2 t c) = rowOut (fun k => a4 (ix2 t k)) (fun k => a5 (ix2 t k)) a6 a7 a8 ea eb c := by
  have ca : chosen a1 (ix2 t 0) = BitVec.ofNat 32 ea.val := by
    rw [chosen_apply a1 t q hq, pairTab_apply, ← ha]; exact pairs_first q
  have cb : chosen a1 (ix2 t 1) = BitVec.ofNat 32 eb.val := by
    rw [chosen_apply a1 t q hq, pairTab_apply, ← hb]; exact pairs_second q
  unfold denseOf
  rw [dense_apply, Fintype.sum_eq_add ea eb hne]
  · simp only [feats_apply, gates_apply _ _ t _ ea eb ca cb, if_neg hne, if_neg hne.symm, if_true, add_zero, zero_add]
    rfl
  · intro e he
    rw [gates_apply _ _ t e ea eb ca cb, if_neg he.1.symm, if_neg he.2.symm, add_zero]
    exact expert_zero _ _ _ _

/-- The first half of the columns. -/
theorem out0_apply (m : (ℓ : Loc nD τ sig) → Buf (Elt Ideal) ℓ) (c : Dev nD) (t : Fin 16384) (j : Fin 512) :
    Value.res_out0 (F := Ideal) m c (ix2 t j)
      = denseOf (m ((c.tc : Thread nD τ).loc main_arg1))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (ix2 t ⟨j.val, by omega⟩) := by
  rw [show Value.res_out0 (F := Ideal) m c = truncf .bf16 (extractStridedSlice S16384x512 ![0, 0]
      (denseOf (m ((c.tc : Thread nD τ).loc main_arg1))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8))) slices_S16384x1024_S16384x512_0_0) bitsLt_bf16_f32 from rfl]
  pointwise []

/-- The second half. -/
theorem out1_apply (m : (ℓ : Loc nD τ sig) → Buf (Elt Ideal) ℓ) (c : Dev nD) (t : Fin 16384) (j : Fin 512) :
    Value.res_out1 (F := Ideal) m c (ix2 t j)
      = denseOf (m ((c.tc : Thread nD τ).loc main_arg1))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (ix2 t ⟨512 + j.val, by omega⟩) := by
  rw [show Value.res_out1 (F := Ideal) m c = truncf .bf16 (extractStridedSlice S16384x512 ![0, 512]
      (denseOf (m ((c.tc : Thread nD τ).loc main_arg1))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8))) slices_S16384x1024_S16384x512_0_512) bitsLt_bf16_f32 from rfl]
  pointwise []

end Cert.Reference2Ideal.Dense

end
-- ==== Proof.PairArr.lean ====
/-
  The expert kernel's two arrays after the region, row by row, and its two results.
-/
module

public import proofs.«01_k».proof.Proof.PairValue
public import proofs.«01_k».proof.Proof.PairRef

@[expose] public section

set_option maxRecDepth 16384

noncomputable section

namespace Cert.Kernel2Ideal.Pair

open Cert.Kernel2Ideal.Gen
open Idealize.ShloMosaic Idealize.ShloMosaic.TcCoe
open Idealize.SL.Sem
open Idealize.ShloMosaic.Pipeline (Dat Cfg Window)

variable (m : (ℓ : Loc nD τ sig) → Buf (Elt Ideal) ℓ)

/-! ## The arrays -/

theorem by_coords (y : S256x512.Idx) : ∃ (r : Fin 256) (j : Fin 512), y = ix2 r j := ⟨y 0, y 1, eq_ix2 y⟩

theorem row_tile (s : Fin 22528) : s.val / 256 < 88 := by omega

/-- The point that writes a tile in use: the tile's own, and the last one for the last tile. -/
theorem flush_point (hO : Ok m) (s : Fin 22528) (hs : s.val / 256 < nUsed m) :
    ∃ t : Fin (cfgM m hO).N, (t.val + 1 = 88 ∨ t.val + 1 < nUsed m) ∧ min t.val (nUsed m - 1) = s.val / 256 := by
  have h88 := row_tile s
  by_cases h : s.val / 256 + 1 < nUsed m
  · exact ⟨⟨s.val / 256, h88⟩, .inr h, min_live hs⟩
  · have e : nUsed m - 1 = s.val / 256 := by omega
    refine ⟨⟨87, by show 87 < 88; decide⟩, .inl rfl, ?_⟩
    show min 87 (nUsed m - 1) = s.val / 256
    rw [e]
    omega

/-- What array 6 holds at a row of a tile in use: that tile's half. -/
def wholeL (hO : Ok m) (c : Dev nD) : S22528x512.Idx → EReal := fun i =>
  outL m hO c ⟨(i 0).val / 256, row_tile (i 0)⟩ (ix2 (⟨(i 0).val % 256, Nat.mod_lt _ (by decide)⟩ : Fin 256) (i 1))

theorem emb6 (hO : Ok m) (hu : UsedOk m) (t : Fin (cfgM m hO).N) (r : Fin 256) (j : Fin 512) (s : Fin 22528)
    (hs : s.val = min t.val (nUsed m - 1) * 256 + r.val) :
    (((cfgM m hO).win 6).rect t).emb (ix2 r j) = (ix2 s j : S22528x512.Idx) := by
  funext a
  apply Fin.ext
  refine (Window.rect_emb_val ((cfgM m hO).win 6) t (ix2 r j) a).trans ?_
  rw [index6 m hO hu t]
  fin_cases a
  · exact hs.symm
  · show 0 * 512 + j.val = j.val
    omega

theorem flushed6 (hO : Ok m) (hu : UsedOk m) (c : Dev nD) (t : Fin (cfgM m hO).N) :
    (dats m hO 0 c).flushed 6 t = (((cfgM m hO).win 6).blk t).view.read (Elt Ideal) (wholeL m hO c) := by
  funext y
  obtain ⟨r, j, rfl⟩ := by_coords y
  have h88 : t.val < 88 := t.isLt
  have hn := hu.2
  refine (congrFun (after_6 m hO c t) (ix2 r j)).trans ?_
  have e : wholeL m hO c ((((cfgM m hO).win 6).rect t).emb (ix2 r j)) = outL m hO c (usedPt m hO t) (ix2 r j) := by
    rw [emb6 m hO hu t r j ⟨min t.val (nUsed m - 1) * 256 + r.val, by omega⟩ rfl]
    unfold wholeL
    refine congrArg₂ (fun (p : Fin (cfgM m hO).N) (q : Fin 256) => outL m hO c p (ix2 q j)) (Fin.ext ?_) (Fin.ext ?_)
    · show (min t.val (nUsed m - 1) * 256 + r.val) / 256 = min t.val (nUsed m - 1)
      omega
    · show (min t.val (nUsed m - 1) * 256 + r.val) % 256 = r.val
      omega
  exact e.symm

theorem arr6_apply (hO : Ok m) (hu : UsedOk m) (c : Dev nD) (s : Fin 22528) (hs : s.val / 256 < nUsed m) (j : Fin 512) :
    ((dats m hO 0 c).arrAt 6 (cfgM m hO).N : S22528x512.Idx → EReal) (ix2 s j)
      = outL m hO c ⟨s.val / 256, row_tile s⟩ (ix2 (⟨s.val % 256, Nat.mod_lt _ (by decide)⟩ : Fin 256) j) := by
  obtain ⟨t, hf, hm⟩ := flush_point m hO s hs
  have hfl : ((cfgM m hO).win 6).flush t = true := (flush_6 m hO hu t).trans (decide_eq_true hf)
  have hi : (ix2 s j : S22528x512.Idx) ∈ (((cfgM m hO).win 6).blk t).view.set := by
    have := (((cfgM m hO).win 6).blk t).view.emb_mem_set (ix2 (⟨s.val % 256, Nat.mod_lt _ (by decide)⟩ : Fin 256) j)
    have e : (((cfgM m hO).win 6).blk t).view.emb (ix2 (⟨s.val % 256, Nat.mod_lt _ (by decide)⟩ : Fin 256) j) = (ix2 s j : S22528x512.Idx) :=
      emb6 m hO hu t _ j s (by show s.val = min t.val (nUsed m - 1) * 256 + s.val % 256; omega)
    rw [← e]
    exact this
  exact (dats m hO 0 c).arrAt_apply_of_mem 6 (wholeL m hO c) (fun t' _ => flushed6 m hO hu c t') (cfgM m hO).N t (ix2 s j) t.isLt hfl hi

/-- What array 7 holds at a row of a tile in use: that tile's half. -/
def wholeR (hO : Ok m) (c : Dev nD) : S22528x512.Idx → EReal := fun i =>
  outR m hO c ⟨(i 0).val / 256, row_tile (i 0)⟩ (ix2 (⟨(i 0).val % 256, Nat.mod_lt _ (by decide)⟩ : Fin 256) (i 1))

theorem emb7 (hO : Ok m) (hu : UsedOk m) (t : Fin (cfgM m hO).N) (r : Fin 256) (j : Fin 512) (s : Fin 22528)
    (hs : s.val = min t.val (nUsed m - 1) * 256 + r.val) :
    (((cfgM m hO).win 7).rect t).emb (ix2 r j) = (ix2 s j : S22528x512.Idx) := by
  funext a
  apply Fin.ext
  refine (Window.rect_emb_val ((cfgM m hO).win 7) t (ix2 r j) a).trans ?_
  rw [index7 m hO hu t]
  fin_cases a
  · exact hs.symm
  · show 0 * 512 + j.val = j.val
    omega

theorem flushed7 (hO : Ok m) (hu : UsedOk m) (c : Dev nD) (t : Fin (cfgM m hO).N) :
    (dats m hO 0 c).flushed 7 t = (((cfgM m hO).win 7).blk t).view.read (Elt Ideal) (wholeR m hO c) := by
  funext y
  obtain ⟨r, j, rfl⟩ := by_coords y
  have h88 : t.val < 88 := t.isLt
  have hn := hu.2
  refine (congrFun (after_7 m hO c t) (ix2 r j)).trans ?_
  have e : wholeR m hO c ((((cfgM m hO).win 7).rect t).emb (ix2 r j)) = outR m hO c (usedPt m hO t) (ix2 r j) := by
    rw [emb7 m hO hu t r j ⟨min t.val (nUsed m - 1) * 256 + r.val, by omega⟩ rfl]
    unfold wholeR
    refine congrArg₂ (fun (p : Fin (cfgM m hO).N) (q : Fin 256) => outR m hO c p (ix2 q j)) (Fin.ext ?_) (Fin.ext ?_)
    · show (min t.val (nUsed m - 1) * 256 + r.val) / 256 = min t.val (nUsed m - 1)
      omega
    · show (min t.val (nUsed m - 1) * 256 + r.val) % 256 = r.val
      omega
  exact e.symm

theorem arr7_apply (hO : Ok m) (hu : UsedOk m) (c : Dev nD) (s : Fin 22528) (hs : s.val / 256 < nUsed m) (j : Fin 512) :
    ((dats m hO 0 c).arrAt 7 (cfgM m hO).N : S22528x512.Idx → EReal) (ix2 s j)
      = outR m hO c ⟨s.val / 256, row_tile s⟩ (ix2 (⟨s.val % 256, Nat.mod_lt _ (by decide)⟩ : Fin 256) j) := by
  obtain ⟨t, hf, hm⟩ := flush_point m hO s hs
  have hfl : ((cfgM m hO).win 7).flush t = true := (flush_7 m hO hu t).trans (decide_eq_true hf)
  have hi : (ix2 s j : S22528x512.Idx) ∈ (((cfgM m hO).win 7).blk t).view.set := by
    have := (((cfgM m hO).win 7).blk t).view.emb_mem_set (ix2 (⟨s.val % 256, Nat.mod_lt _ (by decide)⟩ : Fin 256) j)
    have e : (((cfgM m hO).win 7).blk t).view.emb (ix2 (⟨s.val % 256, Nat.mod_lt _ (by decide)⟩ : Fin 256) j) = (ix2 s j : S22528x512.Idx) :=
      emb7 m hO hu t _ j s (by show s.val = min t.val (nUsed m - 1) * 256 + s.val % 256; omega)
    rw [← e]
    exact this
  exact (dats m hO 0 c).arrAt_apply_of_mem 7 (wholeR m hO c) (fun t' _ => flushed7 m hO hu c t') (cfgM m hO).N t (ix2 s j) t.isLt hfl hi

end Cert.Kernel2Ideal.Pair

end
-- ==== Proof.PairEnd.lean ====
/-
  The expert kernel's results are the dense reference's.
-/
module

public import proofs.«01_k».proof.Proof.PairArr

@[expose] public section

set_option maxRecDepth 16384

noncomputable section

namespace Cert.Kernel2Ideal.Pair

open Cert.Kernel2Ideal.Gen
open Idealize.ShloMosaic Idealize.ShloMosaic.TcCoe
open Idealize.SL.Sem
open Idealize.ShloMosaic.Pipeline (Dat Cfg Window)

/-! ## A token's row and experts -/

theorem toNat_small (e : Fin 16) : (BitVec.ofNat 32 e.val).toNat = e.val := by
  rw [BitVec.toNat_ofNat, Nat.mod_eq_of_lt (by omega)]

/-- A token's slot, its class, and the class's two experts, which the slot's tile has. -/
theorem plan_token (a0 : FVec Ideal S32x128 .f32) (a1 a2 : IVec S16384 32) (a3 : IVec S22528 32) (h : Plan (cntN a0) a1 a2 a3) (t : Fin 16384) :
    ∃ (s : Fin 22528) (q : Fin 24) (ea eb : Fin 16), a2 (ix1 t) = BitVec.ofNat 32 s.val ∧ a1 (ix1 t) = BitVec.ofNat 32 q.val
      ∧ a3 (ix1 s) = BitVec.ofNat 32 t.val ∧ s.val / 256 < (usedOf (endsAt a0) one0).toNat
      ∧ expertOf firstTab (classesAt a0) (ix1 ⟨s.val / 256, by omega⟩) = BitVec.ofNat 32 ea.val
      ∧ expertOf secondTab (classesAt a0) (ix1 ⟨s.val / 256, by omega⟩) = BitVec.ofNat 32 eb.val
      ∧ firstOf q.val = ea.val ∧ secondOf q.val = eb.val ∧ ea ≠ eb := by
  simp only [ix1_same]
  have hp := pos_lt a0 h t
  have hf := h.fits
  have hc := h.isClass t
  have hs : a2 (ValueIdx.ix1 t) = BitVec.ofNat 32 (⟨(a2 (ValueIdx.ix1 t)).toNat, by omega⟩ : Fin 22528).val := by simp
  refine ⟨⟨(a2 (ValueIdx.ix1 t)).toNat, by omega⟩, ⟨(a1 (ValueIdx.ix1 t)).toNat, hc⟩, ⟨_, firstOf_lt _ hc⟩, ⟨_, secondOf_lt _ hc⟩, hs, by simp, h.isTok t _ hs, ?_, ?_, ?_, rfl, rfl, ?_⟩
  · have := (tables_of a0 h).pos (ValueIdx.ix1 t)
    show (a2 (ValueIdx.ix1 t)).toNat / 256 < _
    omega
  · rw [first_apply a0 h]
    show BitVec.ofNat 32 (firstOf (classAt (cntN a0) ((a2 (ValueIdx.ix1 t)).toNat / 256))) = _
    rw [pos_class a0 h]
  · rw [second_apply a0 h]
    show BitVec.ofNat 32 (secondOf (classAt (cntN a0) ((a2 (ValueIdx.ix1 t)).toNat / 256))) = _
    rw [pos_class a0 h]
  · intro e
    exact firstOf_ne _ hc (congrArg Fin.val e)

theorem rowIdx_apply (a3 : IVec S16384 32) (t : Fin 16384) (s : Fin 22528) (hs : a3 (ix1 t) = BitVec.ofNat 32 s.val) :
    rowIdx a3 (ix2 t 0) = BitVec.ofNat 32 s.val := by
  pointwise [rowIdx]
  rw [hs]
  exact Routing.wrap_of_lt _ _ (by rw [BitVec.toNat_ofNat, Nat.mod_eq_of_lt (by omega)]; omega)

theorem rowsOf_apply (x : FVec Ideal S22528x512 .bf16) (a3 : IVec S16384 32) (t : Fin 16384) (s : Fin 22528) (hs : a3 (ix1 t) = BitVec.ofNat 32 s.val) (j : Fin 512) :
    rowsOf (F := Ideal) x a3 (ix2 t j) = x (ix2 s j) :=
  Routing.gather_row gather_S22528x512_S16384x1_S16384x512_1_0_n_n_0_1_1512 rfl rfl rfl rfl rfl x _ t j s (rowIdx_apply a3 t s hs) (by decide)

theorem tokIdx_apply (a3 : IVec S22528 32) (t : Fin 16384) (s : Fin 22528) (ht : a3 (ix1 s) = BitVec.ofNat 32 t.val) :
    tokIdx a3 (ix2 s 0) = BitVec.ofNat 32 t.val := by
  pointwise [tokIdx]
  rw [ht]
  exact Routing.wrap_of_lt _ _ (by rw [BitVec.toNat_ofNat, Nat.mod_eq_of_lt (by omega)]; omega)

theorem slotsA_apply (a3 : IVec S22528 32) (a4 : IVec S16384x256 32) (t : Fin 16384) (s : Fin 22528) (ht : a3 (ix1 s) = BitVec.ofNat 32 t.val) (k : Fin 256) :
    slotsA a3 a4 (ix2 s k) = a4 (ix2 t k) :=
  Routing.gather_row gather_S16384x256_S22528x1_S22528x256_1_0_n_n_0_1_1256 rfl rfl rfl rfl rfl a4 _ s k t (tokIdx_apply a3 t s ht) (by decide)

theorem slotsB_apply (a3 : IVec S22528 32) (a5 : IVec S16384x384 32) (t : Fin 16384) (s : Fin 22528) (ht : a3 (ix1 s) = BitVec.ofNat 32 t.val) (k : Fin 384) :
    slotsB a3 a5 (ix2 s k) = a5 (ix2 t k) :=
  Routing.gather_row gather_S16384x384_S22528x1_S22528x384_1_0_n_n_0_1_1384 rfl rfl rfl rfl rfl a5 _ s k t (tokIdx_apply a3 t s ht) (by decide)

/-! ## The results -/

theorem by_token (y : S16384x512.Idx) : ∃ (t : Fin 16384) (j : Fin 512), y = ix2 t j := ⟨y 0, y 1, eq_ix2 y⟩

variable (m : (ℓ : Loc nD τ sig) → Buf (Elt Ideal) ℓ)

/-- Result 0 of the kernel is the dense layer's. -/
theorem result0 (hO : Ok m) (h : PlanAt m 0) (t : Fin 16384) (j : Fin 512) :
    rowsOf (F := Ideal) ((dats m hO 0 0).arrAt 6 (cfgM m hO).N) (m (((0 : Dev nD) : Thread nD τ).loc main_arg2)) (ix2 t j)
      = Cert.Reference2Ideal.Dense.denseOf (m (((0 : Dev nD) : Thread nD τ).loc main_arg1))
          (m (((0 : Dev nD) : Thread nD τ).loc main_arg4)) (m (((0 : Dev nD) : Thread nD τ).loc main_arg5)) (m (((0 : Dev nD) : Thread nD τ).loc main_arg6))
          (m (((0 : Dev nD) : Thread nD τ).loc main_arg7)) (m (((0 : Dev nD) : Thread nD τ).loc main_arg8)) (ix2 t ⟨j.val, by omega⟩) := by
  have hu := usedOk_of m (tablesAt_of m 0 h)
  obtain ⟨s, q, ea, eb, hs, hq, ht, hlt, ha, hb, fa, fb, hne⟩ := plan_token _ _ _ _ h t
  have hn : s.val / 256 < nUsed m := lt_of_lt_of_eq hlt (congrArg (fun x : IVec S1 32 => (x one0).toNat) (V_v62 m 0).symm)
  have ta : BitVec.toNat (tbl m 0 (tileIx m hO ⟨s.val / 256, row_tile s⟩) : BitVec 32) = ea.val :=
    (congrArg BitVec.toNat ((congrFun (V_v51 m 0) _).trans ha)).trans (toNat_small ea)
  have tb : BitVec.toNat (tbl m 1 (tileIx m hO ⟨s.val / 256, row_tile s⟩) : BitVec 32) = eb.val :=
    (congrArg BitVec.toNat ((congrFun (V_v60 m 0) _).trans hb)).trans (toNat_small eb)
  have er : rowAt m hO ⟨s.val / 256, row_tile s⟩ (⟨s.val % 256, Nat.mod_lt _ (by decide)⟩ : Fin 256) = s :=
    Fin.ext (Nat.div_add_mod s.val 256)
  refine (rowsOf_apply _ _ t s hs j).trans ?_
  refine (arr6_apply m hO hu 0 s hn j).trans ?_
  refine (outL_apply m hO hu 0 ⟨s.val / 256, row_tile s⟩ hn ea eb ta tb _ j).trans ?_
  rw [er]
  refine Eq.trans ?_ (Cert.Reference2Ideal.Dense.denseOf_apply _ _ _ _ _ _ t q hq ea eb fa fb hne _).symm
  exact congrArg₂ (fun (x : Fin 256 → BitVec 32) (y : Fin 384 → BitVec 32) => rowOut x y _ _ _ ea eb _)
    (funext fun k => (congrFun (V_v6 m 0) _).trans (slotsA_apply _ _ t s ht k)) (funext fun k => (congrFun (V_v13 m 0) _).trans (slotsB_apply _ _ t s ht k))

/-- Result 1 of the kernel is the dense layer's. -/
theorem result1 (hO : Ok m) (h : PlanAt m 0) (t : Fin 16384) (j : Fin 512) :
    rowsOf (F := Ideal) ((dats m hO 0 0).arrAt 7 (cfgM m hO).N) (m (((0 : Dev nD) : Thread nD τ).loc main_arg2)) (ix2 t j)
      = Cert.Reference2Ideal.Dense.denseOf (m (((0 : Dev nD) : Thread nD τ).loc main_arg1))
          (m (((0 : Dev nD) : Thread nD τ).loc main_arg4)) (m (((0 : Dev nD) : Thread nD τ).loc main_arg5)) (m (((0 : Dev nD) : Thread nD τ).loc main_arg6))
          (m (((0 : Dev nD) : Thread nD τ).loc main_arg7)) (m (((0 : Dev nD) : Thread nD τ).loc main_arg8)) (ix2 t ⟨512 + j.val, by omega⟩) := by
  have hu := usedOk_of m (tablesAt_of m 0 h)
  obtain ⟨s, q, ea, eb, hs, hq, ht, hlt, ha, hb, fa, fb, hne⟩ := plan_token _ _ _ _ h t
  have hn : s.val / 256 < nUsed m := lt_of_lt_of_eq hlt (congrArg (fun x : IVec S1 32 => (x one0).toNat) (V_v62 m 0).symm)
  have ta : BitVec.toNat (tbl m 0 (tileIx m hO ⟨s.val / 256, row_tile s⟩) : BitVec 32) = ea.val :=
    (congrArg BitVec.toNat ((congrFun (V_v51 m 0) _).trans ha)).trans (toNat_small ea)
  have tb : BitVec.toNat (tbl m 1 (tileIx m hO ⟨s.val / 256, row_tile s⟩) : BitVec 32) = eb.val :=
    (congrArg BitVec.toNat ((congrFun (V_v60 m 0) _).trans hb)).trans (toNat_small eb)
  have er : rowAt m hO ⟨s.val / 256, row_tile s⟩ (⟨s.val % 256, Nat.mod_lt _ (by decide)⟩ : Fin 256) = s :=
    Fin.ext (Nat.div_add_mod s.val 256)
  refine (rowsOf_apply _ _ t s hs j).trans ?_
  refine (arr7_apply m hO hu 0 s hn j).trans ?_
  refine (outR_apply m hO hu 0 ⟨s.val / 256, row_tile s⟩ hn ea eb ta tb _ j).trans ?_
  rw [er]
  refine Eq.trans ?_ (Cert.Reference2Ideal.Dense.denseOf_apply _ _ _ _ _ _ t q hq ea eb fa fb hne _).symm
  exact congrArg₂ (fun (x : Fin 256 → BitVec 32) (y : Fin 384 → BitVec 32) => rowOut x y _ _ _ ea eb _)
    (funext fun k => (congrFun (V_v6 m 0) _).trans (slotsA_apply _ _ t s ht k)) (funext fun k => (congrFun (V_v13 m 0) _).trans (slotsB_apply _ _ t s ht k))

end Cert.Kernel2Ideal.Pair

end
-- ==== Proof.lean ====
module

public import proofs.«01_k».proof.Defs
public import proofs.«01_k».proof.Proof.PairSame
public import proofs.«01_k».proof.Proof.PairSame1
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Pre_in_range
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_routed
public import proofs.«01_k».proof.Proof.Launch
public import proofs.«01_k».proof.Proof.RefValue
public import proofs.«01_k».proof.Proof.PairEnd
public import Idealize.ShloMosaic.Lib.Quiescent
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Reference.Gen.facts
  Cert.Pre_in_range.Gen.facts Cert.Kernel2.Gen.facts Cert.Kernel2Ideal.Gen.facts Cert.Reference2Ideal.Gen.facts Cert.Pre_routed.Gen.facts

/-! ## The programs' runs, over any floats -/

/-- The reference's run, its results read as the functions of Spec: any arguments leave them unchanged and every counter at zero; arguments in range give
    the slots and the slot table. -/
theorem run_ref {F : FTy → Type} [FloatOps F] (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_v17)
            = refPos (m ((c.tc : Thread _ _).loc Cert.ReferenceIdeal.main_arg0)) (m ((c.tc : Thread _ _).loc Cert.ReferenceIdeal.main_arg1))
                (refStarts (m ((c.tc : Thread _ _).loc Cert.ReferenceIdeal.main_arg2)))
        ∧ r.2.mem ((c.tc : Thread Cert.ReferenceIdeal.nD Cert.ReferenceIdeal.τ).loc Cert.ReferenceIdeal.main_v27)
            = refSlot (m ((c.tc : Thread _ _).loc Cert.ReferenceIdeal.main_arg0)) (m ((c.tc : Thread _ _).loc Cert.ReferenceIdeal.main_arg1))
                (refStarts (m ((c.tc : Thread _ _).loc Cert.ReferenceIdeal.main_arg2)))
        ∧ r.2.mem ((c.tc : Thread Cert.ReferenceIdeal.nD Cert.ReferenceIdeal.τ).loc Cert.ReferenceIdeal.main_arg0) = m ((c.tc : Thread _ _).loc Cert.ReferenceIdeal.main_arg0)
        ∧ r.2.mem ((c.tc : Thread Cert.ReferenceIdeal.nD Cert.ReferenceIdeal.τ).loc Cert.ReferenceIdeal.main_arg1) = m ((c.tc : Thread _ _).loc Cert.ReferenceIdeal.main_arg1)
        ∧ r.2.mem ((c.tc : Thread Cert.ReferenceIdeal.nD Cert.ReferenceIdeal.τ).loc Cert.ReferenceIdeal.main_arg2) = m ((c.tc : Thread _ _).loc Cert.ReferenceIdeal.main_arg2))
      ∧ r.2.sem = fun _ => 0 :=
  (θ_run _ _ _).mono (fun _ h => ⟨h, sem_eq_zero_of_no_sems rfl _⟩) (Cert.ReferenceIdeal.Value.run m ρ)

/-- Under the precondition the slot kernel's arguments, with the starts the host lines make, are in range. -/
theorem inRange_mid {F : FTy → Type} [FloatOps F] (m : (ℓ : Loc Cert.KernelIdeal.nD Cert.KernelIdeal.τ Cert.KernelIdeal.sig) → Buf (Elt F) ℓ)
    (h : ∀ d, Cert.Pre_in_range.fn (F := F) (m (cLoc d)) (m (rLoc d)) (m (kLoc d)) = fun _ => 1#1) : AllInRange (mid m) := fun d => by
  show InRange (mid m (cLoc d)) (mid m (rLoc d)) (mid m (sLoc d))
  rw [mid_keep m d (by decide), mid_keep m d (by decide), mid_starts]
  exact inRange_of_pre (F := F) _ _ _ (h d)

/-- The slot kernel's results from its arguments. -/
theorem posOut_mid {F : FTy → Type} [FloatOps F] (m : (ℓ : Loc Cert.KernelIdeal.nD Cert.KernelIdeal.τ Cert.KernelIdeal.sig) → Buf (Elt F) ℓ)
    (d : Dev Cert.KernelIdeal.nD) : posOut (mid m) d = posF (m (cLoc d)) (m (rLoc d)) (startsFrom (F := F) (m (kLoc d))) := by
  show posF (mid m (cLoc d)) (mid m (rLoc d)) (mid m (sLoc d)) = _
  rw [mid_keep m d (by decide), mid_keep m d (by decide), mid_starts]
theorem slotOut_mid {F : FTy → Type} [FloatOps F] (m : (ℓ : Loc Cert.KernelIdeal.nD Cert.KernelIdeal.τ Cert.KernelIdeal.sig) → Buf (Elt F) ℓ)
    (d : Dev Cert.KernelIdeal.nD) : slotOut (mid m) d = slotF (m (cLoc d)) (m (rLoc d)) (startsFrom (F := F) (m (kLoc d))) := by
  show slotF (mid m (cLoc d)) (mid m (rLoc d)) (mid m (sLoc d)) = _
  rw [mid_keep m d (by decide), mid_keep m d (by decide), mid_starts]

/-! ## The claims -/

theorem frame_kernel : Cert.quiescent_Kernel := fun m ρ hP =>
  (θ_run Cert.KernelIdeal.defs _ _).mono (fun _ h => ⟨fun d => (h.1 d).1, h.2⟩)
    (run_main (F := Bits) m ρ (inRange_mid (F := Bits) m hP))

theorem frame_kernelIdeal : Cert.quiescent_KernelIdeal := fun m ρ hP =>
  (θ_run Cert.KernelIdeal.defs _ _).mono (fun _ h => ⟨fun d => (h.1 d).1, h.2⟩)
    (run_main (F := Ideal) m ρ (inRange_mid (F := Ideal) m hP))

theorem frame_referenceIdeal : Cert.quiescent_ReferenceIdeal := fun m ρ _ =>
  (θ_run Cert.ReferenceIdeal.defs _ _).mono (fun _ h => ⟨fun c => (h.1 c).2.2, h.2⟩) (run_ref (F := Ideal) m ρ)

theorem frame_referenceIdeal_pre : Cert.quiescent_ReferenceIdeal_pre_in_range := fun m ρ _ => frame_referenceIdeal m ρ trivial

theorem frame_reference : Cert.quiescent_Reference := fun m ρ _ =>
  (θ_run Cert.ReferenceIdeal.defs _ _).mono (fun _ h => ⟨fun c => (h.1 c).2.2, h.2⟩) (run_ref (F := Bits) m ρ)

theorem algebraic : Cert.algebraic_KernelIdeal_ReferenceIdeal := fun m g m' g' hP hm => by
  refine ⟨fun d => posOut (F := Ideal) (mid (F := Ideal) m) d, fun d => slotOut (F := Ideal) (mid (F := Ideal) m) d, ?_, ?_⟩
  · refine (θ_run Cert.KernelIdeal.defs _ _).mono (fun _ h d => ?_) (run_main (F := Ideal) m g (inRange_mid (F := Ideal) m hP))
    exact ⟨(h.1 d).2.1, (h.1 d).2.2, (h.1 d).1⟩
  · refine (θ_run Cert.ReferenceIdeal.defs _ _).mono (fun _ h d => ?_) (run_ref (F := Ideal) m' g')
    obtain ⟨h17, h27, ha⟩ := h.1 d
    obtain ⟨e0, e1, e2⟩ := hm d
    have hR := inRange_of_pre (F := Ideal) _ _ _ (hP d)
    have h17' := h17.trans (congr (congr (congrArg refPos e0) e1) ((congrArg (refStarts (F := Ideal)) e2).trans (refStarts_eq (F := Ideal) _)))
    have h27' := h27.trans (congr (congr (congrArg refSlot e0) e1) ((congrArg (refStarts (F := Ideal)) e2).trans (refStarts_eq (F := Ideal) _)))
    exact ⟨(h17'.trans (refPos_eq _ _ _ hR.1)).trans (posOut_mid (F := Ideal) m d).symm, (h27'.trans (refSlot_eq _ _ _ hR)).trans (slotOut_mid (F := Ideal) m d).symm, ha⟩

set_option maxHeartbeats 4000000 in
theorem bitexact : Cert.bitexact_Kernel_Reference := fun m g m' g' hP hm => by
  refine ⟨fun d => posOut (F := Bits) (mid (F := Bits) m) d, fun d => slotOut (F := Bits) (mid (F := Bits) m) d, ?_, ?_⟩
  · refine (θ_run Cert.KernelIdeal.defs _ _).mono (fun _ h d => ?_) (run_main (F := Bits) m g (inRange_mid (F := Bits) m hP))
    exact ⟨(h.1 d).2.1, (h.1 d).2.2, (h.1 d).1⟩
  · refine (θ_run Cert.ReferenceIdeal.defs _ _).mono (fun _ h d => ?_) (run_ref (F := Bits) m' g')
    obtain ⟨h17, h27, ha⟩ := h.1 d
    obtain ⟨e0, e1, e2⟩ := hm d
    have hR := inRange_of_pre (F := Bits) _ _ _ (hP d)
    have h17' := h17.trans (congr (congr (congrArg refPos e0) e1) ((congrArg (refStarts (F := Bits)) e2).trans (refStarts_eq (F := Bits) _)))
    have h27' := h27.trans (congr (congr (congrArg refSlot e0) e1) ((congrArg (refStarts (F := Bits)) e2).trans (refStarts_eq (F := Bits) _)))
    exact ⟨(h17'.trans (refPos_eq _ _ _ hR.1)).trans (posOut_mid (F := Bits) m d).symm, (h27'.trans (refSlot_eq _ _ _ hR)).trans (slotOut_mid (F := Bits) m d).symm, ha⟩

/-! ## The experts' layer -/

open Cert.Kernel2Ideal.Pair (PlanAt plan_of_pre tablesAt_of ok_of usedOk_of args_kept tail_v71 tail_v78 result0 result1)

/-- On routed arguments the expert layer leaves its arguments as they were and every counter at zero, over any floats. -/
theorem run_experts {F : FTy → Type} [FloatOps F] (m : (ℓ : Loc Cert.Kernel2Ideal.nD Cert.Kernel2Ideal.τ Cert.Kernel2Ideal.sig) → Buf (Elt F) ℓ)
    (ρ : Dev Cert.Kernel2Ideal.nD → PrngReg) (hR : PlanAt m 0) :
    θ_run (Cert.Kernel2Ideal.defs (F := F)) (onTc (τ := Cert.Kernel2Ideal.τ) (Cert.Kernel2Ideal.main (F := F))) ⟨m, fun _ => 0, ρ⟩ fun r =>
      (∀ c : Dev Cert.Kernel2Ideal.nD, r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
       ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
       ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
       ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
       ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
       ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
       ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
       ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
       ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
       ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0 :=
  (θ_run Cert.Kernel2Ideal.defs _ _).mono (fun r h => ⟨fun c => args_kept m (ok_of m (tablesAt_of m 0 hR)) r h.1 c, h.2⟩)
    (Cert.Kernel2Ideal.Pair.run m ρ (ok_of m (tablesAt_of m 0 hR)) (usedOk_of m (tablesAt_of m 0 hR)))

theorem frame_kernel2Ideal : Cert.quiescent_Kernel2Ideal := fun m ρ hP =>
  run_experts (F := Ideal) m ρ (plan_of_pre (F := Ideal) _ _ _ _ _ _ _ _ _ _ (hP 0))

/-- The two printings of the expert kernel's program are one program. -/
theorem main_eq : @Cert.Kernel2.main Bits _ _ = @Cert.Kernel2Ideal.main Bits _ _ := by
  funext d
  unfold Cert.Kernel2.main Cert.Kernel2Ideal.main
  rw [part0_eq, part1_eq]
  rfl

set_option maxHeartbeats 1000000 in
/-- The two printings of the call have one body table at machine words (their one label's body, at each point and staging buffers), -/
theorem bodies_eq : @Cert.Kernel2.defs₀ Bits _ _ = @Cert.Kernel2Ideal.defs₀ Bits _ _ :=
  congrArg Defs.onTc (funext fun l => funext fun x => match l, x with
    | ⟨0, _⟩, (_, _) => rfl
    | ⟨_ + 1, h⟩, _ => absurd h (Nat.not_lt.2 (Nat.le_add_left _ _)))

set_option maxHeartbeats 1000000 in
/-- so one table of labels. -/
theorem defs_eq : @Cert.Kernel2.defs Bits _ _ = @Cert.Kernel2Ideal.defs Bits _ _ :=
  congrArg (Pipeline.defs Cert.Kernel2.pcfgs) bodies_eq

set_option maxHeartbeats 1000000 in
theorem frame_kernel2 : Cert.quiescent_Kernel2 := fun m ρ hP => by
  have h := run_experts (F := Bits) m ρ (plan_of_pre (F := Bits) _ _ _ _ _ _ _ _ _ _ (hP 0))
  rw [← defs_eq] at h
  rw [← main_eq] at h
  exact h

theorem frame_reference2Ideal : Cert.quiescent_Reference2Ideal := fun m ρ _ =>
  (θ_run Cert.Reference2Ideal.defs _ _).mono (fun _ h => ⟨fun c => (h c).2.2, sem_eq_zero_of_no_sems rfl _⟩)
    (Cert.Reference2Ideal.Value.run (F := Ideal) m ρ)

theorem frame_reference2Ideal_pre : Cert.quiescent_Reference2Ideal_pre_routed := fun m ρ _ => frame_reference2Ideal m ρ trivial

/-- The kernel's expert layer is the dense one, on both halves of the columns. -/
theorem algebraic2 : Cert.algebraic_Kernel2Ideal_Reference2Ideal := fun m g m' g' hP hm => by
  have hR : PlanAt (F := Ideal) m 0 := plan_of_pre (F := Ideal) _ _ _ _ _ _ _ _ _ _ (hP 0)
  have hO := ok_of m (tablesAt_of m 0 hR)
  refine ⟨fun c => Cert.Reference2Ideal.Value.res_out0 (F := Ideal) m' c, fun c => Cert.Reference2Ideal.Value.res_out1 (F := Ideal) m' c, ?_, ?_⟩
  · refine (θ_run Cert.Kernel2Ideal.defs _ _).mono (fun r h c => ?_) (Cert.Kernel2Ideal.Pair.run (F := Ideal) m g hO (usedOk_of m (tablesAt_of m 0 hR)))
    obtain rfl : c = 0 := Subsingleton.elim _ _
    obtain ⟨e0, e1, e2, e3, e4, e5, e6, e7, e8, e9⟩ := hm 0
    refine ⟨?_, ?_, args_kept (F := Ideal) m hO r h.1 0⟩
    · refine ((h.1 0).2 Cert.Kernel2Ideal.main_v71 (by decide : Cert.Kernel2Ideal.main_v71 ∈ Pipeline.restRefs Cert.Kernel2Ideal.sig Cert.Kernel2Ideal.spec0)).trans
        ((tail_v71 m hO 0).trans ?_)
      funext i
      obtain ⟨t, j, rfl⟩ : ∃ (t : Fin 16384) (j : Fin 512), i = ix2 t j := Cert.Kernel2Ideal.Pair.by_token i
      refine (result0 m hO hR t j).trans ((Cert.Reference2Ideal.Dense.out0_apply m' 0 t j).trans ?_).symm
      rw [e1, e4, e5, e6, e7, e8]
    · refine ((h.1 0).2 Cert.Kernel2Ideal.main_v78 (by decide : Cert.Kernel2Ideal.main_v78 ∈ Pipeline.restRefs Cert.Kernel2Ideal.sig Cert.Kernel2Ideal.spec0)).trans
        ((tail_v78 m hO 0).trans ?_)
      funext i
      obtain ⟨t, j, rfl⟩ : ∃ (t : Fin 16384) (j : Fin 512), i = ix2 t j := Cert.Kernel2Ideal.Pair.by_token i
      refine (result1 m hO hR t j).trans ((Cert.Reference2Ideal.Dense.out1_apply m' 0 t j).trans ?_).symm
      rw [e1, e4, e5, e6, e7, e8]
  · exact Cert.Reference2Ideal.Value.run (F := Ideal) m' g'

theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts, Cert.Pre_in_range.Gen.facts, Cert.Pre_routed.Gen.facts,
  frame_kernel, frame_kernelIdeal, frame_referenceIdeal, frame_referenceIdeal_pre, frame_reference, frame_kernel2, frame_kernel2Ideal,
  frame_reference2Ideal, frame_reference2Ideal_pre, trivial, algebraic, bitexact, trivial, algebraic2⟩

end Cert.Proof

end
